-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 32768, 2, 128]⟩ ⟨4, ![1, 262144, 2, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 32768, 2, 128]⟩ ⟨4, ![1, 262144, 2, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x128x1024 : Shape := ⟨3, ![1, 128, 1024]⟩
abbrev S1024x1024 : Shape := ⟨2, ![1024, 1024]⟩
abbrev S1x32768x2x128 : Shape := ⟨4, ![1, 32768, 2, 128]⟩
abbrev S_ : Shape := ⟨0, ![]⟩

class Facts : Prop where
  bcast_S_S1x128x1024 : S_.BroadcastsInDim S1x128x1024 (![] : Fin 0 → Fin S1x128x1024.rank)
  reducesTo_S1x128x1024_S_d0_1_2 : S1x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x2x128 : S_.BroadcastsInDim S1x32768x2x128 (![] : Fin 0 → Fin S1x32768x2x128.rank)
  reducesTo_S1x32768x2x128_S_d0_1_2_3 : S1x32768x2x128.ReducesTo [0, 1, 2, 3] S_

variable [Facts]

def fn {F : FTy → Type} [FloatOps F] (main_arg0 : FVec F S1x128x1024 .f32) (main_arg1 : FVec F S1024x1024 .f32) (main_arg2 : FVec F S1x32768x2x128 .f32) (main_arg3 : FVec F S1x32768x2x128 .f32) (main_arg4 : FVec F S1024x1024 .f32) : IVec S_ 1 :=
  let main_v0 : FVec F S1x128x1024 .f32 := Host.absf main_arg0
  let main_cst : FVec F S_ .f32 := constant S_ .f32 0x7F800000#32
  let main_v1 : FVec F S1x128x1024 .f32 := broadcastInDim S1x128x1024 ![] bcast_S_S1x128x1024 main_cst
  let main_v2 : IVec S1x128x1024 1 := cmpf .olt main_v0 main_v1
  let main_c : IVec S_ 1 := constantI S_ 1 1#1
  let main_v3 : IVec S_ 1 := (fun x v => Host.reduce IntOp.andi x v reducesTo_S1x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x2x128 .f32 := Host.absf main_arg2
  let main_cst_2 : FVec F S_ .f32 := constant S_ .f32 0x7F800000#32
  let main_v10 : FVec F S1x32768x2x128 .f32 := broadcastInDim S1x32768x2x128 ![] bcast_S_S1x32768x2x128 main_cst_2
  let main_v11 : IVec S1x32768x2x128 1 := cmpf .olt main_v9 main_v10
  let main_c_3 : IVec S_ 1 := constantI S_ 1 1#1
  let main_v12 : IVec S_ 1 := (fun x v => Host.reduce IntOp.andi x v reducesTo_S1x32768x2x128_S_d0_1_2_3 h_S_) main_v11 main_c_3
  let main_v13 : IVec S_ 1 := andi main_v8 main_v12
  main_v13
-- ==== Pre_finite_ReferenceIdeal.lean ====
abbrev S1x128x1024 : Shape := ⟨3, ![1, 128, 1024]⟩
abbrev S1024x1024 : Shape := ⟨2, ![1024, 1024]⟩
abbrev S1x262144x2x128 : Shape := ⟨4, ![1, 262144, 2, 128]⟩
abbrev S_ : Shape := ⟨0, ![]⟩

class Facts : Prop where
  bcast_S_S1x128x1024 : S_.BroadcastsInDim S1x128x1024 (![] : Fin 0 → Fin S1x128x1024.rank)
  reducesTo_S1x128x1024_S_d0_1_2 : S1x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x262144x2x128 : S_.BroadcastsInDim S1x262144x2x128 (![] : Fin 0 → Fin S1x262144x2x128.rank)
  reducesTo_S1x262144x2x128_S_d0_1_2_3 : S1x262144x2x128.ReducesTo [0, 1, 2, 3] S_

variable [Facts]

def fn {F : FTy → Type} [FloatOps F] (main_arg0 : FVec F S1x128x1024 .f32) (main_arg1 : FVec F S1024x1024 .f32) (main_arg2 : FVec F S1x262144x2x128 .f32) (main_arg3 : FVec F S1x262144x2x128 .f32) (main_arg4 : FVec F S1024x1024 .f32) : IVec S_ 1 :=
  let main_v0 : FVec F S1x128x1024 .f32 := Host.absf main_arg0
  let main_cst : FVec F S_ .f32 := constant S_ .f32 0x7F800000#32
  let main_v1 : FVec F S1x128x1024 .f32 := broadcastInDim S1x128x1024 ![] bcast_S_S1x128x1024 main_cst
  let main_v2 : IVec S1x128x1024 1 := cmpf .olt main_v0 main_v1
  let main_c : IVec S_ 1 := constantI S_ 1 1#1
  let main_v3 : IVec S_ 1 := (fun x v => Host.reduce IntOp.andi x v reducesTo_S1x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x262144x2x128 .f32 := Host.absf main_arg2
  let main_cst_2 : FVec F S_ .f32 := constant S_ .f32 0x7F800000#32
  let main_v10 : FVec F S1x262144x2x128 .f32 := broadcastInDim S1x262144x2x128 ![] bcast_S_S1x262144x2x128 main_cst_2
  let main_v11 : IVec S1x262144x2x128 1 := cmpf .olt main_v9 main_v10
  let main_c_3 : IVec S_ 1 := constantI S_ 1 1#1
  let main_v12 : IVec S_ 1 := (fun x v => Host.reduce IntOp.andi x v reducesTo_S1x262144x2x128_S_d0_1_2_3 h_S_) main_v11 main_c_3
  let main_v13 : IVec S_ 1 := andi main_v8 main_v12
  main_v13
-- ==== Kernel.lean ====
abbrev S1x128x1024 : Shape := ⟨3, ![1, 128, 1024]⟩
abbrev S1024x1024 : Shape := ⟨2, ![1024, 1024]⟩
abbrev S1x32768x2x128 : Shape := ⟨4, ![1, 32768, 2, 128]⟩
abbrev S1024x128 : Shape := ⟨2, ![1024, 128]⟩
abbrev S1088x128 : Shape := ⟨2, ![1088, 128]⟩
abbrev S1024x1 : Shape := ⟨2, ![1024, 1]⟩
abbrev S7x136x128 : Shape := ⟨3, ![7, 136, 128]⟩
abbrev S128x1024 : Shape := ⟨2, ![128, 1024]⟩
abbrev S2x4x4096x128 : Shape := ⟨4, ![2, 4, 4096, 128]⟩
abbrev S2x4 : Shape := ⟨2, ![2, 4]⟩
abbrev S3 : Shape := ⟨1, ![3]⟩
abbrev S7 : Shape := ⟨1, ![7]⟩
abbrev S1 : Shape := ⟨1, ![1]⟩
abbrev S_ : Shape := ⟨0, ![]⟩
abbrev S1x1 : Shape := ⟨2, ![1, 1]⟩
abbrev S1x1x4096x128 : Shape := ⟨4, ![1, 1, 4096, 128]⟩
abbrev S4096x128 : Shape := ⟨2, ![4096, 128]⟩
abbrev S1x4096x1x128 : Shape := ⟨4, ![1, 4096, 1, 128]⟩
abbrev S128x128 : Shape := ⟨2, ![128, 128]⟩
abbrev S512x128 : Shape := ⟨2, ![512, 128]⟩
abbrev S512x4096 : Shape := ⟨2, ![512, 4096]⟩
abbrev S512x1 : Shape := ⟨2, ![512, 1]⟩
abbrev S512 : Shape := ⟨1, ![512]⟩
abbrev S128x1 : Shape := ⟨2, ![128, 1]⟩
abbrev S128 : Shape := ⟨1, ![128]⟩
abbrev S1x128 : Shape := ⟨2, ![1, 128]⟩
abbrev S1x136x128 : Shape := ⟨3, ![1, 136, 128]⟩
abbrev S136x128 : Shape := ⟨2, ![136, 128]⟩

abbrev nBuf : Space → Nat
  | .hbm => 6
  | .vmem => 11
  | .smem => 0
  | _ => 0

abbrev bufTy : (tb : Table) → Fin (tcTables nBuf tb) → BufTy
  | .hbm, ⟨0, _⟩ => ⟨S1x128x1024, .f32⟩
  | .hbm, ⟨1, _⟩ => ⟨S1024x1024, .f32⟩
  | .hbm, ⟨2, _⟩ => ⟨S1x32768x2x128, .f32⟩
  | .hbm, ⟨3, _⟩ => ⟨S1x32768x2x128, .f32⟩
  | .hbm, ⟨4, _⟩ => ⟨S1024x1024, .f32⟩
  | .hbm, ⟨5, _⟩ => ⟨S1x128x1024, .f32⟩
  | .local _ .vmem, ⟨0, _⟩ => ⟨S1x128x1024, .f32⟩
  | .local _ .vmem, ⟨1, _⟩ => ⟨S1024x128, .f32⟩
  | .local _ .vmem, ⟨2, _⟩ => ⟨S1088x128, .f32⟩
  | .local _ .vmem, ⟨3, _⟩ => ⟨S1024x1, .f32⟩
  | .local _ .vmem, ⟨4, _⟩ => ⟨S7x136x128, .f32⟩
  | .local _ .vmem, ⟨5, _⟩ => ⟨S7x136x128, .f32⟩
  | .local _ .vmem, ⟨6, _⟩ => ⟨S128x1024, .f32⟩
  | .local _ .vmem, ⟨7, _⟩ => ⟨S2x4x4096x128, .f32⟩
  | .local _ .vmem, ⟨8, _⟩ => ⟨S128x1024, .f32⟩
  | .local _ .vmem, ⟨9, _⟩ => ⟨S1024x1024, .f32⟩
  | .local _ .vmem, ⟨10, _⟩ => ⟨S1024x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_3 : BitVec 32 := 0#32
  let v3 : BitVec 1 := Scalar.cmpi .sgt arg0 c0_i32_3
  let c7_i32 : BitVec 32 := 7#32
  let v4 : BitVec 1 := Scalar.cmpi .slt arg0 c7_i32
  let v5 : BitVec 1 := Scalar.andi v3 v4
  let v6 : BitVec 32 := Scalar.extui v5
  let c0_i32_4 : BitVec 32 := 0#32
  let v7 : BitVec 1 := Scalar.cmpi .ne v6 c0_i32_4
  v7

def k0_off1 (i : grid0.Coords) : Fin 2 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c0_i32_91 : BitVec 32 := 0#32
  ![v112.toNat, 0]
def k0_off2 (i : grid0.Coords) : Fin 4 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c0_i32_90 : BitVec 32 := 0#32
  let c0_i32_92 : BitVec 32 := 0#32
  let c0_i32_93 : BitVec 32 := 0#32
  ![v112.toNat, 0, 0, 0]
def k0_off3 (i : grid0.Coords) : Fin 4 → Nat :=
  let c0_i32_88 : BitVec 32 := 0#32
  let arg0 : BitVec 32 := BitVec.ofNat 32 (i 0).val
  let c1_i32_76 : BitVec 32 := 1#32
  let v101 : BitVec 32 := Scalar.addi arg0 c1_i32_76
  let c4096_i32_84 : BitVec 32 := 4096#32
  let v113 : BitVec 32 := Scalar.muli v101 c4096_i32_84
  let c0_i32_89 : BitVec 32 := 0#32
  let c0_i32_94 : BitVec 32 := 0#32
  ![0, v113.toNat, 0, 0]
def k0_off4 (i : grid0.Coords) : Fin 2 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c1_i32_98 : BitVec 32 := 1#32
  ![v112.toNat, 1]
def k0_off5 (i : grid0.Coords) : Fin 4 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c1_i32_97 : BitVec 32 := 1#32
  let c0_i32_99 : BitVec 32 := 0#32
  let c0_i32_100 : BitVec 32 := 0#32
  ![v112.toNat, 1, 0, 0]
def k0_off6 (i : grid0.Coords) : Fin 4 → Nat :=
  let c0_i32_95 : BitVec 32 := 0#32
  let arg0 : BitVec 32 := BitVec.ofNat 32 (i 0).val
  let c1_i32_76 : BitVec 32 := 1#32
  let v101 : BitVec 32 := Scalar.addi arg0 c1_i32_76
  let c4096_i32_85 : BitVec 32 := 4096#32
  let v114 : BitVec 32 := Scalar.muli v101 c4096_i32_85
  let c1_i32_96 : BitVec 32 := 1#32
  let c0_i32_101 : BitVec 32 := 0#32
  ![0, v114.toNat, 1, 0]
def k0_off7 (i : grid0.Coords) : Fin 2 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c2_i32_105 : BitVec 32 := 2#32
  ![v112.toNat, 2]
def k0_off8 (i : grid0.Coords) : Fin 4 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c2_i32_104 : BitVec 32 := 2#32
  let c0_i32_106 : BitVec 32 := 0#32
  let c0_i32_107 : BitVec 32 := 0#32
  ![v112.toNat, 2, 0, 0]
def k0_off9 (i : grid0.Coords) : Fin 2 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c3_i32_112 : BitVec 32 := 3#32
  ![v112.toNat, 3]
def k0_off10 (i : grid0.Coords) : Fin 4 → Nat :=
  let arg0 : BitVec 32 := BitVec.ofNat 32 (i 0).val
  let c1_i32_77 : BitVec 32 := 1#32
  let v102 : BitVec 32 := Scalar.addi arg0 c1_i32_77
  let c2_i32_78 : BitVec 32 := 2#32
  let c0_i32_79 : BitVec 32 := 0#32
  let v103 : BitVec 1 := Scalar.cmpi .eq c2_i32_78 c0_i32_79
  let c1_i32_80 : BitVec 32 := 1#32
  let v104 : BitVec 32 := Scalar.select v103 c1_i32_80 c2_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c3_i32_111 : BitVec 32 := 3#32
  let c0_i32_113 : BitVec 32 := 0#32
  let c0_i32_114 : BitVec 32 := 0#32
  ![v112.toNat, 3, 0, 0]
def k0_off11 (i : grid0.Coords) : Fin 2 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c0_i32_17 : BitVec 32 := 0#32
  ![v17.toNat, 0]
def k0_off12 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c0_i32_16 : BitVec 32 := 0#32
  let c0_i32_18 : BitVec 32 := 0#32
  let c0_i32_19 : BitVec 32 := 0#32
  ![v17.toNat, 0, 0, 0]
def k0_off13 (i : grid0.Coords) : Fin 4 → Nat :=
  let c0_i32_14 : BitVec 32 := 0#32
  let arg0 : BitVec 32 := BitVec.ofNat 32 (i 0).val
  let c4096_i32 : BitVec 32 := 4096#32
  let v18 : BitVec 32 := Scalar.muli arg0 c4096_i32
  let c0_i32_15 : BitVec 32 := 0#32
  let c0_i32_20 : BitVec 32 := 0#32
  ![0, v18.toNat, 0, 0]
def k0_off14 (i : grid0.Coords) : Fin 2 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c1_i32_24 : BitVec 32 := 1#32
  ![v17.toNat, 1]
def k0_off15 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c1_i32_23 : BitVec 32 := 1#32
  let c0_i32_25 : BitVec 32 := 0#32
  let c0_i32_26 : BitVec 32 := 0#32
  ![v17.toNat, 1, 0, 0]
def k0_off16 (i : grid0.Coords) : Fin 4 → Nat :=
  let c0_i32_21 : BitVec 32 := 0#32
  let arg0 : BitVec 32 := BitVec.ofNat 32 (i 0).val
  let c4096_i32_11 : BitVec 32 := 4096#32
  let v19 : BitVec 32 := Scalar.muli arg0 c4096_i32_11
  let c1_i32_22 : BitVec 32 := 1#32
  let c0_i32_27 : BitVec 32 := 0#32
  ![0, v19.toNat, 1, 0]
def k0_off17 (i : grid0.Coords) : Fin 2 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c2_i32_31 : BitVec 32 := 2#32
  ![v17.toNat, 2]
def k0_off18 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c2_i32_30 : BitVec 32 := 2#32
  let c0_i32_32 : BitVec 32 := 0#32
  let c0_i32_33 : BitVec 32 := 0#32
  ![v17.toNat, 2, 0, 0]
def k0_off19 (i : grid0.Coords) : Fin 2 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c3_i32_37 : BitVec 32 := 3#32
  ![v17.toNat, 3]
def k0_off20 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c3_i32 : BitVec 32 := 3#32
  let c0_i32_38 : BitVec 32 := 0#32
  let c0_i32_39 : BitVec 32 := 0#32
  ![v17.toNat, 3, 0, 0]
def k0_off21 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let v48 : Index := Scalar.indexCast v17
  let c0_42 : Index := 0#32
  let c0_43 : Index := 0#32
  let c0_44 : Index := 0#32
  ![v48.toNat, 0, 0, 0]
def k0_off22 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let v52 : Index := Scalar.indexCast v17
  let c2 : Index := 2#32
  let c0_45 : Index := 0#32
  let c0_46 : Index := 0#32
  ![v52.toNat, 2, 0, 0]
def k0_off23 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let v74 : Index := Scalar.indexCast v17
  let c1 : Index := 1#32
  let c0_58 : Index := 0#32
  let c0_59 : Index := 0#32
  ![v74.toNat, 1, 0, 0]
def k0_off24 (i : grid0.Coords) : Fin 4 → Nat :=
  let arg0 : BitVec 32 := BitVec.ofNat 32 (i 0).val
  let c2_i32_5 : BitVec 32 := 2#32
  let c0_i32_6 : BitVec 32 := 0#32
  let v8 : BitVec 1 := Scalar.cmpi .eq c2_i32_5 c0_i32_6
  let c1_i32_7 : BitVec 32 := 1#32
  let v9 : BitVec 32 := Scalar.select v8 c1_i32_7 c2_i32_5
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let v78 : Index := Scalar.indexCast v17
  let c3 : Index := 3#32
  let c0_60 : Index := 0#32
  let c0_61 : Index := 0#32
  ![v78.toNat, 3, 0, 0]
def k0_cond3 (i : grid0.Coords) : BitVec 1 :=
  let arg0 : BitVec 32 := BitVec.ofNat 32 (i 0).val
  let c7_i32_73 : BitVec 32 := 7#32
  let v98 : BitVec 1 := Scalar.cmpi .eq arg0 c7_i32_73
  let v99 : BitVec 32 := Scalar.extui v98
  let c0_i32_75 : BitVec 32 := 0#32
  let v100 : BitVec 1 := Scalar.cmpi .ne v99 c0_i32_75
  v100

def k0_dev1 (d101 : Dev nD) : Nat :=
  let c0_i32_112 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c1_i32_103 : BitVec 32 := 1#32
  let v209 : BitVec 32 := Scalar.addi v103 c1_i32_103
  let c8_i32_104 : BitVec 32 := 8#32
  let c0_i32_105 : BitVec 32 := 0#32
  let v210 : BitVec 1 := Scalar.cmpi .eq c8_i32_104 c0_i32_105
  let c1_i32_106 : BitVec 32 := 1#32
  let v211 : BitVec 32 := Scalar.select v210 c1_i32_106 c8_i32_104
  let v212 : BitVec 32 := Scalar.remsi v209 v211
  let c0_i32_108 : BitVec 32 := 0#32
  let v214 : BitVec 1 := Scalar.cmpi .slt v212 c0_i32_108
  let c0_i32_109 : BitVec 32 := 0#32
  let v215 : BitVec 1 := Scalar.cmpi .slt v211 c0_i32_109
  let v216 : BitVec 1 := Scalar.xori v214 v215
  let c0_i32_107 : BitVec 32 := 0#32
  let v213 : BitVec 1 := Scalar.cmpi .ne v212 c0_i32_107
  let v217 : BitVec 1 := Scalar.andi v216 v213
  let v218 : BitVec 32 := Scalar.addi v212 v211
  let v219 : BitVec 32 := Scalar.select v217 v218 v212
  let c1_i32_111 : BitVec 32 := 1#32
  let v220 : BitVec 32 := Scalar.muli v219 c1_i32_111
  let v221 : BitVec 32 := Scalar.addi c0_i32_112 v220
  v221.toNat
def k0_dev2 (d101 : Dev nD) : Nat :=
  let c0_i32_122 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c2_i32_113 : BitVec 32 := 2#32
  let v222 : BitVec 32 := Scalar.addi v103 c2_i32_113
  let c8_i32_114 : BitVec 32 := 8#32
  let c0_i32_115 : BitVec 32 := 0#32
  let v223 : BitVec 1 := Scalar.cmpi .eq c8_i32_114 c0_i32_115
  let c1_i32_116 : BitVec 32 := 1#32
  let v224 : BitVec 32 := Scalar.select v223 c1_i32_116 c8_i32_114
  let v225 : BitVec 32 := Scalar.remsi v222 v224
  let c0_i32_118 : BitVec 32 := 0#32
  let v227 : BitVec 1 := Scalar.cmpi .slt v225 c0_i32_118
  let c0_i32_119 : BitVec 32 := 0#32
  let v228 : BitVec 1 := Scalar.cmpi .slt v224 c0_i32_119
  let v229 : BitVec 1 := Scalar.xori v227 v228
  let c0_i32_117 : BitVec 32 := 0#32
  let v226 : BitVec 1 := Scalar.cmpi .ne v225 c0_i32_117
  let v230 : BitVec 1 := Scalar.andi v229 v226
  let v231 : BitVec 32 := Scalar.addi v225 v224
  let v232 : BitVec 32 := Scalar.select v230 v231 v225
  let c1_i32_121 : BitVec 32 := 1#32
  let v233 : BitVec 32 := Scalar.muli v232 c1_i32_121
  let v234 : BitVec 32 := Scalar.addi c0_i32_122 v233
  v234.toNat
def k0_dev3 (d101 : Dev nD) : Nat :=
  let c0_i32_132 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c3_i32_123 : BitVec 32 := 3#32
  let v235 : BitVec 32 := Scalar.addi v103 c3_i32_123
  let c8_i32_124 : BitVec 32 := 8#32
  let c0_i32_125 : BitVec 32 := 0#32
  let v236 : BitVec 1 := Scalar.cmpi .eq c8_i32_124 c0_i32_125
  let c1_i32_126 : BitVec 32 := 1#32
  let v237 : BitVec 32 := Scalar.select v236 c1_i32_126 c8_i32_124
  let v238 : BitVec 32 := Scalar.remsi v235 v237
  let c0_i32_128 : BitVec 32 := 0#32
  let v240 : BitVec 1 := Scalar.cmpi .slt v238 c0_i32_128
  let c0_i32_129 : BitVec 32 := 0#32
  let v241 : BitVec 1 := Scalar.cmpi .slt v237 c0_i32_129
  let v242 : BitVec 1 := Scalar.xori v240 v241
  let c0_i32_127 : BitVec 32 := 0#32
  let v239 : BitVec 1 := Scalar.cmpi .ne v238 c0_i32_127
  let v243 : BitVec 1 := Scalar.andi v242 v239
  let v244 : BitVec 32 := Scalar.addi v238 v237
  let v245 : BitVec 32 := Scalar.select v243 v244 v238
  let c1_i32_131 : BitVec 32 := 1#32
  let v246 : BitVec 32 := Scalar.muli v245 c1_i32_131
  let v247 : BitVec 32 := Scalar.addi c0_i32_132 v246
  v247.toNat
def k0_dev4 (d101 : Dev nD) : Nat :=
  let c0_i32_141 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c4_i32 : BitVec 32 := 4#32
  let v248 : BitVec 32 := Scalar.addi v103 c4_i32
  let c8_i32_133 : BitVec 32 := 8#32
  let c0_i32_134 : BitVec 32 := 0#32
  let v249 : BitVec 1 := Scalar.cmpi .eq c8_i32_133 c0_i32_134
  let c1_i32_135 : BitVec 32 := 1#32
  let v250 : BitVec 32 := Scalar.select v249 c1_i32_135 c8_i32_133
  let v251 : BitVec 32 := Scalar.remsi v248 v250
  let c0_i32_137 : BitVec 32 := 0#32
  let v253 : BitVec 1 := Scalar.cmpi .slt v251 c0_i32_137
  let c0_i32_138 : BitVec 32 := 0#32
  let v254 : BitVec 1 := Scalar.cmpi .slt v250 c0_i32_138
  let v255 : BitVec 1 := Scalar.xori v253 v254
  let c0_i32_136 : BitVec 32 := 0#32
  let v252 : BitVec 1 := Scalar.cmpi .ne v251 c0_i32_136
  let v256 : BitVec 1 := Scalar.andi v255 v252
  let v257 : BitVec 32 := Scalar.addi v251 v250
  let v258 : BitVec 32 := Scalar.select v256 v257 v251
  let c1_i32_140 : BitVec 32 := 1#32
  let v259 : BitVec 32 := Scalar.muli v258 c1_i32_140
  let v260 : BitVec 32 := Scalar.addi c0_i32_141 v259
  v260.toNat
def k0_dev5 (d101 : Dev nD) : Nat :=
  let c0_i32_150 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c5_i32 : BitVec 32 := 5#32
  let v261 : BitVec 32 := Scalar.addi v103 c5_i32
  let c8_i32_142 : BitVec 32 := 8#32
  let c0_i32_143 : BitVec 32 := 0#32
  let v262 : BitVec 1 := Scalar.cmpi .eq c8_i32_142 c0_i32_143
  let c1_i32_144 : BitVec 32 := 1#32
  let v263 : BitVec 32 := Scalar.select v262 c1_i32_144 c8_i32_142
  let v264 : BitVec 32 := Scalar.remsi v261 v263
  let c0_i32_146 : BitVec 32 := 0#32
  let v266 : BitVec 1 := Scalar.cmpi .slt v264 c0_i32_146
  let c0_i32_147 : BitVec 32 := 0#32
  let v267 : BitVec 1 := Scalar.cmpi .slt v263 c0_i32_147
  let v268 : BitVec 1 := Scalar.xori v266 v267
  let c0_i32_145 : BitVec 32 := 0#32
  let v265 : BitVec 1 := Scalar.cmpi .ne v264 c0_i32_145
  let v269 : BitVec 1 := Scalar.andi v268 v265
  let v270 : BitVec 32 := Scalar.addi v264 v263
  let v271 : BitVec 32 := Scalar.select v269 v270 v264
  let c1_i32_149 : BitVec 32 := 1#32
  let v272 : BitVec 32 := Scalar.muli v271 c1_i32_149
  let v273 : BitVec 32 := Scalar.addi c0_i32_150 v272
  v273.toNat
def k0_dev6 (d101 : Dev nD) : Nat :=
  let c0_i32_159 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c6_i32 : BitVec 32 := 6#32
  let v274 : BitVec 32 := Scalar.addi v103 c6_i32
  let c8_i32_151 : BitVec 32 := 8#32
  let c0_i32_152 : BitVec 32 := 0#32
  let v275 : BitVec 1 := Scalar.cmpi .eq c8_i32_151 c0_i32_152
  let c1_i32_153 : BitVec 32 := 1#32
  let v276 : BitVec 32 := Scalar.select v275 c1_i32_153 c8_i32_151
  let v277 : BitVec 32 := Scalar.remsi v274 v276
  let c0_i32_155 : BitVec 32 := 0#32
  let v279 : BitVec 1 := Scalar.cmpi .slt v277 c0_i32_155
  let c0_i32_156 : BitVec 32 := 0#32
  let v280 : BitVec 1 := Scalar.cmpi .slt v276 c0_i32_156
  let v281 : BitVec 1 := Scalar.xori v279 v280
  let c0_i32_154 : BitVec 32 := 0#32
  let v278 : BitVec 1 := Scalar.cmpi .ne v277 c0_i32_154
  let v282 : BitVec 1 := Scalar.andi v281 v278
  let v283 : BitVec 32 := Scalar.addi v277 v276
  let v284 : BitVec 32 := Scalar.select v282 v283 v277
  let c1_i32_158 : BitVec 32 := 1#32
  let v285 : BitVec 32 := Scalar.muli v284 c1_i32_158
  let v286 : BitVec 32 := Scalar.addi c0_i32_159 v285
  v286.toNat
def k0_dev7 (d101 : Dev nD) : Nat :=
  let c0_i32_169 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c7_i32_160 : BitVec 32 := 7#32
  let v287 : BitVec 32 := Scalar.addi v103 c7_i32_160
  let c8_i32_161 : BitVec 32 := 8#32
  let c0_i32_162 : BitVec 32 := 0#32
  let v288 : BitVec 1 := Scalar.cmpi .eq c8_i32_161 c0_i32_162
  let c1_i32_163 : BitVec 32 := 1#32
  let v289 : BitVec 32 := Scalar.select v288 c1_i32_163 c8_i32_161
  let v290 : BitVec 32 := Scalar.remsi v287 v289
  let c0_i32_165 : BitVec 32 := 0#32
  let v292 : BitVec 1 := Scalar.cmpi .slt v290 c0_i32_165
  let c0_i32_166 : BitVec 32 := 0#32
  let v293 : BitVec 1 := Scalar.cmpi .slt v289 c0_i32_166
  let v294 : BitVec 1 := Scalar.xori v292 v293
  let c0_i32_164 : BitVec 32 := 0#32
  let v291 : BitVec 1 := Scalar.cmpi .ne v290 c0_i32_164
  let v295 : BitVec 1 := Scalar.andi v294 v291
  let v296 : BitVec 32 := Scalar.addi v290 v289
  let v297 : BitVec 32 := Scalar.select v295 v296 v290
  let c1_i32_168 : BitVec 32 := 1#32
  let v298 : BitVec 32 := Scalar.muli v297 c1_i32_168
  let v299 : BitVec 32 := Scalar.addi c0_i32_169 v298
  v299.toNat
def k0_off25 (d101 : Dev nD) (c1_i32_171 : BitVec 32) : Fin 2 → Nat :=
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let v300 : BitVec 32 := Scalar.addi v103 c1_i32_171
  let c8_i32_172 : BitVec 32 := 8#32
  let c0_i32_173 : BitVec 32 := 0#32
  let v301 : BitVec 1 := Scalar.cmpi .eq c8_i32_172 c0_i32_173
  let c1_i32_174 : BitVec 32 := 1#32
  let v302 : BitVec 32 := Scalar.select v301 c1_i32_174 c8_i32_172
  let v303 : BitVec 32 := Scalar.remsi v300 v302
  let c0_i32_176 : BitVec 32 := 0#32
  let v305 : BitVec 1 := Scalar.cmpi .slt v303 c0_i32_176
  let c0_i32_177 : BitVec 32 := 0#32
  let v306 : BitVec 1 := Scalar.cmpi .slt v302 c0_i32_177
  let v307 : BitVec 1 := Scalar.xori v305 v306
  let c0_i32_175 : BitVec 32 := 0#32
  let v304 : BitVec 1 := Scalar.cmpi .ne v303 c0_i32_175
  let v308 : BitVec 1 := Scalar.andi v307 v304
  let v309 : BitVec 32 := Scalar.addi v303 v302
  let v310 : BitVec 32 := Scalar.select v308 v309 v303
  let c136_i32 : BitVec 32 := 136#32
  let v311 : BitVec 32 := Scalar.muli v310 c136_i32
  let c0_i32_185 : BitVec 32 := 0#32
  ![v311.toNat, 0]
def k0_dev8 (d101 : Dev nD) : Nat :=
  let c0_i32_182 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c1_i32_171 : BitVec 32 := 1#32
  let v300 : BitVec 32 := Scalar.addi v103 c1_i32_171
  let c8_i32_172 : BitVec 32 := 8#32
  let c0_i32_173 : BitVec 32 := 0#32
  let v301 : BitVec 1 := Scalar.cmpi .eq c8_i32_172 c0_i32_173
  let c1_i32_174 : BitVec 32 := 1#32
  let v302 : BitVec 32 := Scalar.select v301 c1_i32_174 c8_i32_172
  let v303 : BitVec 32 := Scalar.remsi v300 v302
  let c0_i32_176 : BitVec 32 := 0#32
  let v305 : BitVec 1 := Scalar.cmpi .slt v303 c0_i32_176
  let c0_i32_177 : BitVec 32 := 0#32
  let v306 : BitVec 1 := Scalar.cmpi .slt v302 c0_i32_177
  let v307 : BitVec 1 := Scalar.xori v305 v306
  let c0_i32_175 : BitVec 32 := 0#32
  let v304 : BitVec 1 := Scalar.cmpi .ne v303 c0_i32_175
  let v308 : BitVec 1 := Scalar.andi v307 v304
  let v309 : BitVec 32 := Scalar.addi v303 v302
  let v310 : BitVec 32 := Scalar.select v308 v309 v303
  let c1_i32_181 : BitVec 32 := 1#32
  let v312 : BitVec 32 := Scalar.muli v310 c1_i32_181
  let v313 : BitVec 32 := Scalar.addi c0_i32_182 v312
  v313.toNat
def k0_dev9 (d101 : Dev nD) : Nat :=
  let c0_i32_198 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c2_i32_186 : BitVec 32 := 2#32
  let v321 : BitVec 32 := Scalar.addi v103 c2_i32_186
  let c8_i32_187 : BitVec 32 := 8#32
  let c0_i32_188 : BitVec 32 := 0#32
  let v322 : BitVec 1 := Scalar.cmpi .eq c8_i32_187 c0_i32_188
  let c1_i32_189 : BitVec 32 := 1#32
  let v323 : BitVec 32 := Scalar.select v322 c1_i32_189 c8_i32_187
  let v324 : BitVec 32 := Scalar.remsi v321 v323
  let c0_i32_191 : BitVec 32 := 0#32
  let v326 : BitVec 1 := Scalar.cmpi .slt v324 c0_i32_191
  let c0_i32_192 : BitVec 32 := 0#32
  let v327 : BitVec 1 := Scalar.cmpi .slt v323 c0_i32_192
  let v328 : BitVec 1 := Scalar.xori v326 v327
  let c0_i32_190 : BitVec 32 := 0#32
  let v325 : BitVec 1 := Scalar.cmpi .ne v324 c0_i32_190
  let v329 : BitVec 1 := Scalar.andi v328 v325
  let v330 : BitVec 32 := Scalar.addi v324 v323
  let v331 : BitVec 32 := Scalar.select v329 v330 v324
  let c1_i32_197 : BitVec 32 := 1#32
  let v333 : BitVec 32 := Scalar.muli v331 c1_i32_197
  let v334 : BitVec 32 := Scalar.addi c0_i32_198 v333
  v334.toNat
def k0_dev10 (d101 : Dev nD) : Nat :=
  let c0_i32_214 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c3_i32_202 : BitVec 32 := 3#32
  let v342 : BitVec 32 := Scalar.addi v103 c3_i32_202
  let c8_i32_203 : BitVec 32 := 8#32
  let c0_i32_204 : BitVec 32 := 0#32
  let v343 : BitVec 1 := Scalar.cmpi .eq c8_i32_203 c0_i32_204
  let c1_i32_205 : BitVec 32 := 1#32
  let v344 : BitVec 32 := Scalar.select v343 c1_i32_205 c8_i32_203
  let v345 : BitVec 32 := Scalar.remsi v342 v344
  let c0_i32_207 : BitVec 32 := 0#32
  let v347 : BitVec 1 := Scalar.cmpi .slt v345 c0_i32_207
  let c0_i32_208 : BitVec 32 := 0#32
  let v348 : BitVec 1 := Scalar.cmpi .slt v344 c0_i32_208
  let v349 : BitVec 1 := Scalar.xori v347 v348
  let c0_i32_206 : BitVec 32 := 0#32
  let v346 : BitVec 1 := Scalar.cmpi .ne v345 c0_i32_206
  let v350 : BitVec 1 := Scalar.andi v349 v346
  let v351 : BitVec 32 := Scalar.addi v345 v344
  let v352 : BitVec 32 := Scalar.select v350 v351 v345
  let c1_i32_213 : BitVec 32 := 1#32
  let v354 : BitVec 32 := Scalar.muli v352 c1_i32_213
  let v355 : BitVec 32 := Scalar.addi c0_i32_214 v354
  v355.toNat
def k0_dev11 (d101 : Dev nD) : Nat :=
  let c0_i32_230 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c4_i32_218 : BitVec 32 := 4#32
  let v363 : BitVec 32 := Scalar.addi v103 c4_i32_218
  let c8_i32_219 : BitVec 32 := 8#32
  let c0_i32_220 : BitVec 32 := 0#32
  let v364 : BitVec 1 := Scalar.cmpi .eq c8_i32_219 c0_i32_220
  let c1_i32_221 : BitVec 32 := 1#32
  let v365 : BitVec 32 := Scalar.select v364 c1_i32_221 c8_i32_219
  let v366 : BitVec 32 := Scalar.remsi v363 v365
  let c0_i32_223 : BitVec 32 := 0#32
  let v368 : BitVec 1 := Scalar.cmpi .slt v366 c0_i32_223
  let c0_i32_224 : BitVec 32 := 0#32
  let v369 : BitVec 1 := Scalar.cmpi .slt v365 c0_i32_224
  let v370 : BitVec 1 := Scalar.xori v368 v369
  let c0_i32_222 : BitVec 32 := 0#32
  let v367 : BitVec 1 := Scalar.cmpi .ne v366 c0_i32_222
  let v371 : BitVec 1 := Scalar.andi v370 v367
  let v372 : BitVec 32 := Scalar.addi v366 v365
  let v373 : BitVec 32 := Scalar.select v371 v372 v366
  let c1_i32_229 : BitVec 32 := 1#32
  let v375 : BitVec 32 := Scalar.muli v373 c1_i32_229
  let v376 : BitVec 32 := Scalar.addi c0_i32_230 v375
  v376.toNat
def k0_dev12 (d101 : Dev nD) : Nat :=
  let c0_i32_246 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c5_i32_234 : BitVec 32 := 5#32
  let v384 : BitVec 32 := Scalar.addi v103 c5_i32_234
  let c8_i32_235 : BitVec 32 := 8#32
  let c0_i32_236 : BitVec 32 := 0#32
  let v385 : BitVec 1 := Scalar.cmpi .eq c8_i32_235 c0_i32_236
  let c1_i32_237 : BitVec 32 := 1#32
  let v386 : BitVec 32 := Scalar.select v385 c1_i32_237 c8_i32_235
  let v387 : BitVec 32 := Scalar.remsi v384 v386
  let c0_i32_239 : BitVec 32 := 0#32
  let v389 : BitVec 1 := Scalar.cmpi .slt v387 c0_i32_239
  let c0_i32_240 : BitVec 32 := 0#32
  let v390 : BitVec 1 := Scalar.cmpi .slt v386 c0_i32_240
  let v391 : BitVec 1 := Scalar.xori v389 v390
  let c0_i32_238 : BitVec 32 := 0#32
  let v388 : BitVec 1 := Scalar.cmpi .ne v387 c0_i32_238
  let v392 : BitVec 1 := Scalar.andi v391 v388
  let v393 : BitVec 32 := Scalar.addi v387 v386
  let v394 : BitVec 32 := Scalar.select v392 v393 v387
  let c1_i32_245 : BitVec 32 := 1#32
  let v396 : BitVec 32 := Scalar.muli v394 c1_i32_245
  let v397 : BitVec 32 := Scalar.addi c0_i32_246 v396
  v397.toNat
def k0_dev13 (d101 : Dev nD) : Nat :=
  let c0_i32_262 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c6_i32_250 : BitVec 32 := 6#32
  let v405 : BitVec 32 := Scalar.addi v103 c6_i32_250
  let c8_i32_251 : BitVec 32 := 8#32
  let c0_i32_252 : BitVec 32 := 0#32
  let v406 : BitVec 1 := Scalar.cmpi .eq c8_i32_251 c0_i32_252
  let c1_i32_253 : BitVec 32 := 1#32
  let v407 : BitVec 32 := Scalar.select v406 c1_i32_253 c8_i32_251
  let v408 : BitVec 32 := Scalar.remsi v405 v407
  let c0_i32_255 : BitVec 32 := 0#32
  let v410 : BitVec 1 := Scalar.cmpi .slt v408 c0_i32_255
  let c0_i32_256 : BitVec 32 := 0#32
  let v411 : BitVec 1 := Scalar.cmpi .slt v407 c0_i32_256
  let v412 : BitVec 1 := Scalar.xori v410 v411
  let c0_i32_254 : BitVec 32 := 0#32
  let v409 : BitVec 1 := Scalar.cmpi .ne v408 c0_i32_254
  let v413 : BitVec 1 := Scalar.andi v412 v409
  let v414 : BitVec 32 := Scalar.addi v408 v407
  let v415 : BitVec 32 := Scalar.select v413 v414 v408
  let c1_i32_261 : BitVec 32 := 1#32
  let v417 : BitVec 32 := Scalar.muli v415 c1_i32_261
  let v418 : BitVec 32 := Scalar.addi c0_i32_262 v417
  v418.toNat
def k0_dev14 (d101 : Dev nD) : Nat :=
  let c0_i32_278 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c7_i32_266 : BitVec 32 := 7#32
  let v426 : BitVec 32 := Scalar.addi v103 c7_i32_266
  let c8_i32_267 : BitVec 32 := 8#32
  let c0_i32_268 : BitVec 32 := 0#32
  let v427 : BitVec 1 := Scalar.cmpi .eq c8_i32_267 c0_i32_268
  let c1_i32_269 : BitVec 32 := 1#32
  let v428 : BitVec 32 := Scalar.select v427 c1_i32_269 c8_i32_267
  let v429 : BitVec 32 := Scalar.remsi v426 v428
  let c0_i32_271 : BitVec 32 := 0#32
  let v431 : BitVec 1 := Scalar.cmpi .slt v429 c0_i32_271
  let c0_i32_272 : BitVec 32 := 0#32
  let v432 : BitVec 1 := Scalar.cmpi .slt v428 c0_i32_272
  let v433 : BitVec 1 := Scalar.xori v431 v432
  let c0_i32_270 : BitVec 32 := 0#32
  let v430 : BitVec 1 := Scalar.cmpi .ne v429 c0_i32_270
  let v434 : BitVec 1 := Scalar.andi v433 v430
  let v435 : BitVec 32 := Scalar.addi v429 v428
  let v436 : BitVec 32 := Scalar.select v434 v435 v429
  let c1_i32_277 : BitVec 32 := 1#32
  let v438 : BitVec 32 := Scalar.muli v436 c1_i32_277
  let v439 : BitVec 32 := Scalar.addi c0_i32_278 v438
  v439.toNat
def k0_off26 (d101 : Dev nD) : Fin 2 → Nat :=
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c136_i32_282 : BitVec 32 := 136#32
  let v447 : BitVec 32 := Scalar.muli v103 c136_i32_282
  let v448 : Index := Scalar.indexCast v447
  let c0_283 : Index := 0#32
  ![v448.toNat, 0]
def k0_off27 (d101 : Dev nD) : Fin 2 → Nat :=
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c136_i32_409 : BitVec 32 := 136#32
  let v560 : BitVec 32 := Scalar.muli v103 c136_i32_409
  let c0_i32_424 : BitVec 32 := 0#32
  ![v560.toNat, 0]
def k0_dev15 (d101 : Dev nD) : Nat :=
  let c0_i32_421 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c1_i32_410 : BitVec 32 := 1#32
  let v561 : BitVec 32 := Scalar.addi v103 c1_i32_410
  let c8_i32_411 : BitVec 32 := 8#32
  let c0_i32_412 : BitVec 32 := 0#32
  let v562 : BitVec 1 := Scalar.cmpi .eq c8_i32_411 c0_i32_412
  let c1_i32_413 : BitVec 32 := 1#32
  let v563 : BitVec 32 := Scalar.select v562 c1_i32_413 c8_i32_411
  let v564 : BitVec 32 := Scalar.remsi v561 v563
  let c0_i32_415 : BitVec 32 := 0#32
  let v566 : BitVec 1 := Scalar.cmpi .slt v564 c0_i32_415
  let c0_i32_416 : BitVec 32 := 0#32
  let v567 : BitVec 1 := Scalar.cmpi .slt v563 c0_i32_416
  let v568 : BitVec 1 := Scalar.xori v566 v567
  let c0_i32_414 : BitVec 32 := 0#32
  let v565 : BitVec 1 := Scalar.cmpi .ne v564 c0_i32_414
  let v569 : BitVec 1 := Scalar.andi v568 v565
  let v570 : BitVec 32 := Scalar.addi v564 v563
  let v571 : BitVec 32 := Scalar.select v569 v570 v564
  let c1_i32_420 : BitVec 32 := 1#32
  let v572 : BitVec 32 := Scalar.muli v571 c1_i32_420
  let v573 : BitVec 32 := Scalar.addi c0_i32_421 v572
  v573.toNat
def k0_dev16 (d101 : Dev nD) : Nat :=
  let c0_i32_437 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c2_i32_426 : BitVec 32 := 2#32
  let v582 : BitVec 32 := Scalar.addi v103 c2_i32_426
  let c8_i32_427 : BitVec 32 := 8#32
  let c0_i32_428 : BitVec 32 := 0#32
  let v583 : BitVec 1 := Scalar.cmpi .eq c8_i32_427 c0_i32_428
  let c1_i32_429 : BitVec 32 := 1#32
  let v584 : BitVec 32 := Scalar.select v583 c1_i32_429 c8_i32_427
  let v585 : BitVec 32 := Scalar.remsi v582 v584
  let c0_i32_431 : BitVec 32 := 0#32
  let v587 : BitVec 1 := Scalar.cmpi .slt v585 c0_i32_431
  let c0_i32_432 : BitVec 32 := 0#32
  let v588 : BitVec 1 := Scalar.cmpi .slt v584 c0_i32_432
  let v589 : BitVec 1 := Scalar.xori v587 v588
  let c0_i32_430 : BitVec 32 := 0#32
  let v586 : BitVec 1 := Scalar.cmpi .ne v585 c0_i32_430
  let v590 : BitVec 1 := Scalar.andi v589 v586
  let v591 : BitVec 32 := Scalar.addi v585 v584
  let v592 : BitVec 32 := Scalar.select v590 v591 v585
  let c1_i32_436 : BitVec 32 := 1#32
  let v593 : BitVec 32 := Scalar.muli v592 c1_i32_436
  let v594 : BitVec 32 := Scalar.addi c0_i32_437 v593
  v594.toNat
def k0_dev17 (d101 : Dev nD) : Nat :=
  let c0_i32_453 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c3_i32_442 : BitVec 32 := 3#32
  let v603 : BitVec 32 := Scalar.addi v103 c3_i32_442
  let c8_i32_443 : BitVec 32 := 8#32
  let c0_i32_444 : BitVec 32 := 0#32
  let v604 : BitVec 1 := Scalar.cmpi .eq c8_i32_443 c0_i32_444
  let c1_i32_445 : BitVec 32 := 1#32
  let v605 : BitVec 32 := Scalar.select v604 c1_i32_445 c8_i32_443
  let v606 : BitVec 32 := Scalar.remsi v603 v605
  let c0_i32_447 : BitVec 32 := 0#32
  let v608 : BitVec 1 := Scalar.cmpi .slt v606 c0_i32_447
  let c0_i32_448 : BitVec 32 := 0#32
  let v609 : BitVec 1 := Scalar.cmpi .slt v605 c0_i32_448
  let v610 : BitVec 1 := Scalar.xori v608 v609
  let c0_i32_446 : BitVec 32 := 0#32
  let v607 : BitVec 1 := Scalar.cmpi .ne v606 c0_i32_446
  let v611 : BitVec 1 := Scalar.andi v610 v607
  let v612 : BitVec 32 := Scalar.addi v606 v605
  let v613 : BitVec 32 := Scalar.select v611 v612 v606
  let c1_i32_452 : BitVec 32 := 1#32
  let v614 : BitVec 32 := Scalar.muli v613 c1_i32_452
  let v615 : BitVec 32 := Scalar.addi c0_i32_453 v614
  v615.toNat
def k0_dev18 (d101 : Dev nD) : Nat :=
  let c0_i32_469 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c4_i32_458 : BitVec 32 := 4#32
  let v624 : BitVec 32 := Scalar.addi v103 c4_i32_458
  let c8_i32_459 : BitVec 32 := 8#32
  let c0_i32_460 : BitVec 32 := 0#32
  let v625 : BitVec 1 := Scalar.cmpi .eq c8_i32_459 c0_i32_460
  let c1_i32_461 : BitVec 32 := 1#32
  let v626 : BitVec 32 := Scalar.select v625 c1_i32_461 c8_i32_459
  let v627 : BitVec 32 := Scalar.remsi v624 v626
  let c0_i32_463 : BitVec 32 := 0#32
  let v629 : BitVec 1 := Scalar.cmpi .slt v627 c0_i32_463
  let c0_i32_464 : BitVec 32 := 0#32
  let v630 : BitVec 1 := Scalar.cmpi .slt v626 c0_i32_464
  let v631 : BitVec 1 := Scalar.xori v629 v630
  let c0_i32_462 : BitVec 32 := 0#32
  let v628 : BitVec 1 := Scalar.cmpi .ne v627 c0_i32_462
  let v632 : BitVec 1 := Scalar.andi v631 v628
  let v633 : BitVec 32 := Scalar.addi v627 v626
  let v634 : BitVec 32 := Scalar.select v632 v633 v627
  let c1_i32_468 : BitVec 32 := 1#32
  let v635 : BitVec 32 := Scalar.muli v634 c1_i32_468
  let v636 : BitVec 32 := Scalar.addi c0_i32_469 v635
  v636.toNat
def k0_dev19 (d101 : Dev nD) : Nat :=
  let c0_i32_485 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c5_i32_474 : BitVec 32 := 5#32
  let v645 : BitVec 32 := Scalar.addi v103 c5_i32_474
  let c8_i32_475 : BitVec 32 := 8#32
  let c0_i32_476 : BitVec 32 := 0#32
  let v646 : BitVec 1 := Scalar.cmpi .eq c8_i32_475 c0_i32_476
  let c1_i32_477 : BitVec 32 := 1#32
  let v647 : BitVec 32 := Scalar.select v646 c1_i32_477 c8_i32_475
  let v648 : BitVec 32 := Scalar.remsi v645 v647
  let c0_i32_479 : BitVec 32 := 0#32
  let v650 : BitVec 1 := Scalar.cmpi .slt v648 c0_i32_479
  let c0_i32_480 : BitVec 32 := 0#32
  let v651 : BitVec 1 := Scalar.cmpi .slt v647 c0_i32_480
  let v652 : BitVec 1 := Scalar.xori v650 v651
  let c0_i32_478 : BitVec 32 := 0#32
  let v649 : BitVec 1 := Scalar.cmpi .ne v648 c0_i32_478
  let v653 : BitVec 1 := Scalar.andi v652 v649
  let v654 : BitVec 32 := Scalar.addi v648 v647
  let v655 : BitVec 32 := Scalar.select v653 v654 v648
  let c1_i32_484 : BitVec 32 := 1#32
  let v656 : BitVec 32 := Scalar.muli v655 c1_i32_484
  let v657 : BitVec 32 := Scalar.addi c0_i32_485 v656
  v657.toNat
def k0_dev20 (d101 : Dev nD) : Nat :=
  let c0_i32_501 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c6_i32_490 : BitVec 32 := 6#32
  let v666 : BitVec 32 := Scalar.addi v103 c6_i32_490
  let c8_i32_491 : BitVec 32 := 8#32
  let c0_i32_492 : BitVec 32 := 0#32
  let v667 : BitVec 1 := Scalar.cmpi .eq c8_i32_491 c0_i32_492
  let c1_i32_493 : BitVec 32 := 1#32
  let v668 : BitVec 32 := Scalar.select v667 c1_i32_493 c8_i32_491
  let v669 : BitVec 32 := Scalar.remsi v666 v668
  let c0_i32_495 : BitVec 32 := 0#32
  let v671 : BitVec 1 := Scalar.cmpi .slt v669 c0_i32_495
  let c0_i32_496 : BitVec 32 := 0#32
  let v672 : BitVec 1 := Scalar.cmpi .slt v668 c0_i32_496
  let v673 : BitVec 1 := Scalar.xori v671 v672
  let c0_i32_494 : BitVec 32 := 0#32
  let v670 : BitVec 1 := Scalar.cmpi .ne v669 c0_i32_494
  let v674 : BitVec 1 := Scalar.andi v673 v670
  let v675 : BitVec 32 := Scalar.addi v669 v668
  let v676 : BitVec 32 := Scalar.select v674 v675 v669
  let c1_i32_500 : BitVec 32 := 1#32
  let v677 : BitVec 32 := Scalar.muli v676 c1_i32_500
  let v678 : BitVec 32 := Scalar.addi c0_i32_501 v677
  v678.toNat
def k0_dev21 (d101 : Dev nD) : Nat :=
  let c0_i32_517 : BitVec 32 := 0#32
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let c7_i32_506 : BitVec 32 := 7#32
  let v687 : BitVec 32 := Scalar.addi v103 c7_i32_506
  let c8_i32_507 : BitVec 32 := 8#32
  let c0_i32_508 : BitVec 32 := 0#32
  let v688 : BitVec 1 := Scalar.cmpi .eq c8_i32_507 c0_i32_508
  let c1_i32_509 : BitVec 32 := 1#32
  let v689 : BitVec 32 := Scalar.select v688 c1_i32_509 c8_i32_507
  let v690 : BitVec 32 := Scalar.remsi v687 v689
  let c0_i32_511 : BitVec 32 := 0#32
  let v692 : BitVec 1 := Scalar.cmpi .slt v690 c0_i32_511
  let c0_i32_512 : BitVec 32 := 0#32
  let v693 : BitVec 1 := Scalar.cmpi .slt v689 c0_i32_512
  let v694 : BitVec 1 := Scalar.xori v692 v693
  let c0_i32_510 : BitVec 32 := 0#32
  let v691 : BitVec 1 := Scalar.cmpi .ne v690 c0_i32_510
  let v695 : BitVec 1 := Scalar.andi v694 v691
  let v696 : BitVec 32 := Scalar.addi v690 v689
  let v697 : BitVec 32 := Scalar.select v695 v696 v690
  let c1_i32_516 : BitVec 32 := 1#32
  let v698 : BitVec 32 := Scalar.muli v697 c1_i32_516
  let v699 : BitVec 32 := Scalar.addi c0_i32_517 v698
  v699.toNat
def k0_off28 (d101 : Dev nD) (c1_i32_529 : BitVec 32) : Fin 2 → Nat :=
  let v101 : BitVec 32 := Dev.word d101
  let c1_i32_76 : BitVec 32 := 1#32
  let v102 : BitVec 32 := Scalar.divsi v101 c1_i32_76
  let c8_i32 : BitVec 32 := 8#32
  let v103 : BitVec 32 := Scalar.remsi v102 c8_i32
  let v714 : BitVec 32 := Scalar.subi v103 c1_i32_529
  let c8_i32_530 : BitVec 32 := 8#32
  let c0_i32_531 : BitVec 32 := 0#32
  let v715 : BitVec 1 := Scalar.cmpi .eq c8_i32_530 c0_i32_531
  let c1_i32_532 : BitVec 32 := 1#32
  let v716 : BitVec 32 := Scalar.select v715 c1_i32_532 c8_i32_530
  let v717 : BitVec 32 := Scalar.remsi v714 v716
  let c0_i32_534 : BitVec 32 := 0#32
  let v719 : BitVec 1 := Scalar.cmpi .slt v717 c0_i32_534
  let c0_i32_535 : BitVec 32 := 0#32
  let v720 : BitVec 1 := Scalar.cmpi .slt v716 c0_i32_535
  let v721 : BitVec 1 := Scalar.xori v719 v720
  let c0_i32_533 : BitVec 32 := 0#32
  let v718 : BitVec 1 := Scalar.cmpi .ne v717 c0_i32_533
  let v722 : BitVec 1 := Scalar.andi v721 v718
  let v723 : BitVec 32 := Scalar.addi v717 v716
  let v724 : BitVec 32 := Scalar.select v722 v723 v717
  let c136_i32_539 : BitVec 32 := 136#32
  let v727 : BitVec 32 := Scalar.muli v724 c136_i32_539
  let v728 : Index := Scalar.indexCast v727
  let c0_540 : Index := 0#32
  ![v728.toNat, 0]
def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S1x128x1024 : Shape := ⟨3, ![1, 128, 1024]⟩
abbrev S1024x1024 : Shape := ⟨2, ![1024, 1024]⟩
abbrev S1x262144x2x128 : Shape := ⟨4, ![1, 262144, 2, 128]⟩
abbrev S1x128x8x128 : Shape := ⟨4, ![1, 128, 8, 128]⟩
abbrev S1x262144x2x4x128 : Shape := ⟨5, ![1, 262144, 2, 4, 128]⟩
abbrev S1x262144x8x128 : Shape := ⟨4, ![1, 262144, 8, 128]⟩
abbrev S1x8x128x262144 : Shape := ⟨4, ![1, 8, 128, 262144]⟩
abbrev S_ : Shape := ⟨0, ![]⟩
abbrev S1x8x128 : Shape := ⟨3, ![1, 8, 128]⟩
abbrev S1x8x128x1 : Shape := ⟨4, ![1, 8, 128, 1]⟩
abbrev S1x8x128x128 : Shape := ⟨4, ![1, 8, 128, 128]⟩
abbrev S1x128x8x1 : Shape := ⟨4, ![1, 128, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1024x1024, .f32⟩
  | .hbm, ⟨2, _⟩ => ⟨S1x262144x2x128, .f32⟩
  | .hbm, ⟨3, _⟩ => ⟨S1x262144x2x128, .f32⟩
  | .hbm, ⟨4, _⟩ => ⟨S1024x1024, .f32⟩
  | .hbm, ⟨5, _⟩ => ⟨S1x128x1024, .f32⟩
  | .hbm, ⟨6, _⟩ => ⟨S1x128x8x128, .f32⟩
  | .hbm, ⟨7, _⟩ => ⟨S1x262144x2x4x128, .f32⟩
  | .hbm, ⟨8, _⟩ => ⟨S1x262144x8x128, .f32⟩
  | .hbm, ⟨9, _⟩ => ⟨S1x262144x2x4x128, .f32⟩
  | .hbm, ⟨10, _⟩ => ⟨S1x262144x8x128, .f32⟩
  | .hbm, ⟨11, _⟩ => ⟨S1x8x128x262144, .f32⟩
  | .hbm, ⟨12, _⟩ => ⟨S_, .f32⟩
  | .hbm, ⟨13, _⟩ => ⟨S_, .f32⟩
  | .hbm, ⟨14, _⟩ => ⟨S1x8x128x262144, .f32⟩
  | .hbm, ⟨15, _⟩ => ⟨S1x8x128x262144, .f32⟩
  | .hbm, ⟨16, _⟩ => ⟨S_, .f32⟩
  | .hbm, ⟨17, _⟩ => ⟨S1x8x128, .f32⟩
  | .hbm, ⟨18, _⟩ => ⟨S1x8x128x1, .f32⟩
  | .hbm, ⟨19, _⟩ => ⟨S1x8x128x262144, .f32⟩
  | .hbm, ⟨20, _⟩ => ⟨S1x8x128x262144, .f32⟩
  | .hbm, ⟨21, _⟩ => ⟨S1x8x128x262144, .f32⟩
  | .hbm, ⟨22, _⟩ => ⟨S_, .f32⟩
  | .hbm, ⟨23, _⟩ => ⟨S1x8x128, .f32⟩
  | .hbm, ⟨24, _⟩ => ⟨S1x8x128x1, .f32⟩
  | .hbm, ⟨25, _⟩ => ⟨S1x8x128x128, .f32⟩
  | .hbm, ⟨26, _⟩ => ⟨S1x128x8x128, .f32⟩
  | .hbm, ⟨27, _⟩ => ⟨S1x128x8x1, .f32⟩
  | .hbm, ⟨28, _⟩ => ⟨S1x128x8x128, .f32⟩
  | .hbm, ⟨29, _⟩ => ⟨S1x128x8x128, .f32⟩
  | .hbm, ⟨30, _⟩ => ⟨S1x128x1024, .f32⟩
  | .hbm, ⟨31, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Rules.lean ====
/-
# Rules for single memory operations

The kernel's buffers are whole buffers or named windows of them. This module restates the logic's rules for a load, a store, a local
copy and its wait in the form the proof uses: a whole buffer at a plain function of its indices, read by
`VecWindow.window` and updated by `VecWindow.put`, and a window held at the vector it reads (`held`).
-/
module

public import proofs.«01_k».proof.Defs
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.VecWindow
public import Idealize.ShloMosaic.Lib.Transfers
public import Idealize.ShloMosaic.Lib.Rounds
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The protocol's rounds algebra: duties named by the seven distances. -/
abbrev UB : Type := URounds (GSem nD τ sig) (Fin 7)
/-- The proof's component: the pipeline's rounds, the protocol's rounds, and counters for copies a core issues to itself. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's copy inside the algebra. -/
def ER : Emb UB (MT nD τ sig Unit (Elt F) ℕ UU ℕ) := (Emb.inl : Emb UB (UB × Counters)).trans embR
/-- The counters' copy. -/
abbrev EC : UEmb Counters (MT nD τ sig Unit (Elt F) ℕ UU ℕ) := countersEmb

instance ER_landsIn : (ER : Emb UB 𝕄).LandsIn (upEmb : UEmb _ 𝕄) := by unfold ER; infer_instance

abbrev 𝒱₀ : Variants := Variants.none

/-- Everything a core still owes, the waits so far left unsaid. -/
def ow (c : Dev nD) (O : CellTallies nD τ sig Unit) : sProp 𝕄 := iprop(∃ W, owes (c : Thread nD τ) O W)

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A window held at share `q` and at what it reads, `X`. -/
def held (c : Dev nD) {sp : Space} {s : Shape} {e : EltTy} (M : Memref sig .tc sp s e) (q : PosShare TreeShare) (X : s.Idx → Elt F e) : sProp 𝕄 :=
  M.view.loc (c : Thread nD τ) ↦[M.view.set]{q} M.view.rep X
/-- A window held whole at anything. -/
def heldAny (c : Dev nD) {sp : Space} {s : Shape} {e : EltTy} (M : Memref sig .tc sp s e) : sProp 𝕄 :=
  iprop(∃ f, M.view.loc (c : Thread nD τ) ↦[M.view.set]{fullShare} f)

instance held_storable (c : Dev nD) {sp : Space} {s : Shape} {e : EltTy} (M : Memref sig .tc sp s e) (q : PosShare TreeShare) (X : s.Idx → Elt F e) :
    BI.Storable (upEmb : UEmb _ 𝕄) (held c M q X) := by unfold held; infer_instance
instance heldAny_storable (c : Dev nD) {sp : Space} {s : Shape} {e : EltTy} (M : Memref sig .tc sp s e) :
    BI.Storable (upEmb : UEmb _ 𝕄) (heldAny c M) := by unfold heldAny; infer_instance

/-- Held at any contents is held at what they read. -/
theorem held_of (c : Dev nD) {sp : Space} {s : Shape} {e : EltTy} (M : Memref sig .tc sp s e) (q : PosShare TreeShare) (f : Buf (Elt F) (M.view.loc (c : Thread nD τ))) :
    (M.view.loc (c : Thread nD τ) ↦[M.view.set]{q} f : sProp 𝕄) = held c M q (M.view.read (Elt F) f) := by
  unfold held; exact pointsTo_rep (c : Thread nD τ) M f q

theorem heldAny_of (c : Dev nD) {sp : Space} {s : Shape} {e : EltTy} (M : Memref sig .tc sp s e) (X : s.Idx → Elt F e) :
    (held c M fullShare X : sProp 𝕄) ⊢ heldAny c M := by
  unfold held heldAny; iintro H; iexists _; iexact H

/-! ## Loads and stores -/

section Memory

variable {α : Type}

/-- A load reads the window of what is held. -/
theorem wp_ld (c : Dev nD) {cs : CoreSpace} {s : Shape} {e : EltTy} (M : Memref sig .tc (.core cs) s e) {off off' size : Fin s.rank → ℕ}
    {inb : ∀ a, off a + size a ≤ s.size a} {hl : M.view.LoadsAt (Rect.unit off size inb).toLoadRect}
    {k : ((Rect.unit off size inb).shape.Idx → Elt F e) → Prog (TpuEff nD τ sig (Elt F) Λ₀ .tc) α} {q : PosShare TreeShare} {X : s.Idx → Elt F e} {Q : α → sProp 𝕄}
    (ho : off = off') (inb' : ∀ a, off' a + size a ≤ s.size a) :
    held c M q X ⊢ iprop((held c M q X -∗ WP c (k (VecWindow.window X off' size inb')) Q) -∗ WP c (.op (.load M (Rect.unit off size inb).toLoadRect hl) k) Q) := by
  have h := View.readAt_rep_unit (Val := Elt F) M.view X inb ho inb'
  have key := wp_load (defs := defs₀ (F := F)) 𝒱₀ (c : Thread nD τ) none Set.univ (Γ := .empty) (m := M) (hl := hl) (k := k) (Q := Q) (q := q) (f := M.view.rep X)
    (S := M.view.set) (View.setOn_subset_set _ _)
  rw [h] at key
  exact key

/-- An unmasked store puts its payload over the window. -/
theorem wp_st (c : Dev nD) {cs : CoreSpace} {s : Shape} {e : EltTy} (M : Memref sig .tc (.core cs) s e) {off off' size : Fin s.rank → ℕ}
    {inb : ∀ a, off a + size a ≤ s.size a} {w : (Rect.unit off size inb).shape.Idx → Elt F e} {hx : (M.access (Rect.unit off size inb)).Stores Finset.univ}
    {hm : Finset.univ = Finset.univ ∨ ∀ a, (Rect.unit off size inb).stride a = 1}
    {k : PUnit → Prog (TpuEff nD τ sig (Elt F) Λ₀ .tc) α} {X : s.Idx → Elt F e} {Q : α → sProp 𝕄} (ho : off = off') :
    held c M fullShare X ⊢ iprop((held c M fullShare (VecWindow.put X off' size w) -∗ WP c (k ⟨⟩) Q)
      -∗ WP c (.op (.store M (Rect.unit off size inb) w Finset.univ hx hm) k) Q) := by
  have hr : M.view.read (Elt F) ((M.access (Rect.unit off size inb)).write (Elt F) (M.view.rep X) w Finset.univ) = VecWindow.put X off' size w := by
    rw [← View.read_writes_rep_unit (Val := Elt F) M.view X inb w ho]
    rfl
  have key := wp_store (defs := defs₀ (F := F)) 𝒱₀ (c : Thread nD τ) none Set.univ (Γ := .empty) (m := M) (w := w) (hx := hx) (hm := hm) (k := k) (Q := Q) (f := M.view.rep X)
    (S := M.view.set) (View.set_slice_subset _ _)
  have e := held_of c M fullShare ((M.access (Rect.unit off size inb)).write (Elt F) (M.view.rep X) w Finset.univ)
  rw [hr] at e
  refine key.trans ?_
  rw [← e]

/-- What a squeezed slot holds, at the indices of the slice it was squeezed from. -/
def unsq {s s' : Shape} {β : Type} (hq : s.Squeezes s') (X : s'.Idx → β) : s.Idx → β := fun y => X ((Shape.reshapeEquiv hq.numel_eq).symm y)

/-- A load through the parent at the rectangle of a slot held by itself. -/
theorem wp_ldSlot (c : Dev nD) {cs : CoreSpace} {s s' : Shape} {e : EltTy} (M : Memref sig .tc (.core cs) s e) {off off' size : Fin s.rank → ℕ}
    {inb : ∀ a, off a + size a ≤ s.size a} {hl : M.view.LoadsAt (Rect.unit off size inb).toLoadRect} (inb' : ∀ a, off' a + size a ≤ s.size a)
    (hq : (Rect.unit off' size inb').shape.Squeezes s')
    {k : ((Rect.unit off size inb).shape.Idx → Elt F e) → Prog (TpuEff nD τ sig (Elt F) Λ₀ .tc) α} {q : PosShare TreeShare} {X : s'.Idx → Elt F e} {Q : α → sProp 𝕄}
    (ho : off = off') :
    held c ((M.slice (Rect.unit off' size inb') (fun _ => rfl)).squeeze s' hq) q X
      ⊢ iprop((held c ((M.slice (Rect.unit off' size inb') (fun _ => rfl)).squeeze s' hq) q X -∗ WP c (k (unsq hq X)) Q)
          -∗ WP c (.op (.load M (Rect.unit off size inb).toLoadRect hl) k) Q) := by
  subst ho
  have hr : M.view.readAt (Elt F) (Rect.unit off size inb).toLoadRect (((M.slice (Rect.unit off size inb) (fun _ => rfl)).squeeze s' hq).view.rep X) = unsq hq X := by
    funext y
    have h := congrFun (View.read_rep ((M.slice (Rect.unit off size inb) (fun _ => rfl)).squeeze s' hq).view X) ((Shape.reshapeEquiv hq.numel_eq).symm y)
    refine Eq.trans ?_ h
    show _ = M.view.readAt (Elt F) (Rect.unit off size inb).toLoadRect _ ((Shape.reshapeEquiv hq.numel_eq) ((Shape.reshapeEquiv hq.numel_eq).symm y))
    rw [Equiv.apply_symm_apply]
  have key := wp_load (defs := defs₀ (F := F)) 𝒱₀ (c : Thread nD τ) none Set.univ (Γ := .empty) (m := M) (hl := hl) (k := k) (Q := Q) (q := q)
    (f := ((M.slice (Rect.unit off size inb) (fun _ => rfl)).squeeze s' hq).view.rep X)
    (S := ((M.slice (Rect.unit off size inb) (fun _ => rfl)).squeeze s' hq).view.set) (by
      rw [Memref.set_view_squeeze]
      exact (View.set_slice M.view (Rect.unit off size inb)).ge)
  rw [hr] at key
  exact key

/-- A load through the parent at the rectangle of a slice held by itself. -/
theorem wp_ldSlice (c : Dev nD) {cs : CoreSpace} {s : Shape} {e : EltTy} (M : Memref sig .tc (.core cs) s e) {off off' size : Fin s.rank → ℕ}
    {inb : ∀ a, off a + size a ≤ s.size a} {hl : M.view.LoadsAt (Rect.unit off size inb).toLoadRect} (inb' : ∀ a, off' a + size a ≤ s.size a)
    {k : ((Rect.unit off size inb).shape.Idx → Elt F e) → Prog (TpuEff nD τ sig (Elt F) Λ₀ .tc) α} {q : PosShare TreeShare}
    {X : (Rect.unit off' size inb').shape.Idx → Elt F e} {Q : α → sProp 𝕄} (ho : off = off') :
    held c (M.slice (Rect.unit off' size inb') (fun _ => rfl)) q X
      ⊢ iprop((held c (M.slice (Rect.unit off' size inb') (fun _ => rfl)) q X -∗ WP c (k X) Q)
          -∗ WP c (.op (.load M (Rect.unit off size inb).toLoadRect hl) k) Q) := by
  subst ho
  have hr := Memref.readAt_slice_rep (Val := Elt F) M inb rfl inb' X
  have key := wp_load (defs := defs₀ (F := F)) 𝒱₀ (c : Thread nD τ) none Set.univ (Γ := .empty) (m := M) (hl := hl) (k := k) (Q := Q) (q := q)
    (f := (M.slice (Rect.unit off size inb) (fun _ => rfl)).view.rep X)
    (S := (M.slice (Rect.unit off size inb) (fun _ => rfl)).view.set) (View.set_slice M.view (Rect.unit off size inb)).ge
  rw [hr] at key
  exact key

/-- An unmasked store through the parent at the rectangle of a slice held by itself: the slice at the payload. -/
theorem wp_stSlice (c : Dev nD) {cs : CoreSpace} {s : Shape} {e : EltTy} (M : Memref sig .tc (.core cs) s e) {off off' size : Fin s.rank → ℕ}
    {inb : ∀ a, off a + size a ≤ s.size a} {w : (Rect.unit off size inb).shape.Idx → Elt F e} {hx : (M.access (Rect.unit off size inb)).Stores Finset.univ}
    {hm : Finset.univ = Finset.univ ∨ ∀ a, (Rect.unit off size inb).stride a = 1} (inb' : ∀ a, off' a + size a ≤ s.size a)
    {k : PUnit → Prog (TpuEff nD τ sig (Elt F) Λ₀ .tc) α} {X : (Rect.unit off' size inb').shape.Idx → Elt F e} {Q : α → sProp 𝕄} (ho : off = off') :
    held c (M.slice (Rect.unit off' size inb') (fun _ => rfl)) fullShare X
      ⊢ iprop((held c (M.slice (Rect.unit off' size inb') (fun _ => rfl)) fullShare w -∗ WP c (k ⟨⟩) Q)
        -∗ WP c (.op (.store M (Rect.unit off size inb) w Finset.univ hx hm) k) Q) := by
  subst ho
  have hr := Memref.read_slice_write (Val := Elt F) M inb rfl inb' ((M.slice (Rect.unit off size inb) (fun _ => rfl)).view.rep X) w
  have key := wp_store (defs := defs₀ (F := F)) 𝒱₀ (c : Thread nD τ) none Set.univ (Γ := .empty) (m := M) (w := w) (hx := hx) (hm := hm) (k := k) (Q := Q)
    (f := (M.slice (Rect.unit off size inb) (fun _ => rfl)).view.rep X)
    (S := (M.slice (Rect.unit off size inb) (fun _ => rfl)).view.set) subset_rfl
  have e := held_of c (M.slice (Rect.unit off size inb) (fun _ => rfl)) fullShare
    ((M.access (Rect.unit off size inb)).write (Elt F) ((M.slice (Rect.unit off size inb) (fun _ => rfl)).view.rep X) w Finset.univ)
  rw [hr] at e
  refine key.trans ?_
  rw [← e]

end Memory

/-! ## Local copies -/

/-- The part of an array a squeezed slice of it names. -/
def cut {s s' : Shape} {β : Type} (r : Rect s) (hq : r.shape.Squeezes s') (X : s.Idx → β) : s'.Idx → β :=
  fun y => X (r.emb (Shape.reshapeEquiv hq.numel_eq y))

/-- A slice of an array is lent and given back. -/
theorem lend (c : Dev nD) {sp : Space} {s s' : Shape} {e : EltTy} (P : Memref sig .tc sp s e) (r : Rect s) (hr : ∀ a, r.stride a = 1) (hq : r.shape.Squeezes s')
    (q : PosShare TreeShare) (X : s.Idx → Elt F e) :
    (held c P q X : sProp 𝕄) ⊢ iprop(held c ((P.slice r hr).squeeze s' hq) q (cut r hq X) ∗ (held c ((P.slice r hr).squeeze s' hq) q (cut r hq X) -∗ held c P q X)) := by
  have hs : ((P.slice r hr).squeeze s' hq).view.set ⊆ P.view.set := by
    rw [Memref.set_view_squeeze]; exact View.set_slice_subset _ _
  have hread : ((P.slice r hr).squeeze s' hq).view.read (Elt F) (P.view.rep X) = cut r hq X := by
    funext y
    exact congrFun (View.read_rep P.view X) (r.emb (Shape.reshapeEquiv hq.numel_eq y))
  have e := held_of c ((P.slice r hr).squeeze s' hq) q (P.view.rep X)
  rw [hread] at e
  rw [← e]
  unfold held
  refine (pointsTo_split_subset (ℓ := P.view.loc (c : Thread nD τ)) hs).1.trans ?_
  iintro ⟨H, Hr⟩
  isplitl [H]; · iexact H
  iintro H
  iapply (pointsTo_split_subset (ℓ := P.view.loc (c : Thread nD τ)) hs).2
  isplitl [H]; · iexact H
  iexact Hr

/-- A copy the core issues to itself, under way: its wait gives the destination at what the source held, and the source back. -/
def fly (c : Dev nD) (S : DmaSem sig) {sp sp' : Space} {s : Shape} {e : EltTy} (src : Memref sig .tc sp s e) (dst : Memref sig .tc sp' s e) (q : PosShare TreeShare)
    (X : s.Idx → Elt F e) : sProp 𝕄 :=
  Transfers.Flight EC (c : Thread nD τ) (.dma S) () (dst.view.amount (.dma S)) iprop(held c dst fullShare X ∗ held c src q X)

/-- Issuing a copy to itself. -/
theorem wp_issue (c : Dev nD) {sp sp' : Space} {s : Shape} {e : EltTy} {S S' : DmaSem sig} {src src' : Memref sig .tc sp s e} {dst dst' : Memref sig .tc sp' s e}
    {hsrc : src.view.WordExact} {hdst : dst.view.WordExact} {hsem : DmaTarget.Typed sp (.dma S) (DmaTarget.here (nD := nD) (τ := τ) (p := .tc) dst)} {α : Type}
    {k : PUnit → Prog (TpuEff nD τ sig (Elt F) Λ₀ .tc) α} {q : PosShare TreeShare} {X : s.Idx → Elt F e} {Q : α → sProp 𝕄}
    (hS : S = S') (hs : src = src') (hd : dst = dst') (hpos : 0 < dst'.view.amount (.dma S')) :
    iprop(held c src' q X ∗ heldAny c dst' ∗ semVal ((c : Thread nD τ), .dma S') 0)
      ⊢ iprop((fly c S' src' dst' q X -∗ WP c (k ⟨⟩) Q) -∗ WP c (.op (.enqueueDma src (.here dst) (.dma S) hsrc hdst hsem) k) Q) := by
  subst hS hs hd
  unfold held heldAny fly
  iintro ⟨Hs, ⟨%fd, Hd⟩, Hv⟩ Hk
  iapply (Transfers.wp_dmaLocal (defs := defs₀ (F := F)) EC 𝒱₀ (c : Thread nD τ) none (src := src) (dst := dst) (sm := .dma S) (hsrc := hsrc) (hdst := hdst) (hsem := hsem)
    (q := q) (fs := src.view.rep X) (fd := fd) () (dst.view.amount (.dma S)) rfl hpos subset_rfl) $$ [Hs Hd Hv]
  · isplitl [Hs]; · iexact Hs
    isplitl [Hd]; · iexact Hd
    iexact Hv
  iintro Hf
  iapply Hk
  iapply (Transfers.Flight_mono (EC := EC) (c := (c : Thread nD τ)) ?_) $$ Hf
  refine sep_mono ?_ .rfl
  have e := held_of c dst fullShare (dst.view.write (Elt F) fd (src.view.read (Elt F) (src.view.rep X)) Finset.univ)
  rw [View.read_write_univ] at e
  have e' : (dst.view.loc (c : Thread nD τ) ↦[dst.view.set]{fullShare} dst.view.write (Elt F) fd (ReadAs.same.apply (src.view.read (Elt F) (src.view.rep X))) Finset.univ : sProp 𝕄)
      = held c dst fullShare X := by
    refine Eq.trans e ?_
    rw [View.read_rep]
  exact Entails.of_eq e'

/-- Waiting for a copy to itself: the destination, the source, and the cell back at zero. -/
theorem wp_land (c : Dev nD) {sp sp' : Space} {s : Shape} {e : EltTy} {S S' : DmaSem sig} {srcw : Memref sig .tc sp s e} {dstw dst : Memref sig .tc sp' s e} {src : Memref sig .tc sp s e}
    {hsrc : srcw.view.WordExact} {hdst : dstw.view.WordExact} {α : Type}
    {k : PUnit → Prog (TpuEff nD τ sig (Elt F) Λ₀ .tc) α} {q : PosShare TreeShare} {X : s.Idx → Elt F e} {Q : α → sProp 𝕄} {O : CellTallies nD τ sig Unit}
    (hS : S = S') (hd : dstw = dst) (hN : dst.view.dmaCredit = dst.view.amount (.dma S')) :
    iprop(fly c S' src dst q X ∗ ow c O ∗ MayWait (c : Thread nD τ) (.dma S') () O)
      ⊢ iprop(((held c dst fullShare X ∗ held c src q X ∗ semVal ((c : Thread nD τ), .dma S') 0 ∗ ow c O) -∗ WP c (k ⟨⟩) Q)
        -∗ WP c (.op (.waitDma2 S srcw dstw hsrc hdst) k) Q) := by
  subst hS hd
  unfold fly ow
  iintro ⟨Hf, ⟨%W, HO⟩, Hm⟩ Hk
  iapply (Transfers.wp_waitLocalO (defs := defs₀ (F := F)) EC 𝒱₀ (c : Thread nD τ) none () hN) $$ [Hf HO Hm]
  · isplitl [Hf]; · iexact Hf
    isplitl [HO]; · iexact HO
    iexact Hm
  iintro ⟨⟨Hd, Hs⟩, Hv, HO⟩
  iapply Hk
  isplitl [Hd]; · iexact Hd
  isplitl [Hs]; · iexact Hs
  isplitl [Hv]; · iexact Hv
  iexists _; iexact HO

end Cert.KProof

end
-- ==== Proof.Vals.lean ====
/-
# What the buffers hold

The contents the run computes, as plain functions of the five arrays of each device: the scaled queries, the running
row sums and accumulators after each grid point, the rows of sums laid under the accumulator, the slab a device holds
after the scatter of sums, the whole gathered accumulator, the normalised rows and the result.
-/
module

public import proofs.«01_k».proof.Proof.Rules

@[expose] public section

noncomputable section

namespace Cert.KProof

open Cert.KernelIdeal Cert.KernelIdeal.Gen
open Idealize.ShloMosaic
open Idealize.ShloMosaic.VecWindow

variable {F : FTy → Type} [FloatOps F] [Named F]

/-- The five arrays of a device. -/
structure Args (F : FTy → Type) where
  x : S1x128x1024.Idx → Elt F .f32
  wq : S1024x1024.Idx → Elt F .f32
  k : S1x32768x2x128.Idx → Elt F .f32
  v : S1x32768x2x128.Idx → Elt F .f32
  wo : S1024x1024.Idx → Elt F .f32

/-! ## Indices of the two-dimensional blocks -/

/-- The index of row `i` and column `j`. -/
abbrev ix2 {n m : ℕ} (i : Fin n) (j : Fin m) : (⟨2, ![n, m]⟩ : Shape).Idx := fun a => match a with | 0 => i | 1 => j

theorem inb2 {n m a b o p : ℕ} (h₀ : o + a ≤ n) (h₁ : p + b ≤ m) : ∀ d : Fin 2, (![o, p] : Fin 2 → ℕ) d + (![a, b] : Fin 2 → ℕ) d ≤ (![n, m] : Fin 2 → ℕ) d := by
  intro d
  fin_cases d
  · exact h₀
  · exact h₁

/-- The eight blocks of 128 rows of an array of queries. -/
def rows8 {β : Type} (p : Fin 8 → S128x128.Idx → β) : S1024x128.Idx → β :=
  fun y => p ⟨(y 0).val / 128, by have h : (y 0).val < 1024 := (y 0).isLt; omega⟩ (ix2 ⟨(y 0).val % 128, Nat.mod_lt _ (by decide)⟩ (y 1))
/-- The eight blocks of 128 columns of the normalised rows. -/
def cols8 {β : Type} (p : Fin 8 → S128x128.Idx → β) : S128x1024.Idx → β :=
  fun y => p ⟨(y 1).val / 128, by have h : (y 1).val < 1024 := (y 1).isLt; omega⟩ (ix2 (y 0) ⟨(y 1).val % 128, Nat.mod_lt _ (by decide)⟩)
/-- The eight slabs of 136 rows of an accumulator. -/
def slabs8 {β : Type} (p : Fin 8 → S136x128.Idx → β) : S1088x128.Idx → β :=
  fun y => p ⟨(y 0).val / 136, by have h : (y 0).val < 1088 := (y 0).isLt; omega⟩ (ix2 ⟨(y 0).val % 136, Nat.mod_lt _ (by decide)⟩ (y 1))

/-! ## The queries -/

section Device

variable (a : Args F)

/-- The hidden states, as the kernel's buffer holds them. -/
def xsV : S128x1024.Idx → Elt F .f32 :=
  cut (Rect.unit (s := S1x128x1024) ![0, 0, 0] S1x128x1024.size inb_S1x128x1024_S1x128x1024_0_0_0) squeezes_S1x128x1024_S128x1024 a.x

/-- Head `h`'s scaled queries. -/
def qBlk (h : Fin 8) : S128x128.Idx → Elt F .f32 :=
  k0_pay6 (k0_pay5 (xsV a)) (window (s := S1024x1024) a.wq ![0, 128 * h.val] S1024x128.size (inb2 (by decide) (by have := h.isLt; omega)))

/-- The scaled queries, head after head. -/
def qV : S1024x128.Idx → Elt F .f32 := rows8 (qBlk a)

/-! ## The keys and values of a grid point -/

theorem inb_chunk (t : Fin 8) (g : Fin 2) : ∀ d, (![0, 4096 * t.val, g.val, 0] : Fin 4 → ℕ) d + S1x4096x1x128.size d ≤ S1x32768x2x128.size d := by
  intro d
  have := t.isLt; have := g.isLt
  fin_cases d
  · exact le_refl 1
  · show 4096 * t.val + 4096 ≤ 32768; omega
  · show g.val + 1 ≤ 2; omega
  · exact le_refl 128

abbrev chunkRect (t : Fin 8) (g : Fin 2) : Rect S1x32768x2x128 := Rect.unit (s := S1x32768x2x128) ![0, 4096 * t.val, g.val, 0] S1x4096x1x128.size (inb_chunk t g)

/-- Chunk `t` of group `g` of a keys or values array. -/
def chunk (K : S1x32768x2x128.Idx → Elt F .f32) (t : Fin 8) (g : Fin 2) : S4096x128.Idx → Elt F .f32 := cut (chunkRect t g) squeezes_S1x4096x1x128_S4096x128 K

/-- The same, as a load of its slot reads it. -/
def slotV (K : S1x32768x2x128.Idx → Elt F .f32) (t : Fin 8) (g : Fin 2) : S1x1x4096x128.Idx → Elt F .f32 := unsq squeezes_S1x1x4096x128_S4096x128 (chunk K t g)

/-! ## The running sums -/

/-- Half `g`'s scores against a chunk of keys. -/
def scoreV (q : S1024x128.Idx → Elt F .f32) (g : Fin 2) (kk : S1x1x4096x128.Idx → Elt F .f32) : FVec F S512x4096 .f32 :=
  k0_pay48 (window (s := S1024x128) q ![512 * g.val, 0] S512x128.size (inb2 (by have := g.isLt; omega) (by decide))) kk

/-- The row sums with half `g` updated. -/
def stepL (q : S1024x128.Idx → Elt F .f32) (g : Fin 2) (kk : S1x1x4096x128.Idx → Elt F .f32) (l : S1024x1.Idx → Elt F .f32) : S1024x1.Idx → Elt F .f32 :=
  put (s := S1024x1) l ![512 * g.val, 0] S512x1.size
    (k0_pay50 (scoreV q g kk) (window (s := S1024x1) l ![512 * g.val, 0] S512x1.size (inb2 (by have := g.isLt; omega) (by decide))))

/-- The accumulator with half `g` updated. -/
def stepA (q : S1024x128.Idx → Elt F .f32) (g : Fin 2) (kk vv : S1x1x4096x128.Idx → Elt F .f32) (A : S1088x128.Idx → Elt F .f32) : S1088x128.Idx → Elt F .f32 :=
  put (s := S1088x128) A ![512 * g.val, 0] S512x128.size
    (k0_pay51 (k0_pay47 vv) (scoreV q g kk) (window (s := S1088x128) A ![512 * g.val, 0] S512x128.size (inb2 (by have := g.isLt; omega) (by decide))))

/-- Grid point `t` as a chunk number. -/
def pt (t : ℕ) : Fin 8 := ⟨t % 8, Nat.mod_lt _ (by decide)⟩

/-- The row sums before grid point `t`. -/
def lV : ℕ → S1024x1.Idx → Elt F .f32
  | 0 => k0_pay4
  | t + 1 => stepL (qV a) 1 (slotV a.k (pt t) 1) (stepL (qV a) 0 (slotV a.k (pt t) 0) (lV t))

/-- The accumulator before grid point `t`. -/
def accV : ℕ → S1088x128.Idx → Elt F .f32
  | 0 => k0_pay3
  | t + 1 => stepA (qV a) 1 (slotV a.k (pt t) 1) (slotV a.v (pt t) 1) (stepA (qV a) 0 (slotV a.k (pt t) 0) (slotV a.v (pt t) 0) (accV t))

/-- Head `h`'s row sums as a row. -/
def lRow (h : Fin 8) : S1x128.Idx → Elt F .f32 :=
  k0_pay14 (window (s := S1024x1) (lV a 8) ![128 * h.val, 0] S128x1.size (inb2 (by have := h.isLt; omega) (by decide)))

/-- The accumulator with the first `n` rows of sums laid under it. -/
def accR : ℕ → S1088x128.Idx → Elt F .f32
  | 0 => accV a 8
  | n + 1 => put (s := S1088x128) (accR n) ![1024 + n, 0] S1x128.size (lRow a (pt n))

/-- What a device sends out. -/
def accF : S1088x128.Idx → Elt F .f32 := accR a 8

theorem inb_slab (d : Fin 8) : ∀ i, (![136 * d.val, 0] : Fin 2 → ℕ) i + S136x128.size i ≤ S1088x128.size i := inb2 (by have := d.isLt; omega) (by decide)

/-- Its slab `d`. -/
def slabV (d : Fin 8) : S136x128.Idx → Elt F .f32 := window (s := S1088x128) (accF a) ![136 * d.val, 0] S136x128.size (inb_slab d)

end Device

/-! ## The ring of distances -/

set_option backward.proofsInPublic true in
/-- The device `k + 1` places on. -/
def fwd (c : Dev nD) (k : Fin 7) : Dev nD := ⟨(c.val + k.val + 1) % 8, Nat.mod_lt _ (by decide)⟩
set_option backward.proofsInPublic true in
/-- The device `k + 1` places back. -/
def bwd (c : Dev nD) (k : Fin 7) : Dev nD := ⟨(c.val + 7 - k.val) % 8, Nat.mod_lt _ (by decide)⟩
set_option backward.proofsInPublic true in
/-- The distance back along a distance. -/
def rv (k : Fin 7) : Fin 7 := ⟨6 - k.val, by omega⟩

theorem bwd_fwd (c : Dev nD) (k : Fin 7) : bwd (fwd c k) k = c := by revert c k; decide
theorem fwd_bwd (c : Dev nD) (k : Fin 7) : fwd (bwd c k) k = c := by revert c k; decide
theorem fwd_rv (c : Dev nD) (k : Fin 7) : fwd (fwd c k) (rv k) = c := by revert c k; decide
theorem rv_rv (k : Fin 7) : rv (rv k) = k := by revert k; decide
theorem bwd_eq (c : Dev nD) (k : Fin 7) : bwd c k = fwd c (rv k) := by revert c k; decide

/-! ## The sums over devices, the gather and the result -/

variable (A : Dev nD → Args F)

/-- What landing buffer `k` of device `c` holds after the scatter, as a load reads it. -/
def rsV (c : Dev nD) (k : Fin 7) : S1x136x128.Idx → Elt F .f32 := unsq squeezes_S1x136x128_S136x128 (slabV (A (bwd c k)) c)

/-- The slab device `c` sums. -/
def redV (c : Dev nD) : S136x128.Idx → Elt F .f32 :=
  k0_pay26 (k0_pay25 (k0_pay24 (k0_pay23 (slabV (A c) c) (rsV A c 0) (rsV A c 1)) (rsV A c 2) (rsV A c 3) (rsV A c 4)) (rsV A c 5) (rsV A c 6))

/-- The gathered accumulator, the same on every device. -/
def gatV : S1088x128.Idx → Elt F .f32 := slabs8 (redV A)

/-- Head `h`'s normalised rows. -/
def tBlk (h : Fin 8) : S128x128.Idx → Elt F .f32 :=
  k0_pay36 (window (s := S1088x128) (gatV A) ![1024 + h.val, 0] S1x128.size (inb2 (by have := h.isLt; omega) (by decide)))
    (window (s := S1088x128) (gatV A) ![128 * h.val, 0] S128x128.size (inb2 (by have := h.isLt; omega) (by decide)))

/-- The normalised rows, head after head. -/
def tV : S128x1024.Idx → Elt F .f32 := cols8 (tBlk A)

/-- The result on device `c`. -/
def outV (c : Dev nD) : S1x128x1024.Idx → Elt F .f32 := k0_pay2 (k0_pay45 (tV A)) (A c).wo

/-! ## Puts and windows that cover -/

theorem window_full {s : Shape} {β : Type} (x : s.Idx → β) {off : Fin s.rank → ℕ} (inb : ∀ a, off a + s.size a ≤ s.size a) : window x off s.size inb = x := by
  funext y; exact congrArg x (Rect.emb_unit_full inb y)

theorem put_full {s : Shape} {β : Type} (x w : s.Idx → β) {off : Fin s.rank → ℕ} (inb : ∀ a, off a + s.size a ≤ s.size a) : put x off s.size w = w := by
  rw [← window_full (put x off s.size w) inb]; exact window_put_same x off s.size inb w

/-- A put in a two-dimensional array, by coordinates. -/
theorem put2 {n m a b o p : ℕ} {β : Type} (x : (⟨2, ![n, m]⟩ : Shape).Idx → β) (w : (⟨2, ![a, b]⟩ : Shape).Idx → β) (y : (⟨2, ![n, m]⟩ : Shape).Idx) :
    put (s := ⟨2, ![n, m]⟩) x ![o, p] ![a, b] w y
      = if h : (o ≤ (y 0).val ∧ (y 0).val < o + a) ∧ p ≤ (y 1).val ∧ (y 1).val < p + b then
          w (ix2 ⟨(y 0).val - o, by omega⟩ ⟨(y 1).val - p, by omega⟩) else x y := by
  unfold put
  by_cases h : (o ≤ (y 0).val ∧ (y 0).val < o + a) ∧ p ≤ (y 1).val ∧ (y 1).val < p + b
  · have h' : ∀ d : Fin 2, (![o, p] : Fin 2 → ℕ) d ≤ (y d).val ∧ (y d).val < (![o, p] : Fin 2 → ℕ) d + (![a, b] : Fin 2 → ℕ) d := by
      intro d; fin_cases d
      · exact h.1
      · exact h.2
    rw [dif_pos h, dif_pos h']
    refine congrArg w (funext fun d => ?_)
    fin_cases d <;> rfl
  · rw [dif_neg h, dif_neg]
    intro h'
    exact h ⟨h' 0, h' 1⟩

/-- A window of a two-dimensional array, by coordinates. -/
theorem window2 {n m a b o p : ℕ} {β : Type} (x : (⟨2, ![n, m]⟩ : Shape).Idx → β) (inb : ∀ d : Fin 2, (![o, p] : Fin 2 → ℕ) d + (![a, b] : Fin 2 → ℕ) d ≤ (![n, m] : Fin 2 → ℕ) d)
    (y : (⟨2, ![a, b]⟩ : Shape).Idx) :
    window (s := ⟨2, ![n, m]⟩) x ![o, p] ![a, b] inb y
      = x (ix2 ⟨o + (y 0).val, by have h := inb 0; have h' : (y 0).val < a := (y 0).isLt; have : o + a ≤ n := h; omega⟩
          ⟨p + (y 1).val, by have h := inb 1; have h' : (y 1).val < b := (y 1).isLt; have : p + b ≤ m := h; omega⟩) := by
  refine congrArg x (funext fun d => Fin.ext ?_)
  fin_cases d
  · show o + 1 * (y 0).val = o + (y 0).val; omega
  · show p + 1 * (y 1).val = p + (y 1).val; omega

/-- Putting the eight row blocks one after another. -/
def putRows {β : Type} (x : S1024x128.Idx → β) (p : Fin 8 → S128x128.Idx → β) : ℕ → S1024x128.Idx → β
  | 0 => x
  | n + 1 => put (s := S1024x128) (putRows x p n) ![128 * n, 0] S128x128.size (p (pt n))

theorem putRows_apply {β : Type} (x : S1024x128.Idx → β) (p : Fin 8 → S128x128.Idx → β) (n : ℕ) (hn : n ≤ 8) (y : S1024x128.Idx) (hy : (y 0).val < 128 * n) :
    putRows x p n y = rows8 p y := by
  induction n with
  | zero => omega
  | succ n ih =>
    show put (s := S1024x128) (putRows x p n) ![128 * n, 0] ![128, 128] (p (pt n)) y = _
    rw [put2]
    by_cases h : 128 * n ≤ (y 0).val
    · have h1 : (y 1).val < 128 := (y 1).isLt
      rw [dif_pos ⟨⟨h, by omega⟩, by omega, by omega⟩]
      have hb : (y 0).val / 128 = n := by omega
      have hp : pt n = ⟨(y 0).val / 128, by omega⟩ := Fin.ext (by show n % 8 = (y 0).val / 128; omega)
      unfold rows8
      rw [hp]
      refine congrArg _ (funext fun d => Fin.ext ?_)
      fin_cases d
      · show (y 0).val - 128 * n = (y 0).val % 128; omega
      · show (y 1).val - 0 = (y 1).val; omega
    · rw [dif_neg (fun h' => h h'.1.1)]
      exact ih (by omega) (by omega)

theorem putRows_all {β : Type} (x : S1024x128.Idx → β) (p : Fin 8 → S128x128.Idx → β) : putRows x p 8 = rows8 p :=
  funext fun y => putRows_apply x p 8 (le_refl _) y (by have h : (y 0).val < 1024 := (y 0).isLt; omega)

/-- Putting the eight column blocks one after another. -/
def putCols {β : Type} (x : S128x1024.Idx → β) (p : Fin 8 → S128x128.Idx → β) : ℕ → S128x1024.Idx → β
  | 0 => x
  | n + 1 => put (s := S128x1024) (putCols x p n) ![0, 128 * n] S128x128.size (p (pt n))

theorem putCols_apply {β : Type} (x : S128x1024.Idx → β) (p : Fin 8 → S128x128.Idx → β) (n : ℕ) (hn : n ≤ 8) (y : S128x1024.Idx) (hy : (y 1).val < 128 * n) :
    putCols x p n y = cols8 p y := by
  induction n with
  | zero => omega
  | succ n ih =>
    show put (s := S128x1024) (putCols x p n) ![0, 128 * n] ![128, 128] (p (pt n)) y = _
    rw [put2]
    by_cases h : 128 * n ≤ (y 1).val
    · have h1 : (y 0).val < 128 := (y 0).isLt
      rw [dif_pos ⟨⟨by omega, by omega⟩, h, by omega⟩]
      have hp : pt n = ⟨(y 1).val / 128, by omega⟩ := Fin.ext (by show n % 8 = (y 1).val / 128; omega)
      unfold cols8
      rw [hp]
      refine congrArg _ (funext fun d => Fin.ext ?_)
      fin_cases d
      · show (y 0).val - 0 = (y 0).val; omega
      · show (y 1).val - 128 * n = (y 1).val % 128; omega
    · rw [dif_neg (fun h' => h h'.2.1)]
      exact ih (by omega) (by omega)

theorem putCols_all {β : Type} (x : S128x1024.Idx → β) (p : Fin 8 → S128x128.Idx → β) : putCols x p 8 = cols8 p :=
  funext fun y => putCols_apply x p 8 (le_refl _) y (by have h : (y 1).val < 1024 := (y 1).isLt; omega)

/-- A slab of the gathered accumulator. -/
theorem window_slabs8 {β : Type} (p : Fin 8 → S136x128.Idx → β) (d : Fin 8) : window (s := S1088x128) (slabs8 p) ![136 * d.val, 0] S136x128.size (inb_slab d) = p d := by
  funext y
  have h0 : (y 0).val < 136 := (y 0).isLt
  refine (window2 (slabs8 p) (inb_slab d) y).trans ?_
  unfold slabs8
  have hd : (⟨(136 * d.val + (y 0).val) / 136, by have := d.isLt; omega⟩ : Fin 8) = d := Fin.ext (by show (136 * d.val + (y 0).val) / 136 = d.val; omega)
  refine (congrFun (congrArg p hd) _).trans ?_
  refine congrArg (p d) (funext fun i => Fin.ext ?_)
  fin_cases i
  · show (136 * d.val + (y 0).val) % 136 = (y 0).val; omega
  · show 0 + (y 1).val = (y 1).val; omega

end Cert.KProof

end
-- ==== Proof.Proto.lean ====
/-
# The protocol across devices

Every device has one barrier cell and, for each of the seven distances `k`, four copy cells: its scatter sends (kind 0), its
scatter receives (kind 1), its gather sends (kind 2), its gather receives (kind 3). Each cell has one round.

* Device `c` signals the barrier of every other device. The signal to device `p` hands `p` the two landing
  buffers of `c` that `p` will write into: the duty of `p`'s barrier cell named by the distance from `p` to `c`.
* Device `c` sends slab `c + k + 1` of its sums to that device's landing buffer `k`: the receive cell hands it over at the
  contents sent, the send cell gives the slab back.
* Device `c` sends its summed slab to every other device's second landing buffer `k`, likewise; its own slab is lent in seven
  shares.

Barrier cells lie at level 1, scatter receives at 2, gather receives at 3, everything else at 0.
-/
module

public import proofs.«01_k».proof.Proof.Vals

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Buffers -/

abbrev xM : Memref sig .tc .hbm S1x128x1024 .f32 := Memref.whole main_arg0
abbrev wqM : Memref sig .tc .hbm S1024x1024 .f32 := Memref.whole main_arg1
abbrev kM : Memref sig .tc .hbm S1x32768x2x128 .f32 := Memref.whole main_arg2
abbrev vM : Memref sig .tc .hbm S1x32768x2x128 .f32 := Memref.whole main_arg3
abbrev woM : Memref sig .tc .hbm S1024x1024 .f32 := Memref.whole main_arg4
abbrev outM : Memref sig .tc .vmem S1x128x1024 .f32 := Memref.whole cc0_stg0_0
abbrev qM : Memref sig .tc .vmem S1024x128 .f32 := Memref.whole cc0_scratch0
abbrev accM : Memref sig .tc .vmem S1088x128 .f32 := Memref.whole cc0_scratch1
abbrev lM : Memref sig .tc .vmem S1024x1 .f32 := Memref.whole cc0_scratch2
abbrev rsM : Memref sig .tc .vmem S7x136x128 .f32 := Memref.whole cc0_scratch3
abbrev agM : Memref sig .tc .vmem S7x136x128 .f32 := Memref.whole cc0_scratch4
abbrev tM : Memref sig .tc .vmem S128x1024 .f32 := Memref.whole cc0_scratch5
abbrev kvM : Memref sig .tc .vmem S2x4x4096x128 .f32 := Memref.whole cc0_scratch6
abbrev xsM : Memref sig .tc .vmem S128x1024 .f32 := Memref.whole cc0_scratch7
abbrev wqsM : Memref sig .tc .vmem S1024x1024 .f32 := Memref.whole cc0_scratch8
abbrev wosM : Memref sig .tc .vmem S1024x1024 .f32 := Memref.whole cc0_scratch9

theorem inb_land (k : Fin 7) : ∀ d, (![k.val, 0, 0] : Fin 3 → ℕ) d + S1x136x128.size d ≤ S7x136x128.size d := by
  intro d; have := k.isLt
  fin_cases d
  · show k.val + 1 ≤ 7; omega
  · exact le_refl 136
  · exact le_refl 128
theorem inb_kv (b : Fin 2) (n : Fin 4) : ∀ d, (![b.val, n.val, 0, 0] : Fin 4 → ℕ) d + S1x1x4096x128.size d ≤ S2x4x4096x128.size d := by
  intro d; have := b.isLt; have := n.isLt
  fin_cases d
  · show b.val + 1 ≤ 2; omega
  · show n.val + 1 ≤ 4; omega
  · exact le_refl 4096
  · exact le_refl 128

/-- Slab `d` of the accumulator; -/
abbrev slab (d : Fin 8) : Memref sig .tc .vmem S136x128 .f32 := accM.slice (Rect.unit (s := S1088x128) ![136 * d.val, 0] S136x128.size (inb_slab d)) (fun _ => rfl)
/-- landing buffer `k` of a seven-fold buffer; -/
abbrev landOf (M : Memref sig .tc .vmem S7x136x128 .f32) (k : Fin 7) : Memref sig .tc .vmem S136x128 .f32 :=
  (M.slice (Rect.unit (s := S7x136x128) ![k.val, 0, 0] S1x136x128.size (inb_land k)) (fun _ => rfl)).squeeze S136x128 squeezes_S1x136x128_S136x128
/-- of the scatter, and of the gather; -/
abbrev rsSlot (k : Fin 7) : Memref sig .tc .vmem S136x128 .f32 := landOf rsM k
abbrev agSlot (k : Fin 7) : Memref sig .tc .vmem S136x128 .f32 := landOf agM k
/-- and slot `n` of parity `b` of the keys and values. -/
abbrev kvSlot (b : Fin 2) (n : Fin 4) : Memref sig .tc .vmem S4096x128 .f32 :=
  (kvM.slice (Rect.unit (s := S2x4x4096x128) ![b.val, n.val, 0, 0] S1x1x4096x128.size (inb_kv b n)) (fun _ => rfl)).squeeze S4096x128 squeezes_S1x1x4096x128_S4096x128

/-! ## Semaphores -/

abbrev barS : Sem sig := (SemArray.scalar (sig.barrier 0 rfl) : Sems sig S_).sem
/-- The copy semaphore of kind `a` and distance `k`. -/
def xS (a : Fin 4) (k : Fin 7) : DmaSem sig := ⟨12 + 7 * a.val + k.val, by show _ < 40; have := a.isLt; have := k.isLt; omega⟩
/-- The semaphore of slot `n` of parity `b`, and those of the three staging copies. -/
def kvS (b : Fin 2) (n : Fin 4) : DmaSem sig := ⟨1 + 4 * b.val + n.val, by show _ < 40; have := b.isLt; have := n.isLt; omega⟩
def stS (k : Fin 3) : DmaSem sig := ⟨9 + k.val, by show _ < 40; have := k.isLt; omega⟩

abbrev barCell (c : Dev nD) : GSem nD τ sig := ((c : Thread nD τ), .reg barS)
abbrev xCell (c : Dev nD) (a : Fin 4) (k : Fin 7) : GSem nD τ sig := ((c : Thread nD τ), .dma (xS a k))

/-- Which copy cell a semaphore is. -/
def xdec (n : DmaSem sig) : Option (Fin 4 × Fin 7) :=
  if h : 12 ≤ n.val then some (⟨(n.val - 12) / 7, by have : n.val < 40 := n.isLt; omega⟩, ⟨(n.val - 12) % 7, Nat.mod_lt _ (by decide)⟩) else none

theorem xdec_xS (a : Fin 4) (k : Fin 7) : xdec (xS a k) = some (a, k) := by revert a k; decide

theorem xS_inj {a a' : Fin 4} {k k' : Fin 7} (h : xS a k = xS a' k') : a = a' ∧ k = k' := by
  have := congrArg xdec h
  rw [xdec_xS, xdec_xS] at this
  injection this with this
  exact Prod.mk.inj this

/-- The credit of a slab's copy. -/
abbrev NX : ℕ := (rsSlot 0).view.dmaCredit
theorem NX_pos : 0 < NX := View.dmaCredit_pos _ (by decide)

/-! ## The schedule -/

variable (A : Dev nD → Args F)

/-- The share of its summed slab a device lends to distance `k`'s copy. -/
def shr (k : Fin 7) : PosShare TreeShare := Transfers.dealOf fullShare (Finset.univ : Finset (Fin 7)) k

/-- What the signal over distance `d` hands device `c`. -/
def barPay (c : Dev nD) (d : Fin 7) : sProp 𝕄 := iprop(heldAny (fwd c d) (rsSlot d) ∗ heldAny (fwd c d) (agSlot d))

/-- What a copy cell of device `c` hands over. -/
def xPay (c : Dev nD) (a : Fin 4) (k : Fin 7) : sProp 𝕄 :=
  match a with
  | 0 => heldAny c (slab (fwd c k))
  | 1 => held c (rsSlot k) fullShare (slabV (A (bwd c k)) c)
  | 2 => held c (slab c) (shr k) (redV A c)
  | 3 => held c (agSlot k) fullShare (redV A (bwd c k))

instance barPay_storable (c : Dev nD) (d : Fin 7) : BI.Storable (upEmb : UEmb _ 𝕄) (barPay (F := F) c d) := by unfold barPay; infer_instance
instance xPay_storable (c : Dev nD) (a : Fin 4) (k : Fin 7) : BI.Storable (upEmb : UEmb _ 𝕄) (xPay A c a k) := by
  fin_cases a <;> (dsimp only [xPay]; infer_instance)

def sched : Rounds.Schedule (GSem nD τ sig) (Fin 7) 𝕄 where
  duties g r := if r = 0 ∧ g.1.2 = .tc then (match g.2 with
    | .reg _ => Finset.univ
    | .dma n => (match xdec n with | some _ => {0} | none => ∅)) else ∅
  unitless _ := False
  amount g _ _ := match g.2 with
    | .reg _ => 1
    | .dma _ => NX
  payload g _ d := match g.2 with
    | .reg _ => barPay g.1.1 d
    | .dma n => (match xdec n with | some ak => xPay A g.1.1 ak.1 ak.2 | none => iprop(emp))
  amount_pos g _ _ _ := by
    rcases g with ⟨c, n | n⟩
    · exact Nat.one_pos
    · exact NX_pos

instance sched_payload_storable (g : GSem nD τ sig) (r : ℕ) (d : Fin 7) : BI.Storable (upEmb : UEmb _ 𝕄) ((sched A).payload g r d) := by
  rcases g with ⟨c, n | n⟩
  · show BI.Storable upEmb (barPay c.1 d); infer_instance
  · show BI.Storable upEmb (match xdec n with | some ak => xPay A c.1 ak.1 ak.2 | none => iprop(emp))
    cases xdec n <;> (dsimp only; infer_instance)

section Tables
variable (c : Dev nD) (a : Fin 4) (k d : Fin 7)

theorem duties_bar : (sched A).duties (barCell c) 0 = Finset.univ := by dsimp only [sched]; exact if_pos ⟨rfl, rfl⟩
theorem duties_x : (sched A).duties (xCell c a k) 0 = {0} := by
  dsimp only [sched]; rw [if_pos ⟨rfl, rfl⟩, xdec_xS]
theorem duties_later (g : GSem nD τ sig) : ∀ r, 1 ≤ r → (sched A).duties g r = ∅ := fun r hr => by dsimp only [sched]; rw [if_neg fun h => by omega]
theorem amount_bar : (sched A).amount (barCell c) 0 d = 1 := rfl
theorem amount_x : (sched A).amount (xCell c a k) 0 d = NX := rfl
theorem payload_bar : (sched A).payload (barCell c) 0 d = barPay c d := rfl
theorem payload_x : (sched A).payload (xCell c a k) 0 d = xPay A c a k := by
  show (match xdec (xS a k) with | some ak => xPay A c ak.1 ak.2 | none => iprop(emp)) = _
  rw [xdec_xS]
theorem expect_bar : (sched A).expect (barCell c) 0 = 7 := by
  unfold Schedule.expect Schedule.amountOf
  rw [duties_bar, Finset.sum_congr rfl fun d _ => amount_bar A c d, Finset.sum_const, Finset.card_univ, Fintype.card_fin, smul_eq_mul]
theorem expect_x : (sched A).expect (xCell c a k) 0 = NX := by
  unfold Schedule.expect Schedule.amountOf; rw [duties_x, Finset.sum_singleton, amount_x]
theorem rest_bar : bigSep ((sched A).duties (barCell c) 0 \ ∅) (fun d => (sched A).payload (barCell c) 0 d) = bigSep Finset.univ (barPay c) := by
  rw [Finset.sdiff_empty, duties_bar]; rfl
theorem rest_x : bigSep ((sched A).duties (xCell c a k) 0 \ ∅) (fun d => (sched A).payload (xCell c a k) 0 d) = xPay A c a k := by
  rw [Finset.sdiff_empty, duties_x, bigSep_singleton, payload_x]

end Tables

/-! ## What a device owes -/

/-- Of seven things in order, the last `n`. -/
def owedFrom (f : Fin 7 → CellTallies nD τ sig Unit) : ℕ → CellTallies nD τ sig Unit
  | 0 => 0
  | n + 1 => owedFrom f n + f (Fin.ofNat 7 (6 - n))

/-- The unit owed to the barrier `s + 1` places on; the copy of kind `a` owed to the device `k + 1` places on. -/
def ob (c : Dev nD) (s : Fin 7) : CellTallies nD τ sig Unit := tallyAt (barCell (fwd c s)) () 1
def ox (c : Dev nD) (a : Fin 4) (k : Fin 7) : CellTallies nD τ sig Unit := tallyAt (xCell (fwd c k) a k) () NX

/-- The last `g` gather copies, the last `r` scatter copies, the last `b` signals. -/
def oAll (c : Dev nD) (g r b : ℕ) : CellTallies nD τ sig Unit := owedFrom (ox c 3) g + owedFrom (ox c 1) r + owedFrom (ob c) b

theorem oAll_bar (c : Dev nD) (g r b : ℕ) : oAll c g r (b + 1) = oAll c g r b + ob c (Fin.ofNat 7 (6 - b)) := by
  unfold oAll
  rw [show owedFrom (ob c) (b + 1) = owedFrom (ob c) b + ob c (Fin.ofNat 7 (6 - b)) from rfl]
  simp only [add_assoc]
theorem oAll_rs (c : Dev nD) (g r : ℕ) : oAll c g (r + 1) 0 = oAll c g r 0 + ox c 1 (Fin.ofNat 7 (6 - r)) := by
  unfold oAll
  rw [show owedFrom (ob c) 0 = 0 from rfl, show owedFrom (ox c 1) (r + 1) = owedFrom (ox c 1) r + ox c 1 (Fin.ofNat 7 (6 - r)) from rfl]
  rw [add_zero, add_zero, add_assoc]
theorem oAll_ag (c : Dev nD) (g : ℕ) : oAll c (g + 1) 0 0 = oAll c g 0 0 + ox c 3 (Fin.ofNat 7 (6 - g)) := by
  unfold oAll
  rw [show owedFrom (ob c) 0 = 0 from rfl, show owedFrom (ox c 1) 0 = 0 from rfl,
    show owedFrom (ox c 3) (g + 1) = owedFrom (ox c 3) g + ox c 3 (Fin.ofNat 7 (6 - g)) from rfl]
  rw [add_zero, add_zero, add_zero, add_zero]
theorem oAll_zero (c : Dev nD) : oAll c 0 0 0 = 0 := by unfold oAll; rw [show owedFrom (ob c) 0 = 0 from rfl, show owedFrom (ox c 1) 0 = 0 from rfl, show owedFrom (ox c 3) 0 = 0 from rfl, add_zero, add_zero]

theorem owedFrom_pos {f : Fin 7 → CellTallies nD τ sig Unit} {n : ℕ} {g : GSem nD τ sig} {u : Unit} (h : 0 < owedFrom f n g u) : 0 < n ∧ ∃ k, 0 < f k g u := by
  induction n with
  | zero => exact absurd h (Nat.lt_irrefl 0)
  | succ n ih =>
    refine ⟨Nat.succ_pos _, ?_⟩
    rw [owedFrom, Pi.add_apply, Finsupp.add_apply] at h
    by_cases h' : 0 < owedFrom f n g u
    · exact (ih h').2
    · rw [Nat.eq_zero_of_not_pos h', Nat.zero_add] at h; exact ⟨_, h⟩

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem oAll_pos {c : Dev nD} {g r b : ℕ} {gg : GSem nD τ sig} {u : Unit} (h : 0 < oAll c g r b gg u) :
    (∃ k, gg = xCell (fwd c k) 3 k) ∨ (0 < r ∧ ∃ k, gg = xCell (fwd c k) 1 k) ∨ (0 < b ∧ ∃ k, gg = barCell (fwd c k)) := by
  unfold oAll at h
  rw [Pi.add_apply, Finsupp.add_apply, Pi.add_apply, Finsupp.add_apply] at h
  by_cases h1 : 0 < owedFrom (ox c 3) g gg u
  · obtain ⟨-, k, hk⟩ := owedFrom_pos h1; exact .inl ⟨k, tallyAt_pos hk⟩
  by_cases h2 : 0 < owedFrom (ox c 1) r gg u
  · obtain ⟨hr, k, hk⟩ := owedFrom_pos h2; exact .inr (.inl ⟨hr, k, tallyAt_pos hk⟩)
  · obtain ⟨hb, k, hk⟩ := owedFrom_pos (show 0 < owedFrom (ob c) b gg u by omega); exact .inr (.inr ⟨hb, k, tallyAt_pos hk⟩)

/-! ## Levels -/

def L (g : GSem nD τ sig) : Finset Unit := if g.1.2 = .tc then {()} else ∅
/-- The level of a semaphore. -/
def lvS : SemLoc sig → ℕ
  | .reg _ => 1
  | .dma n => match xdec n with | some (1, _) => 2 | some (3, _) => 3 | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_rs (k : Fin 7) : lvS (.dma (xS 1 k)) = 2 := by unfold lvS; simp only [xdec_xS]
theorem lv_ag (k : Fin 7) : lvS (.dma (xS 3 k)) = 3 := by unfold lvS; simp only [xdec_xS]

/-- A wait lies below what is owed. -/
theorem mayWait (c : Dev nD) (sm : SemLoc sig) (g r b : ℕ) (h1 : lvS sm < 3) (h2 : 0 < r → lvS sm < 2) (h3 : 0 < b → lvS sm < 1) :
    (levAts L lv : sProp 𝕄) ⊢ MayWait (c : Thread nD τ) sm () (oAll c g r b) :=
  MayOwe.of_cut (L := L) (lev := lv) (lvS sm) (fun p hp => by rw [Finset.mem_singleton.mp hp, L_tc]; exact Finset.mem_singleton_self _)
    (fun gg u hg => by
      rcases oAll_pos hg with ⟨k, rfl⟩ | ⟨-, k, rfl⟩ | ⟨-, k, rfl⟩ <;> exact Finset.mem_singleton_self _)
    (fun p hp => by rw [Finset.mem_singleton.mp hp]; exact le_refl _)
    (fun gg u hg => by
      rcases oAll_pos hg with ⟨k, rfl⟩ | ⟨h, k, rfl⟩ | ⟨h, k, rfl⟩
      · show _ < lvS (.dma (xS 3 k)); rw [lv_ag]; exact h1
      · show _ < lvS (.dma (xS 1 k)); rw [lv_rs]; exact h2 h
      · exact h3 h)

/-- Once nothing is owed any wait is allowed. -/
theorem mayWait_done (c : Dev nD) (sm : SemLoc sig) : (levAts L lv : sProp 𝕄) ⊢ MayWait (c : Thread nD τ) sm () (oAll c 0 0 0) := by
  rw [oAll_zero, MayWait_zero]; iintro -; iempintro

/-! ## The cells all together -/

/-- The cells of a device: its barrier and its copy cells. -/
abbrev CK : Type := Option (Fin 4 × Fin 7)
def csem : CK → SemLoc sig
  | none => .reg barS
  | some ak => .dma (xS ak.1 ak.2)
def kcell (ck : Dev nD × CK) : GSem nD τ sig := ((ck.1 : Thread nD τ), csem ck.2)

/-- What every device knows throughout: all cells' invariants, that each has reached its round, and the levels. -/
def records (K : Dev nD × CK → ℕ) : sProp 𝕄 :=
  iprop((bigSep Finset.univ fun ck : Dev nD × CK => cellInv ER (sched A) (K ck) (kcell ck))
    ∗ (bigSep Finset.univ fun ck : Dev nD × CK => reached ER (kcell ck) 0) ∗ levAts L lv)

instance records_persistent (K : Dev nD × CK → ℕ) : BI.Persistent (records A K) := by unfold records; infer_instance

variable (K : Dev nD × CK → ℕ)

theorem inv_of (ck : Dev nD × CK) :
    (bigSep Finset.univ fun ck : Dev nD × CK => (cellInv ER (sched A) (K ck) (kcell ck) : sProp 𝕄)) ⊢ cellInv ER (sched A) (K ck) (kcell ck) := bigSep_elim (Finset.mem_univ ck)
theorem reached_of (ck : Dev nD × CK) :
    (bigSep Finset.univ fun ck : Dev nD × CK => (reached ER (kcell ck) 0 : sProp 𝕄)) ⊢ reached ER (kcell ck) 0 := bigSep_elim (Finset.mem_univ ck)
theorem rec_bar (c : Dev nD) : records A K ⊢ iprop(cellInv ER (sched A) (K (c, none)) (barCell c) ∗ reached ER (barCell c) 0) := by
  unfold records
  iintro ⟨#HI, #HR, -⟩
  isplitr
  · iapply (inv_of A K (c, none)); iexact HI
  · iapply (reached_of (F := F) (c, none)); iexact HR
theorem rec_x (c : Dev nD) (a : Fin 4) (k : Fin 7) : records A K ⊢ iprop(cellInv ER (sched A) (K (c, some (a, k))) (xCell c a k) ∗ reached ER (xCell c a k) 0) := by
  unfold records
  iintro ⟨#HI, #HR, -⟩
  isplitr
  · iapply (inv_of A K (c, some (a, k))); iexact HI
  · iapply (reached_of (F := F) (c, some (a, k))); iexact HR
theorem rec_lev : records A K ⊢ (levAts L lv : sProp 𝕄) := by unfold records; iintro ⟨-, -, H⟩; iexact H

/-- A copy cell's position and, where the launch made it, its credit. -/
def tick (c : Dev nD) (a : Fin 4) (k : Fin 7) : sProp 𝕄 := iprop(cred (tallyAt (xCell c a k) () NX) ∗ atPos ER (xCell c a k) 0 ∅ 0)

/-! ## The protocol's steps -/

section Steps

variable {α : Type}

/-- Signal the barrier of the device `s + 1` places on, handing it this device's landing buffers of the distance back. -/
theorem wp_sig (c n : Dev nD) (s : Fin 7) (b : ℕ) (hs : Fin.ofNat 7 (6 - b) = s) (hn : n = fwd c s) {S : Sem sig} (hS : S = barS) {w : ℕ} (hw : w = 1)
    {k : PUnit → Prog (TpuEff nD τ sig (Elt F) Λ₀ .tc) α} {Q : α → sProp 𝕄} :
    iprop(records A K ∗ ow c (oAll c 7 7 (b + 1)) ∗ dutyTok ER (barCell (fwd c s)) 0 (rv s) ∗ heldAny c (rsSlot (rv s)) ∗ heldAny c (agSlot (rv s)))
      ⊢ iprop((ow c (oAll c 7 7 b) -∗ WP c (k ⟨⟩) Q) -∗ WP c (.op (.semSignal (n : Thread nD τ) S w) k) Q) := by
  subst hn hS hw
  unfold ow
  iintro ⟨#HR, ⟨%W, HO⟩, HT, H1, H2⟩ Hk
  ihave HB := (rec_bar A K (fwd c s)) $$ HR
  icases HB with ⟨HI, Hre⟩
  iapply (Rounds.wp_signal (defs := defs₀ (F := F)) 𝒱₀ ER (sched A) (c : Thread nD τ) none (dst := (fwd c s : Thread nD τ)) (κ := K (fwd c s, none)) (W := W)
      (d := rv s) (by rw [duties_bar]; exact Finset.mem_univ _) (amount_bar A (fwd c s) (rv s)) () (O₀ := oAll c 7 7 (b + 1)) (oAll c 7 7 b)
      (by rw [oAll_bar, hs]; rfl)) $$ [HI Hre HO HT H1 H2]
  · isplitl [HI]; · iexact HI
    isplitl [HO]; · iexact HO
    isplitl [HT]; · iexact HT
    isplitl [H1 H2]
    · rw [payload_bar]; unfold barPay; rw [fwd_rv]
      isplitl [H1]; · iexact H1
      iexact H2
    iexact Hre
  iintro HO
  iapply Hk
  iexists W; iexact HO

/-- Wait for all seven: every other device's two landing buffers for this device, and the barrier cell closed. -/
theorem wp_barWait (c : Dev nD) {S : Sem sig} (hS : S = barS) {w : ℕ} (hw : w = 7)
    {k : PUnit → Prog (TpuEff nD τ sig (Elt F) Λ₀ .tc) α} {Q : α → sProp 𝕄} :
    iprop(records A K ∗ ow c (oAll c 7 7 0) ∗ cred (tallyAt (barCell c) () 7) ∗ atPos ER (barCell c) 0 ∅ 0)
      ⊢ iprop(((ow c (oAll c 7 7 0) ∗ semVal (barCell c) 0 ∗ bigSep Finset.univ (barPay c)) -∗ WP c (k ⟨⟩) Q) -∗ WP c (.op (.semWait S w) k) Q) := by
  subst hS hw
  unfold ow
  iintro ⟨#HR, ⟨%W, HO⟩, HC, HP⟩ Hk
  ihave HB := (rec_bar A K c) $$ HR
  icases HB with ⟨#HI, Hre⟩
  ihave Hl := (rec_lev A K) $$ HR
  iapply (Rounds.wp_wait_rest_token (defs := defs₀ (F := F)) 𝒱₀ ER (sched A) (c : Thread nD τ) none (κ := K (c, none))
      (wpE_semWait_eq 𝒱₀ (c : Thread nD τ) none Set.univ) (Set.mem_univ _) () (O := oAll c 7 7 0) (W := W) (R := 0) (m := 0) (T := ∅)
      (by rw [expect_bar])) $$ [HO HC HP Hl]
  · isplitr; · iexact HI
    isplitl [HC]; · iexact HC
    isplitl [HO]; · iexact HO
    isplitl [Hl]; · iapply (mayWait c (.reg barS) 7 7 0 (by decide) (fun _ => by decide) (fun h => absurd h (by decide))); iexact Hl
    iexact HP
  iintro ⟨HO, HP, -, Hpay⟩
  imod (Rounds.cell_close ER (sched A) (Set.mem_univ (K (c, none))) (fun h => h) (R := 0 + 1) (duties_later A (barCell c))) $$ [HP] with Hz
  · isplitr; · iexact HI
    iexact HP
  iapply Hk
  isplitl [HO]; · iexists _; iexact HO
  isplitl [Hz]; · iexact Hz
  iapply (Entails.of_eq (rest_bar A c)) $$ Hpay

/-- Wait on a copy cell: what it hands over, and the cell closed. -/
theorem wp_xWait (c : Dev nD) (a : Fin 4) (kk : Fin 7) {S : DmaSem sig} (hS : S = xS a kk) {sp sp' : Space} {s s' : Shape} {e e' : EltTy}
    {srcw : Memref sig .tc sp s e} {dstw : Memref sig .tc sp' s' e'} {hsrc : srcw.view.WordExact} {hdst : dstw.view.WordExact} (hN : dstw.view.dmaCredit = NX)
    (g r b : ℕ) (hM : (levAts L lv : sProp 𝕄) ⊢ MayWait (c : Thread nD τ) (.dma (xS a kk)) () (oAll c g r b))
    {k : PUnit → Prog (TpuEff nD τ sig (Elt F) Λ₀ .tc) α} {Q : α → sProp 𝕄} :
    iprop(records A K ∗ ow c (oAll c g r b) ∗ tick c a kk)
      ⊢ iprop(((ow c (oAll c g r b) ∗ semVal (xCell c a kk) 0 ∗ xPay A c a kk) -∗ WP c (k ⟨⟩) Q) -∗ WP c (.op (.waitDma2 S srcw dstw hsrc hdst) k) Q) := by
  subst hS
  unfold ow tick
  iintro ⟨#HR, ⟨%W, HO⟩, HC, HP⟩ Hk
  ihave HB := (rec_x A K c a kk) $$ HR
  icases HB with ⟨#HI, Hre⟩
  ihave Hl := (rec_lev A K) $$ HR
  iapply (Rounds.wp_wait_rest_token (defs := defs₀ (F := F)) 𝒱₀ ER (sched A) (c : Thread nD τ) none (κ := K (c, some (a, kk)))
      (wpE_waitDma2_eq 𝒱₀ (c : Thread nD τ) none Set.univ) (Set.mem_univ _) () (O := oAll c g r b) (W := W) (R := 0) (m := 0) (T := ∅)
      (by rw [Nat.zero_add, expect_x, hN])) $$ [HO HC HP Hl]
  · isplitr; · iexact HI
    isplitl [HC]; · rw [hN]; iexact HC
    isplitl [HO]; · iexact HO
    isplitl [Hl]; · iapply hM; iexact Hl
    iexact HP
  iintro ⟨HO, HP, -, Hpay⟩
  imod (Rounds.cell_close ER (sched A) (Set.mem_univ (K (c, some (a, kk)))) (fun h => h) (R := 0 + 1) (duties_later A (xCell c a kk))) $$ [HP] with Hz
  · isplitr; · iexact HI
    iexact HP
  iapply Hk
  isplitl [HO]; · iexists _; iexact HO
  isplitl [Hz]; · iexact Hz
  iapply (Entails.of_eq (rest_x A c a kk)) $$ Hpay

/-- Start a copy to the device `kk + 1` places on, from a send cell of kind `a` to a receive cell of kind `a'`. -/
theorem wp_xSend (c n : Dev nD) (a a' : Fin 4) (kk : Fin 7) (hn : n = fwd c kk) {S S' : DmaSem sig} (hS : S = xS a kk) (hS' : S' = xS a' kk)
    {src src' dst dst' : Memref sig .tc .vmem S136x128 .f32} (hsm : src = src') (hdm : dst = dst')
    {hsc : dst.view.ref.isScScratch = false} {hsrc : src.view.WordExact} {hdst : dst.view.WordExact}
    {hsem : DmaTarget.Typed .vmem (.dma S') (DmaTarget.remote (nD := nD) (τ := τ) (p := .tc) (Dev.tc n : Thread nD τ) dst (.dma S) hsc)}
    (q : PosShare TreeShare) (X : S136x128.Idx → Elt F .f32) (hN : dst'.view.amount (.dma S') = NX)
    (O O' : CellTallies nD τ sig Unit) (hO : O = O' + ox c a' kk)
    (hp₁ : held c src' q X ⊢ xPay A c a kk) (hp₂ : held (fwd c kk) dst' fullShare X ⊢ xPay A (fwd c kk) a' kk)
    {k : PUnit → Prog (TpuEff nD τ sig (Elt F) Λ₀ .tc) α} {Q : α → sProp 𝕄} :
    iprop(records A K ∗ ow c O ∗ held c src' q X ∗ heldAny (fwd c kk) dst' ∗ dutyTok ER (xCell c a kk) 0 0 ∗ dutyTok ER (xCell (fwd c kk) a' kk) 0 0)
      ⊢ iprop(((ow c O' ∗ cred (tallyAt (xCell c a kk) () NX)) -∗ WP c (k ⟨⟩) Q)
          -∗ WP c (.op (.enqueueDma src (.remote (Dev.tc n : Thread nD τ) dst (.dma S) hsc) (.dma S') hsrc hdst hsem) k) Q) := by
  subst hn hS hS' hsm hdm
  unfold ow heldAny
  iintro ⟨#HR, ⟨%W, HO⟩, Hs, ⟨%fd, Hd⟩, HT, HT'⟩ Hk
  ihave HB := (rec_x A K c a kk) $$ HR
  icases HB with ⟨HI, Hre⟩
  ihave HB' := (rec_x A K (fwd c kk) a' kk) $$ HR
  icases HB' with ⟨HI', Hre'⟩
  have e := held_of (fwd c kk) dst fullShare (dst.view.write (Elt F) fd (src.view.read (Elt F) (src.view.rep X)) Finset.univ)
  rw [View.read_write_univ, View.read_rep] at e
  have e' : (dst.view.loc (fwd c kk : Thread nD τ) ↦[dst.view.set]{fullShare} dst.view.write (Elt F) fd (src.view.read (Elt F) (src.view.rep X)) Finset.univ : sProp 𝕄)
      = held (fwd c kk) dst fullShare X := by
    rw [View.read_rep]; exact e
  iapply (Rounds.wp_send_pointsTo (defs := defs₀ (F := F)) 𝒱₀ ER (sched A) (c : Thread nD τ) none (κ₁ := K (c, some (a, kk))) (κ₂ := K (fwd c kk, some (a', kk)))
    (r₁ := 0) (r₂ := 0) (d₁ := 0) (d₂ := 0) (fd := fd) (q := q) (fs := src.view.rep X)
    (by rw [duties_x]; exact Finset.mem_singleton_self _) (by rw [duties_x]; exact Finset.mem_singleton_self _)
    () () NX hN (amount_x A c a kk 0) (amount_x A (fwd c kk) a' kk 0) O' hO (W := W)
    (by rw [payload_x]; exact hp₁)
    (by rw [payload_x]; exact (Entails.of_eq e').trans hp₂)) $$ [HI HI' Hs Hd HO HT HT' Hre Hre']
  · isplitl [HI]; · iexact HI
    isplitl [HI']; · iexact HI'
    isplitl [Hs]; · unfold held; iexact Hs
    isplitl [Hd]; · iexact Hd
    isplitl [HO]; · iexact HO
    isplitl [HT]; · iexact HT
    isplitl [Hre]; · iexact Hre
    isplitl [HT']; · iexact HT'
    iexact Hre'
  iintro ⟨HC, HO⟩
  iapply Hk
  isplitl [HO]; · iexists W; iexact HO
  iexact HC

end Steps

end Cert.KProof

end
-- ==== Proof.Steps.lean ====
/-
# The kernel's steps, one rule each

Where the printed operations name their buffers and semaphores by offsets, these say which buffer or semaphore it is; and each
kind of copy, wait and signal has one rule over the bundle it takes and the bundle it leaves.
-/
module

public import proofs.«01_k».proof.Proof.Proto

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Where the printed offsets point -/

theorem xS_eq0 (k : Fin 7) {off : Fin 1 → ℕ} {inb : ∀ a, off a + S1.size a ≤ S7.size a} (h : off = ![k.val]) :
    (((cc0_scratch12 : DmaSems sig S7).slice (Rect.unit (s := S7) off S1.size inb)).squeeze S_ squeezes_S1_S_).sem = xS 0 k := by
  subst h; revert k; decide +kernel
theorem xS_eq1 (k : Fin 7) {off : Fin 1 → ℕ} {inb : ∀ a, off a + S1.size a ≤ S7.size a} (h : off = ![k.val]) :
    (((cc0_scratch13 : DmaSems sig S7).slice (Rect.unit (s := S7) off S1.size inb)).squeeze S_ squeezes_S1_S_).sem = xS 1 k := by
  subst h; revert k; decide +kernel
theorem xS_eq2 (k : Fin 7) {off : Fin 1 → ℕ} {inb : ∀ a, off a + S1.size a ≤ S7.size a} (h : off = ![k.val]) :
    (((cc0_scratch14 : DmaSems sig S7).slice (Rect.unit (s := S7) off S1.size inb)).squeeze S_ squeezes_S1_S_).sem = xS 2 k := by
  subst h; revert k; decide +kernel
theorem xS_eq3 (k : Fin 7) {off : Fin 1 → ℕ} {inb : ∀ a, off a + S1.size a ≤ S7.size a} (h : off = ![k.val]) :
    (((cc0_scratch15 : DmaSems sig S7).slice (Rect.unit (s := S7) off S1.size inb)).squeeze S_ squeezes_S1_S_).sem = xS 3 k := by
  subst h; revert k; decide +kernel
theorem stS_eq (k : Fin 3) {off : Fin 1 → ℕ} {inb : ∀ a, off a + S1.size a ≤ S3.size a} (h : off = ![k.val]) :
    (((cc0_scratch11 : DmaSems sig S3).slice (Rect.unit (s := S3) off S1.size inb)).squeeze S_ squeezes_S1_S_).sem = stS k := by
  subst h; revert k; decide +kernel
theorem kvS_eq (b : Fin 2) (n : Fin 4) {off : Fin 2 → ℕ} {inb : ∀ a, off a + S1x1.size a ≤ S2x4.size a} (h : off = ![b.val, n.val]) :
    (((cc0_scratch10 : DmaSems sig S2x4).slice (Rect.unit (s := S2x4) off S1x1.size inb)).squeeze S_ squeezes_S1x1_S_).sem = kvS b n := by
  subst h; revert b n; decide +kernel

theorem slab_eq (d : Fin 8) {off : Fin 2 → ℕ} {inb : ∀ a, off a + S136x128.size a ≤ S1088x128.size a} (h : off = ![136 * d.val, 0]) :
    accM.slice (Rect.unit (s := S1088x128) off S136x128.size inb) (fun _ => rfl) = slab d := by subst h; rfl
theorem land_eq (M : Memref sig .tc .vmem S7x136x128 .f32) (k : Fin 7) {off : Fin 3 → ℕ} {inb : ∀ a, off a + S1x136x128.size a ≤ S7x136x128.size a} (h : off = ![k.val, 0, 0]) :
    (M.slice (Rect.unit (s := S7x136x128) off S1x136x128.size inb) (fun _ => rfl)).squeeze S136x128 squeezes_S1x136x128_S136x128 = landOf M k := by subst h; rfl
theorem kvSlot_eq (b : Fin 2) (n : Fin 4) {off : Fin 4 → ℕ} {inb : ∀ a, off a + S1x1x4096x128.size a ≤ S2x4x4096x128.size a} (h : off = ![b.val, n.val, 0, 0]) :
    (kvM.slice (Rect.unit (s := S2x4x4096x128) off S1x1x4096x128.size inb) (fun _ => rfl)).squeeze S4096x128 squeezes_S1x1x4096x128_S4096x128 = kvSlot b n := by subst h; rfl

/-- Slot `n` holds group `grp n` of the keys (0, 1) or of the values (2, 3). -/
def grp : Fin 4 → Fin 2 := ![0, 1, 0, 1]
def srcM (n : Fin 4) : Memref sig .tc .hbm S1x32768x2x128 .f32 := if n.val < 2 then kM else vM
def arr (a : Args F) (n : Fin 4) : S1x32768x2x128.Idx → Elt F .f32 := if n.val < 2 then a.k else a.v
/-- Chunk `t` of a keys or values array, in HBM. -/
abbrev chunkM (M : Memref sig .tc .hbm S1x32768x2x128 .f32) (t : Fin 8) (g : Fin 2) : Memref sig .tc .hbm S4096x128 .f32 :=
  (M.slice (chunkRect t g) (fun _ => rfl)).squeeze S4096x128 squeezes_S1x4096x1x128_S4096x128
theorem chunkM_eq (M : Memref sig .tc .hbm S1x32768x2x128 .f32) (t : Fin 8) (g : Fin 2) {off : Fin 4 → ℕ} {inb : ∀ a, off a + S1x4096x1x128.size a ≤ S1x32768x2x128.size a}
    (h : off = ![0, 4096 * t.val, g.val, 0]) :
    (M.slice (Rect.unit (s := S1x32768x2x128) off S1x4096x1x128.size inb) (fun _ => rfl)).squeeze S4096x128 squeezes_S1x4096x1x128_S4096x128 = chunkM M t g := by subst h; rfl

/-- The parity of a grid point, and the other one. -/
def par (t : ℕ) : Fin 2 := ⟨t % 2, Nat.mod_lt _ (by decide)⟩

variable (i : grid0.Coords)

theorem off11_eq : k0_off11 i = ![(par (i 0).val).val, (0 : Fin 4).val] := by revert i; decide +kernel
theorem off14_eq : k0_off14 i = ![(par (i 0).val).val, (1 : Fin 4).val] := by revert i; decide +kernel
theorem off17_eq : k0_off17 i = ![(par (i 0).val).val, (2 : Fin 4).val] := by revert i; decide +kernel
theorem off19_eq : k0_off19 i = ![(par (i 0).val).val, (3 : Fin 4).val] := by revert i; decide +kernel
theorem off1_eq : k0_off1 i = ![(par ((i 0).val + 1)).val, (0 : Fin 4).val] := by revert i; decide +kernel
theorem off4_eq : k0_off4 i = ![(par ((i 0).val + 1)).val, (1 : Fin 4).val] := by revert i; decide +kernel
theorem off7_eq : k0_off7 i = ![(par ((i 0).val + 1)).val, (2 : Fin 4).val] := by revert i; decide +kernel
theorem off9_eq : k0_off9 i = ![(par ((i 0).val + 1)).val, (3 : Fin 4).val] := by revert i; decide +kernel
theorem off12_eq : k0_off12 i = ![(par (i 0).val).val, (0 : Fin 4).val, 0, 0] := by revert i; decide +kernel
theorem off15_eq : k0_off15 i = ![(par (i 0).val).val, (1 : Fin 4).val, 0, 0] := by revert i; decide +kernel
theorem off18_eq : k0_off18 i = ![(par (i 0).val).val, (2 : Fin 4).val, 0, 0] := by revert i; decide +kernel
theorem off20_eq : k0_off20 i = ![(par (i 0).val).val, (3 : Fin 4).val, 0, 0] := by revert i; decide +kernel
theorem off21_eq : k0_off21 i = ![(par (i 0).val).val, (0 : Fin 4).val, 0, 0] := by revert i; decide +kernel
theorem off23_eq : k0_off23 i = ![(par (i 0).val).val, (1 : Fin 4).val, 0, 0] := by revert i; decide +kernel
theorem off22_eq : k0_off22 i = ![(par (i 0).val).val, (2 : Fin 4).val, 0, 0] := by revert i; decide +kernel
theorem off24_eq : k0_off24 i = ![(par (i 0).val).val, (3 : Fin 4).val, 0, 0] := by revert i; decide +kernel
theorem off2_eq : k0_off2 i = ![(par ((i 0).val + 1)).val, (0 : Fin 4).val, 0, 0] := by revert i; decide +kernel
theorem off5_eq : k0_off5 i = ![(par ((i 0).val + 1)).val, (1 : Fin 4).val, 0, 0] := by revert i; decide +kernel
theorem off8_eq : k0_off8 i = ![(par ((i 0).val + 1)).val, (2 : Fin 4).val, 0, 0] := by revert i; decide +kernel
theorem off10_eq : k0_off10 i = ![(par ((i 0).val + 1)).val, (3 : Fin 4).val, 0, 0] := by revert i; decide +kernel
theorem off13_eq : k0_off13 i = ![0, 4096 * (pt (i 0).val).val, (0 : Fin 2).val, 0] := by revert i; decide +kernel
theorem off16_eq : k0_off16 i = ![0, 4096 * (pt (i 0).val).val, (1 : Fin 2).val, 0] := by revert i; decide +kernel
theorem off3_eq (h : k0_cond2 i = 1#1) : k0_off3 i = ![0, 4096 * (pt ((i 0).val + 1)).val, (0 : Fin 2).val, 0] := by revert i; decide +kernel
theorem off6_eq (h : k0_cond2 i = 1#1) : k0_off6 i = ![0, 4096 * (pt ((i 0).val + 1)).val, (1 : Fin 2).val, 0] := by revert i; decide +kernel
theorem cond2_iff : k0_cond2 i = 1#1 ↔ 0 < (i 0).val ∧ (i 0).val < 7 := by revert i; decide +kernel
theorem cond3_iff : k0_cond3 i = 1#1 ↔ (i 0).val = 7 := by revert i; decide +kernel

variable (c : Dev nD)

theorem off26_eq : k0_off26 c = ![136 * c.val, 0] := by revert c; decide +kernel
theorem off27_eq : k0_off27 c = ![136 * c.val, 0] := by revert c; decide +kernel
theorem off25_eq0 : k0_off25 c 1#32 = ![136 * (fwd c 0).val, 0] := by revert c; decide +kernel
theorem off28_eq0 : k0_off28 c 1#32 = ![136 * (bwd c 0).val, 0] := by revert c; decide +kernel
theorem dev1_eq (h : k0_dev1 c < nD) : (⟨k0_dev1 c, h⟩ : Dev nD) = fwd c 0 := by revert c; decide +kernel
theorem dev8_eq (h : k0_dev8 c < nD) : (⟨k0_dev8 c, h⟩ : Dev nD) = fwd c 0 := by revert c; decide +kernel
theorem dev15_eq (h : k0_dev15 c < nD) : (⟨k0_dev15 c, h⟩ : Dev nD) = fwd c 0 := by revert c; decide +kernel
theorem off25_eq1 : k0_off25 c 2#32 = ![136 * (fwd c 1).val, 0] := by revert c; decide +kernel
theorem off28_eq1 : k0_off28 c 2#32 = ![136 * (bwd c 1).val, 0] := by revert c; decide +kernel
theorem dev2_eq (h : k0_dev2 c < nD) : (⟨k0_dev2 c, h⟩ : Dev nD) = fwd c 1 := by revert c; decide +kernel
theorem dev9_eq (h : k0_dev9 c < nD) : (⟨k0_dev9 c, h⟩ : Dev nD) = fwd c 1 := by revert c; decide +kernel
theorem dev16_eq (h : k0_dev16 c < nD) : (⟨k0_dev16 c, h⟩ : Dev nD) = fwd c 1 := by revert c; decide +kernel
theorem off25_eq2 : k0_off25 c 3#32 = ![136 * (fwd c 2).val, 0] := by revert c; decide +kernel
theorem off28_eq2 : k0_off28 c 3#32 = ![136 * (bwd c 2).val, 0] := by revert c; decide +kernel
theorem dev3_eq (h : k0_dev3 c < nD) : (⟨k0_dev3 c, h⟩ : Dev nD) = fwd c 2 := by revert c; decide +kernel
theorem dev10_eq (h : k0_dev10 c < nD) : (⟨k0_dev10 c, h⟩ : Dev nD) = fwd c 2 := by revert c; decide +kernel
theorem dev17_eq (h : k0_dev17 c < nD) : (⟨k0_dev17 c, h⟩ : Dev nD) = fwd c 2 := by revert c; decide +kernel
theorem off25_eq3 : k0_off25 c 4#32 = ![136 * (fwd c 3).val, 0] := by revert c; decide +kernel
theorem off28_eq3 : k0_off28 c 4#32 = ![136 * (bwd c 3).val, 0] := by revert c; decide +kernel
theorem dev4_eq (h : k0_dev4 c < nD) : (⟨k0_dev4 c, h⟩ : Dev nD) = fwd c 3 := by revert c; decide +kernel
theorem dev11_eq (h : k0_dev11 c < nD) : (⟨k0_dev11 c, h⟩ : Dev nD) = fwd c 3 := by revert c; decide +kernel
theorem dev18_eq (h : k0_dev18 c < nD) : (⟨k0_dev18 c, h⟩ : Dev nD) = fwd c 3 := by revert c; decide +kernel
theorem off25_eq4 : k0_off25 c 5#32 = ![136 * (fwd c 4).val, 0] := by revert c; decide +kernel
theorem off28_eq4 : k0_off28 c 5#32 = ![136 * (bwd c 4).val, 0] := by revert c; decide +kernel
theorem dev5_eq (h : k0_dev5 c < nD) : (⟨k0_dev5 c, h⟩ : Dev nD) = fwd c 4 := by revert c; decide +kernel
theorem dev12_eq (h : k0_dev12 c < nD) : (⟨k0_dev12 c, h⟩ : Dev nD) = fwd c 4 := by revert c; decide +kernel
theorem dev19_eq (h : k0_dev19 c < nD) : (⟨k0_dev19 c, h⟩ : Dev nD) = fwd c 4 := by revert c; decide +kernel
theorem off25_eq5 : k0_off25 c 6#32 = ![136 * (fwd c 5).val, 0] := by revert c; decide +kernel
theorem off28_eq5 : k0_off28 c 6#32 = ![136 * (bwd c 5).val, 0] := by revert c; decide +kernel
theorem dev6_eq (h : k0_dev6 c < nD) : (⟨k0_dev6 c, h⟩ : Dev nD) = fwd c 5 := by revert c; decide +kernel
theorem dev13_eq (h : k0_dev13 c < nD) : (⟨k0_dev13 c, h⟩ : Dev nD) = fwd c 5 := by revert c; decide +kernel
theorem dev20_eq (h : k0_dev20 c < nD) : (⟨k0_dev20 c, h⟩ : Dev nD) = fwd c 5 := by revert c; decide +kernel
theorem off25_eq6 : k0_off25 c 7#32 = ![136 * (fwd c 6).val, 0] := by revert c; decide +kernel
theorem off28_eq6 : k0_off28 c 7#32 = ![136 * (bwd c 6).val, 0] := by revert c; decide +kernel
theorem dev7_eq (h : k0_dev7 c < nD) : (⟨k0_dev7 c, h⟩ : Dev nD) = fwd c 6 := by revert c; decide +kernel
theorem dev14_eq (h : k0_dev14 c < nD) : (⟨k0_dev14 c, h⟩ : Dev nD) = fwd c 6 := by revert c; decide +kernel
theorem dev21_eq (h : k0_dev21 c < nD) : (⟨k0_dev21 c, h⟩ : Dev nD) = fwd c 6 := by revert c; decide +kernel

/-! ## Bundles -/

variable (A : Dev nD → Args F)

/-- What a scatter or gather send takes besides its data. -/
def sendTok (c : Dev nD) (a a' : Fin 4) (k : Fin 7) : sProp 𝕄 :=
  iprop(dutyTok ER (xCell c a k) 0 0 ∗ dutyTok ER (xCell (fwd c k) a' k) 0 0 ∗ atPos ER (xCell c a k) 0 ∅ 0)

variable (K : Dev nD × CK → ℕ) {α : Type}

theorem pay_rsSend (kk : Fin 7) (X : S136x128.Idx → Elt F .f32) : (held c (slab (fwd c kk)) fullShare X : sProp 𝕄) ⊢ xPay A c 0 kk := heldAny_of c _ X
theorem pay_rsRecv (kk : Fin 7) : (held (fwd c kk) (rsSlot kk) fullShare (slabV (A c) (fwd c kk)) : sProp 𝕄) ⊢ xPay A (fwd c kk) 1 kk := by
  show _ ⊢ held (fwd c kk) (rsSlot kk) fullShare (slabV (A (bwd (fwd c kk) kk)) (fwd c kk)); rw [bwd_fwd]
theorem pay_agRecv (kk : Fin 7) : (held (fwd c kk) (agSlot kk) fullShare (redV A c) : sProp 𝕄) ⊢ xPay A (fwd c kk) 3 kk := by
  show _ ⊢ held (fwd c kk) (agSlot kk) fullShare (redV A (bwd (fwd c kk) kk)); rw [bwd_fwd]

/-- Device `c` sends slab `c + kk + 1` of its sums to that device. -/
theorem wp_rsSend (kk : Fin 7) (r : ℕ) (hr : Fin.ofNat 7 (6 - r) = kk) {n : Dev nD} (hn : n = fwd c kk) {S S' : DmaSem sig} (hS : S = xS 0 kk) (hS' : S' = xS 1 kk)
    {src dst : Memref sig .tc .vmem S136x128 .f32} (hsm : src = slab (fwd c kk)) (hdm : dst = rsSlot kk)
    {hsc : dst.view.ref.isScScratch = false} {hsrc : src.view.WordExact} {hdst : dst.view.WordExact}
    {hsem : DmaTarget.Typed .vmem (.dma S') (DmaTarget.remote (nD := nD) (τ := τ) (p := .tc) (Dev.tc n : Thread nD τ) dst (.dma S) hsc)}
    {k : PUnit → Prog (TpuEff nD τ sig (Elt F) Λ₀ .tc) α} {Q : α → sProp 𝕄} :
    iprop(records A K ∗ ow c (oAll c 7 (r + 1) 0) ∗ held c (slab (fwd c kk)) fullShare (slabV (A c) (fwd c kk)) ∗ heldAny (fwd c kk) (rsSlot kk) ∗ sendTok c 0 1 kk)
      ⊢ iprop(((ow c (oAll c 7 r 0) ∗ tick c 0 kk) -∗ WP c (k ⟨⟩) Q)
          -∗ WP c (.op (.enqueueDma src (.remote (Dev.tc n : Thread nD τ) dst (.dma S) hsc) (.dma S') hsrc hdst hsem) k) Q) := by
  unfold sendTok tick
  iintro ⟨#HR, HO, Hs, Hd, HT, HT', HP⟩ Hk
  iapply (wp_xSend A K c n 0 1 kk hn hS hS' hsm hdm fullShare (slabV (A c) (fwd c kk)) rfl (oAll c 7 (r + 1) 0) (oAll c 7 r 0) (by rw [oAll_rs, hr])
    (pay_rsSend c A kk _) (pay_rsRecv c A kk)) $$ [HO Hs Hd HT HT']
  · isplitr; · iexact HR
    isplitl [HO]; · iexact HO
    isplitl [Hs]; · iexact Hs
    isplitl [Hd]; · iexact Hd
    isplitl [HT]; · iexact HT
    iexact HT'
  iintro ⟨HO, HC⟩
  iapply Hk
  isplitl [HO]; · iexact HO
  isplitl [HC]; · iexact HC
  iexact HP

/-- Device `c` sends its summed slab to the device `kk + 1` places on. -/
theorem wp_agSend (kk : Fin 7) (g : ℕ) (hg : Fin.ofNat 7 (6 - g) = kk) {n : Dev nD} (hn : n = fwd c kk) {S S' : DmaSem sig} (hS : S = xS 2 kk) (hS' : S' = xS 3 kk)
    {src dst : Memref sig .tc .vmem S136x128 .f32} (hsm : src = slab c) (hdm : dst = agSlot kk)
    {hsc : dst.view.ref.isScScratch = false} {hsrc : src.view.WordExact} {hdst : dst.view.WordExact}
    {hsem : DmaTarget.Typed .vmem (.dma S') (DmaTarget.remote (nD := nD) (τ := τ) (p := .tc) (Dev.tc n : Thread nD τ) dst (.dma S) hsc)}
    {k : PUnit → Prog (TpuEff nD τ sig (Elt F) Λ₀ .tc) α} {Q : α → sProp 𝕄} :
    iprop(records A K ∗ ow c (oAll c (g + 1) 0 0) ∗ held c (slab c) (shr kk) (redV A c) ∗ heldAny (fwd c kk) (agSlot kk) ∗ sendTok c 2 3 kk)
      ⊢ iprop(((ow c (oAll c g 0 0) ∗ tick c 2 kk) -∗ WP c (k ⟨⟩) Q)
          -∗ WP c (.op (.enqueueDma src (.remote (Dev.tc n : Thread nD τ) dst (.dma S) hsc) (.dma S') hsrc hdst hsem) k) Q) := by
  unfold sendTok tick
  iintro ⟨#HR, HO, Hs, Hd, HT, HT', HP⟩ Hk
  iapply (wp_xSend A K c n 2 3 kk hn hS hS' hsm hdm (shr kk) (redV A c) rfl (oAll c (g + 1) 0 0) (oAll c g 0 0) (by rw [oAll_ag, hg])
    .rfl (pay_agRecv c A kk)) $$ [HO Hs Hd HT HT']
  · isplitr; · iexact HR
    isplitl [HO]; · iexact HO
    isplitl [Hs]; · iexact Hs
    isplitl [Hd]; · iexact Hd
    isplitl [HT]; · iexact HT
    iexact HT'
  iintro ⟨HO, HC⟩
  iapply Hk
  isplitl [HO]; · iexact HO
  isplitl [HC]; · iexact HC
  iexact HP

/-! ## The keys and values: one slot's copy -/

/-- The parities and groups, numbered. -/
def kvIx (b g : Fin 2) : Fin 4 := ⟨2 * b.val + g.val, by have := b.isLt; have := g.isLt; omega⟩
/-- The share of a keys or values array a slot's copy is lent. -/
def kvQ (b : Fin 2) (n : Fin 4) : PosShare TreeShare := Transfers.dealOf fullShare (Finset.univ : Finset (Fin 4)) (kvIx b (grp n))

variable (a : Args F)

/-- A slot free, its semaphore, and its share of the array. -/
def idle (b : Fin 2) (n : Fin 4) : sProp 𝕄 :=
  iprop(heldAny c (kvSlot b n) ∗ semVal ((c : Thread nD τ), .dma (kvS b n)) 0 ∗ held c (srcM n) (kvQ b n) (arr a n))
/-- A slot that holds chunk `t`. -/
def full (b : Fin 2) (n : Fin 4) (t : Fin 8) : sProp 𝕄 :=
  iprop(held c (kvSlot b n) fullShare (chunk (arr a n) t (grp n)) ∗ semVal ((c : Thread nD τ), .dma (kvS b n)) 0 ∗ held c (srcM n) (kvQ b n) (arr a n))
/-- A slot chunk `t` is on its way to. -/
def busy (b : Fin 2) (n : Fin 4) (t : Fin 8) : sProp 𝕄 :=
  iprop(fly c (kvS b n) (chunkM (srcM n) t (grp n)) (kvSlot b n) (kvQ b n) (chunk (arr a n) t (grp n))
    ∗ (held c (chunkM (srcM n) t (grp n)) (kvQ b n) (chunk (arr a n) t (grp n)) -∗ held c (srcM n) (kvQ b n) (arr a n)))

theorem idle_of_full (b : Fin 2) (n : Fin 4) (t : Fin 8) : full c a b n t ⊢ idle c a b n := by
  unfold full idle
  iintro ⟨H, Hs, HP⟩
  isplitl [H]; · iapply (heldAny_of c (kvSlot b n) _); iexact H
  isplitl [Hs]; · iexact Hs
  iexact HP

theorem kvS_low (b : Fin 2) (n : Fin 4) : lvS (.dma (kvS b n)) = 0 := by revert b n; decide
theorem stS_low (k : Fin 3) : lvS (.dma (stS k)) = 0 := by revert k; decide

theorem wp_kvIssue (b : Fin 2) (n : Fin 4) (t : Fin 8) {S : DmaSem sig} (hS : S = kvS b n) {src : Memref sig .tc .hbm S4096x128 .f32} {dst : Memref sig .tc .vmem S4096x128 .f32}
    (hs : src = chunkM (srcM n) t (grp n)) (hd : dst = kvSlot b n)
    {hsrc : src.view.WordExact} {hdst : dst.view.WordExact} {hsem : DmaTarget.Typed .hbm (.dma S) (DmaTarget.here (nD := nD) (τ := τ) (p := .tc) dst)}
    {k : PUnit → Prog (TpuEff nD τ sig (Elt F) Λ₀ .tc) α} {Q : α → sProp 𝕄} :
    (idle c a b n) ⊢ iprop((busy c a b n t -∗ WP c (k ⟨⟩) Q) -∗ WP c (.op (.enqueueDma src (.here dst) (.dma S) hsrc hdst hsem) k) Q) := by
  unfold idle busy
  iintro ⟨Hd, Hv, HP⟩ Hk
  ihave HP := (lend c (srcM n) (chunkRect t (grp n)) (fun _ => rfl) squeezes_S1x4096x1x128_S4096x128 (kvQ b n) (arr a n)) $$ HP
  icases HP with ⟨Hs, HP⟩
  iapply (wp_issue c hS hs hd (View.dmaCredit_pos _ (by decide))) $$ [Hd Hv Hs]
  · isplitl [Hs]; · iexact Hs
    isplitl [Hd]; · iexact Hd
    iexact Hv
  iintro Hf
  iapply Hk
  isplitl [Hf]; · iexact Hf
  iexact HP

theorem wp_kvLand (b : Fin 2) (n : Fin 4) (t : Fin 8) {S : DmaSem sig} (hS : S = kvS b n) {src : Memref sig .tc .hbm S4096x128 .f32} {dst : Memref sig .tc .vmem S4096x128 .f32}
    (hd : dst = kvSlot b n) {hsrc : src.view.WordExact} {hdst : dst.view.WordExact}
    {k : PUnit → Prog (TpuEff nD τ sig (Elt F) Λ₀ .tc) α} {Q : α → sProp 𝕄} :
    iprop(records A K ∗ ow c (oAll c 7 7 7) ∗ busy c a b n t)
      ⊢ iprop(((ow c (oAll c 7 7 7) ∗ full c a b n t) -∗ WP c (k ⟨⟩) Q) -∗ WP c (.op (.waitDma2 S src dst hsrc hdst) k) Q) := by
  unfold busy full
  iintro ⟨#HR, HO, Hf, HP⟩ Hk
  ihave Hl := (rec_lev A K) $$ HR
  iapply (wp_land c hS hd rfl) $$ [Hf HO Hl]
  · isplitl [Hf]; · iexact Hf
    isplitl [HO]; · iexact HO
    iapply (mayWait c (.dma (kvS b n)) 7 7 7 (by rw [kvS_low]; decide) (fun _ => by rw [kvS_low]; decide) (fun _ => by rw [kvS_low]; decide)); iexact Hl
  iintro ⟨Hd, Hs, Hv, HO⟩
  iapply Hk
  isplitl [HO]; · iexact HO
  isplitl [Hd]; · iexact Hd
  isplitl [Hv]; · iexact Hv
  iapply HP; iexact Hs

/-- The wait on a staging copy. -/
theorem wp_stLand (j : Fin 3) (g r b : ℕ) {sp : Space} {s : Shape} {S : DmaSem sig} (hS : S = stS j) {srcw src : Memref sig .tc sp s .f32} {dstw dst : Memref sig .tc .vmem s .f32}
    (hd : dstw = dst) {hsrc : srcw.view.WordExact} {hdst : dstw.view.WordExact} {q : PosShare TreeShare} {X : s.Idx → Elt F .f32}
    {k : PUnit → Prog (TpuEff nD τ sig (Elt F) Λ₀ .tc) α} {Q : α → sProp 𝕄} :
    iprop(records A K ∗ ow c (oAll c g r b) ∗ fly c (stS j) src dst q X)
      ⊢ iprop(((ow c (oAll c g r b) ∗ held c dst fullShare X ∗ held c src q X ∗ semVal ((c : Thread nD τ), .dma (stS j)) 0) -∗ WP c (k ⟨⟩) Q)
        -∗ WP c (.op (.waitDma2 S srcw dstw hsrc hdst) k) Q) := by
  iintro ⟨#HR, HO, Hf⟩ Hk
  ihave Hl := (rec_lev A K) $$ HR
  iapply (wp_land c hS hd rfl) $$ [Hf HO Hl]
  · isplitl [Hf]; · iexact Hf
    isplitl [HO]; · iexact HO
    iapply (mayWait c (.dma (stS j)) g r b (by rw [stS_low]; decide) (fun _ => by rw [stS_low]; decide) (fun _ => by rw [stS_low]; decide)); iexact Hl
  iintro ⟨Hd, Hs, Hv, HO⟩
  iapply Hk
  isplitl [HO]; · iexact HO
  isplitl [Hd]; · iexact Hd
  isplitl [Hs]; · iexact Hs
  iexact Hv

/-- Whatever a window holds is something it reads. -/
theorem heldAny_some {sp : Space} {s : Shape} {e : EltTy} (M : Memref sig .tc sp s e) : (heldAny c M : sProp 𝕄) ⊢ iprop(∃ X, held c M fullShare X) := by
  unfold heldAny
  iintro ⟨%f, H⟩
  iexists (M.view.read (Elt F) f)
  iapply (Entails.of_eq (held_of c M fullShare f)) $$ H

/-! ## Loads and stores at a printed rectangle -/

theorem wp_ldw {cs : CoreSpace} {s : Shape} {e : EltTy} (M : Memref sig .tc (.core cs) s e) (X : s.Idx → Elt F e) {off size : Fin s.rank → ℕ}
    {inb : ∀ a, off a + size a ≤ s.size a} {hl : M.view.LoadsAt (Rect.unit off size inb).toLoadRect}
    {k : ((Rect.unit off size inb).shape.Idx → Elt F e) → Prog (TpuEff nD τ sig (Elt F) Λ₀ .tc) α} {q : PosShare TreeShare} {Q : α → sProp 𝕄} :
    held c M q X ⊢ iprop((held c M q X -∗ WP c (k (VecWindow.window X off size inb)) Q) -∗ WP c (.op (.load M (Rect.unit off size inb).toLoadRect hl) k) Q) :=
  wp_ld c M rfl inb

theorem wp_stTo {cs : CoreSpace} {s : Shape} {e : EltTy} (M : Memref sig .tc (.core cs) s e) (off size : Fin s.rank → ℕ) (X X' : s.Idx → Elt F e)
    (w : (⟨s.rank, size⟩ : Shape).Idx → Elt F e) (hX : VecWindow.put X off size w = X')
    {inb : ∀ a, off a + size a ≤ s.size a} {hx : (M.access (Rect.unit off size inb)).Stores Finset.univ}
    {hm : Finset.univ = Finset.univ ∨ ∀ a, (Rect.unit off size inb).stride a = 1}
    {k : PUnit → Prog (TpuEff nD τ sig (Elt F) Λ₀ .tc) α} {Q : α → sProp 𝕄} :
    held c M fullShare X ⊢ iprop((held c M fullShare X' -∗ WP c (k ⟨⟩) Q) -∗ WP c (.op (.store M (Rect.unit off size inb) w Finset.univ hx hm) k) Q) := by
  subst hX
  exact wp_st c M rfl

/-- What a signal takes: the duty paid, and the two landing buffers handed over. -/
def sigTok (s : Fin 7) : sProp 𝕄 := iprop(dutyTok ER (barCell (fwd c s)) 0 (rv s) ∗ heldAny c (rsSlot (rv s)) ∗ heldAny c (agSlot (rv s)))

theorem wp_sigB (s : Fin 7) (b : ℕ) (hs : Fin.ofNat 7 (6 - b) = s) {n : Dev nD} (hn : n = fwd c s) {S : Sem sig} (hS : S = barS) {w : ℕ} (hw : w = 1)
    {k : PUnit → Prog (TpuEff nD τ sig (Elt F) Λ₀ .tc) α} {Q : α → sProp 𝕄} :
    iprop(records A K ∗ ow c (oAll c 7 7 (b + 1)) ∗ sigTok c s)
      ⊢ iprop((ow c (oAll c 7 7 b) -∗ WP c (k ⟨⟩) Q) -∗ WP c (.op (.semSignal (n : Thread nD τ) S w) k) Q) := by
  unfold sigTok
  exact wp_sig A K c n s b hs hn hS hw

/-- A wait on a copy cell while what is owed lies above it. -/
theorem wp_rsLand (kk : Fin 7) {S : DmaSem sig} (hS : S = xS 1 kk) {sp sp' : Space} {s s' : Shape} {e e' : EltTy}
    {srcw : Memref sig .tc sp s e} {dstw : Memref sig .tc sp' s' e'} (dst₀ : Memref sig .tc sp' s' e') (hd : dstw = dst₀) {hsrc : srcw.view.WordExact} {hdst : dstw.view.WordExact} (hN : dst₀.view.dmaCredit = NX)
    {k : PUnit → Prog (TpuEff nD τ sig (Elt F) Λ₀ .tc) α} {Q : α → sProp 𝕄} :
    iprop(records A K ∗ ow c (oAll c 7 0 0) ∗ tick c 1 kk)
      ⊢ iprop(((ow c (oAll c 7 0 0) ∗ semVal (xCell c 1 kk) 0 ∗ held c (rsSlot kk) fullShare (slabV (A (bwd c kk)) c)) -∗ WP c (k ⟨⟩) Q)
        -∗ WP c (.op (.waitDma2 S srcw dstw hsrc hdst) k) Q) :=
  wp_xWait A K c 1 kk hS (hd ▸ hN) 7 0 0 (mayWait c _ 7 0 0 (by rw [lv_rs]; decide) (fun h => absurd h (by decide)) (fun h => absurd h (by decide)))
theorem rsSend_low (k : Fin 7) : lvS (.dma (xS 0 k)) = 0 := by revert k; decide
theorem wp_rsBack (kk : Fin 7) {S : DmaSem sig} (hS : S = xS 0 kk) {sp sp' : Space} {s s' : Shape} {e e' : EltTy}
    {srcw : Memref sig .tc sp s e} {dstw : Memref sig .tc sp' s' e'} (dst₀ : Memref sig .tc sp' s' e') (hd : dstw = dst₀) {hsrc : srcw.view.WordExact} {hdst : dstw.view.WordExact} (hN : dst₀.view.dmaCredit = NX)
    {k : PUnit → Prog (TpuEff nD τ sig (Elt F) Λ₀ .tc) α} {Q : α → sProp 𝕄} :
    iprop(records A K ∗ ow c (oAll c 7 0 0) ∗ tick c 0 kk)
      ⊢ iprop(((ow c (oAll c 7 0 0) ∗ semVal (xCell c 0 kk) 0 ∗ heldAny c (slab (fwd c kk))) -∗ WP c (k ⟨⟩) Q)
        -∗ WP c (.op (.waitDma2 S srcw dstw hsrc hdst) k) Q) :=
  wp_xWait A K c 0 kk hS (hd ▸ hN) 7 0 0 (mayWait c _ 7 0 0 (by rw [rsSend_low]; decide) (fun h => absurd h (by decide)) (fun h => absurd h (by decide)))
theorem wp_agLand (kk : Fin 7) {S : DmaSem sig} (hS : S = xS 3 kk) {sp sp' : Space} {s s' : Shape} {e e' : EltTy}
    {srcw : Memref sig .tc sp s e} {dstw : Memref sig .tc sp' s' e'} (dst₀ : Memref sig .tc sp' s' e') (hd : dstw = dst₀) {hsrc : srcw.view.WordExact} {hdst : dstw.view.WordExact} (hN : dst₀.view.dmaCredit = NX)
    {k : PUnit → Prog (TpuEff nD τ sig (Elt F) Λ₀ .tc) α} {Q : α → sProp 𝕄} :
    iprop(records A K ∗ ow c (oAll c 0 0 0) ∗ tick c 3 kk)
      ⊢ iprop(((ow c (oAll c 0 0 0) ∗ semVal (xCell c 3 kk) 0 ∗ held c (agSlot kk) fullShare (redV A (bwd c kk))) -∗ WP c (k ⟨⟩) Q)
        -∗ WP c (.op (.waitDma2 S srcw dstw hsrc hdst) k) Q) :=
  wp_xWait A K c 3 kk hS (hd ▸ hN) 0 0 0 (mayWait_done c _)
theorem wp_agBack (kk : Fin 7) {S : DmaSem sig} (hS : S = xS 2 kk) {sp sp' : Space} {s s' : Shape} {e e' : EltTy}
    {srcw : Memref sig .tc sp s e} {dstw : Memref sig .tc sp' s' e'} (dst₀ : Memref sig .tc sp' s' e') (hd : dstw = dst₀) {hsrc : srcw.view.WordExact} {hdst : dstw.view.WordExact} (hN : dst₀.view.dmaCredit = NX)
    {k : PUnit → Prog (TpuEff nD τ sig (Elt F) Λ₀ .tc) α} {Q : α → sProp 𝕄} :
    iprop(records A K ∗ ow c (oAll c 0 0 0) ∗ tick c 2 kk)
      ⊢ iprop(((ow c (oAll c 0 0 0) ∗ semVal (xCell c 2 kk) 0 ∗ held c (slab c) (shr kk) (redV A c)) -∗ WP c (k ⟨⟩) Q)
        -∗ WP c (.op (.waitDma2 S srcw dstw hsrc hdst) k) Q) :=
  wp_xWait A K c 2 kk hS (hd ▸ hN) 0 0 0 (mayWait_done c _)

/-- A squeezed slot's load, cast to the slot's shape, is what the slot holds. -/
theorem cast_unsq {s s' : Shape} {β : Type} (hq : s.Squeezes s') (X : s'.Idx → β) (h : s.ShapeCasts s') : shapeCast s' (unsq hq X) h = X := by
  funext y
  exact congrArg X (Equiv.symm_apply_apply (Shape.reshapeEquiv hq.numel_eq) y)

theorem cast_cast_unsq {s s' : Shape} {β : Type} (hq : s.Squeezes s') (X : s'.Idx → β) (h : s.ShapeCasts s') (h' : s'.ShapeCasts s') :
    shapeCast s' (shapeCast s' (unsq hq X) h) h' = X := by
  rw [cast_unsq hq X h]
  funext y
  exact congrArg X (Shape.reshapeEquiv_self _ y)

/-- A landing buffer's load, cast to a slab, is what the buffer holds. -/
theorem pay27_unsq (X : S136x128.Idx → Elt F .f32) : k0_pay27 (unsq squeezes_S1x136x128_S136x128 X) = X :=
  cast_cast_unsq squeezes_S1x136x128_S136x128 X shapeCasts_S1x136x128_S136x128 shapeCasts_S136x128_S136x128

/-- A load whose window is known by another name. -/
theorem wp_ldTo {cs : CoreSpace} {s : Shape} {e : EltTy} (M : Memref sig .tc (.core cs) s e) (X : s.Idx → Elt F e) (off size : Fin s.rank → ℕ)
    {inb : ∀ a, off a + size a ≤ s.size a} {hl : M.view.LoadsAt (Rect.unit off size inb).toLoadRect} (w : (Rect.unit off size inb).shape.Idx → Elt F e)
    (hX : VecWindow.window X off size inb = w)
    {k : ((Rect.unit off size inb).shape.Idx → Elt F e) → Prog (TpuEff nD τ sig (Elt F) Λ₀ .tc) α} {q : PosShare TreeShare} {Q : α → sProp 𝕄} :
    held c M q X ⊢ iprop((held c M q X -∗ WP c (k w) Q) -∗ WP c (.op (.load M (Rect.unit off size inb).toLoadRect hl) k) Q) := by
  subst hX
  exact wp_ldw c M X

/-- A store that covers a slice held by itself. -/
theorem wp_stSl {cs : CoreSpace} {s : Shape} {e : EltTy} (M : Memref sig .tc (.core cs) s e) {off off' size : Fin s.rank → ℕ}
    {inb : ∀ a, off a + size a ≤ s.size a} {w : (Rect.unit off size inb).shape.Idx → Elt F e} {hx : (M.access (Rect.unit off size inb)).Stores Finset.univ}
    {hm : Finset.univ = Finset.univ ∨ ∀ a, (Rect.unit off size inb).stride a = 1} (inb' : ∀ a, off' a + size a ≤ s.size a) (ho : off = off')
    (w' : (⟨s.rank, size⟩ : Shape).Idx → Elt F e) (hw : w = w')
    {k : PUnit → Prog (TpuEff nD τ sig (Elt F) Λ₀ .tc) α} {X : (Rect.unit off' size inb').shape.Idx → Elt F e} {Q : α → sProp 𝕄} :
    held c (M.slice (Rect.unit off' size inb') (fun _ => rfl)) fullShare X
      ⊢ iprop((held c (M.slice (Rect.unit off' size inb') (fun _ => rfl)) fullShare w' -∗ WP c (k ⟨⟩) Q)
        -∗ WP c (.op (.store M (Rect.unit off size inb) w Finset.univ hx hm) k) Q) := by
  subst hw
  exact wp_stSlice c M inb' ho

/-- The send that has left: the slab it left from, known by the device it is for. -/
theorem wp_rsHome (kk j : Fin 7) (hj : fwd c kk = bwd c j) {S : DmaSem sig} (hS : S = xS 0 kk) {sp sp' : Space} {s s' : Shape} {e e' : EltTy}
    {srcw : Memref sig .tc sp s e} {dstw : Memref sig .tc sp' s' e'} (dst₀ : Memref sig .tc sp' s' e') (hd : dstw = dst₀) {hsrc : srcw.view.WordExact} {hdst : dstw.view.WordExact} (hN : dst₀.view.dmaCredit = NX)
    {k : PUnit → Prog (TpuEff nD τ sig (Elt F) Λ₀ .tc) α} {Q : α → sProp 𝕄} :
    iprop(records A K ∗ ow c (oAll c 7 0 0) ∗ tick c 0 kk)
      ⊢ iprop(((ow c (oAll c 7 0 0) ∗ semVal (xCell c 0 kk) 0 ∗ heldAny c (slab (bwd c j))) -∗ WP c (k ⟨⟩) Q)
        -∗ WP c (.op (.waitDma2 S srcw dstw hsrc hdst) k) Q) := by
  rw [← hj]
  exact wp_rsBack c A K kk hS dst₀ hd hN

/-- A piece that has returned. -/
theorem wp_fin {x : α} {Q : α → sProp 𝕄} : Q x ⊢ WP c (.ret x : Prog (TpuEff nD τ sig (Elt F) Λ₀ .tc) α) Q := by
  show _ ⊢ wp frame (wpE (defs₀ (F := F)) 𝒱₀ (c : Thread nD τ) none) Set.univ (.ret x) Q
  rw [wp_ret]
  iintro H
  imodintro
  iexact H

/-- One piece after another. -/
theorem wp_seq {β : Type} (p : Prog (TpuEff nD τ sig (Elt F) Λ₀ .tc) β) (k : β → Prog (TpuEff nD τ sig (Elt F) Λ₀ .tc) α) (Q : α → sProp 𝕄) :
    WP c (p.bind k) Q = WP c p (fun x => WP c (k x) Q) := wp_bind ..

/-- A put of the whole of an array. -/
theorem put_whole {s : Shape} {β : Type} (x w w' : s.Idx → β) {off : Fin s.rank → ℕ} (inb : ∀ a, off a + s.size a ≤ s.size a) (h : w = w') :
    VecWindow.put x off s.size w = w' := by rw [put_full x w inb, h]

/-- The hidden states in HBM, as the staging copy names them. -/
abbrev xSq : Memref sig .tc .hbm S128x1024 .f32 :=
  (xM.slice (Rect.unit (s := S1x128x1024) ![0, 0, 0] S1x128x1024.size inb_S1x128x1024_S1x128x1024_0_0_0) (fun _ => rfl)).squeeze S128x1024 squeezes_S1x128x1024_S128x1024

/-- A load of a slot that holds a chunk. -/
theorem wp_ldFull (a : Args F) (b : Fin 2) (n : Fin 4) (t : Fin 8) {off : Fin 4 → ℕ} (ho : off = ![b.val, n.val, 0, 0]) (w : S1x1x4096x128.Idx → Elt F .f32) (hw : slotV (arr a n) t (grp n) = w)
    {inb : ∀ d, off d + S1x1x4096x128.size d ≤ S2x4x4096x128.size d} {hl : kvM.view.LoadsAt (Rect.unit (s := S2x4x4096x128) off S1x1x4096x128.size inb).toLoadRect}
    {k : ((Rect.unit (s := S2x4x4096x128) off S1x1x4096x128.size inb).shape.Idx → Elt F .f32) → Prog (TpuEff nD τ sig (Elt F) Λ₀ .tc) α} {Q : α → sProp 𝕄} :
    full c a b n t ⊢ iprop((full c a b n t -∗ WP c (k w) Q) -∗ WP c (.op (.load kvM (Rect.unit (s := S2x4x4096x128) off S1x1x4096x128.size inb).toLoadRect hl) k) Q) := by
  subst hw
  unfold full slotV
  iintro ⟨H, Hs, HP⟩ Hk
  iapply (wp_ldSlot c kvM (inb_kv b n) squeezes_S1x1x4096x128_S4096x128 ho) $$ H
  iintro H
  iapply Hk
  isplitl [H]; · iexact H
  isplitl [Hs]; · iexact Hs
  iexact HP

theorem wp_then {β : Type} {p : Prog (TpuEff nD τ sig (Elt F) Λ₀ .tc) β} {k : β → Prog (TpuEff nD τ sig (Elt F) Λ₀ .tc) α} {Q : α → sProp 𝕄} :
    WP c p (fun x => WP c (k x) Q) ⊢ WP c (p >>= k) Q := Entails.of_eq (wp_seq c p k Q).symm

theorem wp_lift {β : Type} {e : TpuEff nD τ sig (Elt F) Λ₀ .tc β} {k : β → Prog (TpuEff nD τ sig (Elt F) Λ₀ .tc) α} {Q : α → sProp 𝕄} :
    WP c (.op e k) Q ⊢ WP c (Prog.lift e >>= k) Q := .rfl

end Cert.KProof

end
-- ==== Proof.HeadA.lean ====
/-
# The first grid point's preparations

The staging copies, the first two chunks of keys and values, the cleared sums, and the scaled queries head by head.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem run_part1 (i : grid0.Coords) (oM : Memref sig .tc .vmem S1x128x1024 .f32) (hoM : oM.IsWhole) (c : Dev nD) (A : Dev nD → Args F) (K : Dev nD × CK → ℕ)
    {Q : (PUnit) → sProp 𝕄} :
    iprop(held c xSq fullShare (xsV (A c)) ∗ heldAny c xsM ∗ semVal ((c : Thread nD τ), .dma (stS 0)) 0 ∗ held c wqM fullShare ((A c).wq) ∗ heldAny c wqsM ∗ semVal ((c : Thread nD τ), .dma (stS 1)) 0 ∗ held c woM fullShare ((A c).wo) ∗ heldAny c wosM ∗ semVal ((c : Thread nD τ), .dma (stS 2)) 0 ∗ idle c (A c) 0 0 ∗ idle c (A c) 0 1)
      ⊢ iprop(((fly c (stS 0) xSq xsM fullShare (xsV (A c)) ∗ fly c (stS 1) wqM wqsM fullShare ((A c).wq) ∗ fly c (stS 2) woM wosM fullShare ((A c).wo) ∗ busy c (A c) 0 0 0 ∗ busy c (A c) 0 1 0) -∗ Q (⟨⟩ : (PUnit))) -∗ WP c (k0_part1 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part1_eq_skeleton]; unfold k0_part1_skel
  simp only [semSignalWord, semWaitWord, Prog.lift, Prog.bind_op, Prog.bind_ret, Prog.pure_eq_ret, wp_deviceId]
  iintro ⟨HX, HXd, HXv, HQw, HQwd, HQwv, HW, HWd, HWv, HK00, HK01⟩ Hk
  iapply (wp_issue c (stS_eq 0 rfl) rfl rfl (View.dmaCredit_pos _ (by decide))) $$ [HX HXd HXv]
  · isplitl [HX]; · iexact HX
    isplitl [HXd]; · iexact HXd
    iexact HXv
  iintro HX
  iapply (wp_issue c (stS_eq 1 rfl) rfl rfl (View.dmaCredit_pos _ (by decide))) $$ [HQw HQwd HQwv]
  · isplitl [HQw]; · iexact HQw
    isplitl [HQwd]; · iexact HQwd
    iexact HQwv
  iintro HQw
  iapply (wp_issue c (stS_eq 2 rfl) rfl rfl (View.dmaCredit_pos _ (by decide))) $$ [HW HWd HWv]
  · isplitl [HW]; · iexact HW
    isplitl [HWd]; · iexact HWd
    iexact HWv
  iintro HW
  iapply (wp_kvIssue c (A c) 0 0 0 (kvS_eq 0 0 rfl) (chunkM_eq kM 0 0 rfl) (kvSlot_eq 0 0 rfl)) $$ HK00
  iintro HK00
  iapply (wp_kvIssue c (A c) 0 1 0 (kvS_eq 0 1 rfl) (chunkM_eq kM 0 1 rfl) (kvSlot_eq 0 1 rfl)) $$ HK01
  iintro HK01
  iapply (wp_fin c)
  iapply Hk
  isplitl [HX]; · iexact HX
  isplitl [HQw]; · iexact HQw
  isplitl [HW]; · iexact HW
  isplitl [HK00]; · iexact HK00
  iexact HK01

theorem run_part2 (i : grid0.Coords) (oM : Memref sig .tc .vmem S1x128x1024 .f32) (hoM : oM.IsWhole) (c : Dev nD) (A : Dev nD → Args F) (K : Dev nD × CK → ℕ)
    {Q : (PUnit) → sProp 𝕄} :
    iprop(idle c (A c) 0 2 ∗ idle c (A c) 0 3 ∗ idle c (A c) 1 0 ∗ idle c (A c) 1 1)
      ⊢ iprop(((busy c (A c) 0 2 0 ∗ busy c (A c) 0 3 0 ∗ busy c (A c) 1 0 1 ∗ busy c (A c) 1 1 1) -∗ Q (⟨⟩ : (PUnit))) -∗ WP c (k0_part2 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part2_eq_skeleton]; unfold k0_part2_skel
  simp only [semSignalWord, semWaitWord, Prog.lift, Prog.bind_op, Prog.bind_ret, Prog.pure_eq_ret, wp_deviceId]
  iintro ⟨HK02, HK03, HK10, HK11⟩ Hk
  iapply (wp_kvIssue c (A c) 0 2 0 (kvS_eq 0 2 rfl) (chunkM_eq vM 0 0 rfl) (kvSlot_eq 0 2 rfl)) $$ HK02
  iintro HK02
  iapply (wp_kvIssue c (A c) 0 3 0 (kvS_eq 0 3 rfl) (chunkM_eq vM 0 1 rfl) (kvSlot_eq 0 3 rfl)) $$ HK03
  iintro HK03
  iapply (wp_kvIssue c (A c) 1 0 1 (kvS_eq 1 0 rfl) (chunkM_eq kM 1 0 rfl) (kvSlot_eq 1 0 rfl)) $$ HK10
  iintro HK10
  iapply (wp_kvIssue c (A c) 1 1 1 (kvS_eq 1 1 rfl) (chunkM_eq kM 1 1 rfl) (kvSlot_eq 1 1 rfl)) $$ HK11
  iintro HK11
  iapply (wp_fin c)
  iapply Hk
  isplitl [HK02]; · iexact HK02
  isplitl [HK03]; · iexact HK03
  isplitl [HK10]; · iexact HK10
  iexact HK11

theorem run_part3 (i : grid0.Coords) (oM : Memref sig .tc .vmem S1x128x1024 .f32) (hoM : oM.IsWhole) (c : Dev nD) (A : Dev nD → Args F) (K : Dev nD × CK → ℕ) (XA : S1088x128.Idx → Elt F .f32) (XL : S1024x1.Idx → Elt F .f32)
    {Q : (FVec F S128x1024 .bf16) → sProp 𝕄} :
    iprop(records A K ∗ idle c (A c) 1 2 ∗ idle c (A c) 1 3 ∗ held c accM fullShare (XA) ∗ held c lM fullShare (XL) ∗ ow c (oAll c 7 7 7) ∗ fly c (stS 0) xSq xsM fullShare (xsV (A c)) ∗ fly c (stS 1) wqM wqsM fullShare ((A c).wq))
      ⊢ iprop(((busy c (A c) 1 2 1 ∗ busy c (A c) 1 3 1 ∗ held c accM fullShare (accV (A c) 0) ∗ held c lM fullShare (lV (A c) 0) ∗ ow c (oAll c 7 7 7) ∗ held c xSq fullShare (xsV (A c)) ∗ held c wqM fullShare ((A c).wq) ∗ held c xsM fullShare (xsV (A c)) ∗ semVal ((c : Thread nD τ), .dma (stS 0)) 0 ∗ held c wqsM fullShare ((A c).wq) ∗ semVal ((c : Thread nD τ), .dma (stS 1)) 0) -∗ Q ((k0_pay5 (xsV (A c))) : (FVec F S128x1024 .bf16))) -∗ WP c (k0_part3 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part3_eq_skeleton]; unfold k0_part3_skel
  simp only [semSignalWord, semWaitWord, Prog.lift, Prog.bind_op, Prog.bind_ret, Prog.pure_eq_ret, wp_deviceId]
  iintro ⟨#HR, HK12, HK13, HA, HL, HO, HX, HQw⟩ Hk
  iapply (wp_kvIssue c (A c) 1 2 1 (kvS_eq 1 2 rfl) (chunkM_eq vM 1 0 rfl) (kvSlot_eq 1 2 rfl)) $$ HK12
  iintro HK12
  iapply (wp_kvIssue c (A c) 1 3 1 (kvS_eq 1 3 rfl) (chunkM_eq vM 1 1 rfl) (kvSlot_eq 1 3 rfl)) $$ HK13
  iintro HK13
  iapply (wp_ldw c accM _) $$ HA
  iintro HA
  iapply (wp_stTo c accM ![0, 0] S1088x128.size XA (accV (A c) 0) _ (put_whole _ _ _ inb_S1088x128_S1088x128_0_0 rfl)) $$ HA
  iintro HA
  iapply (wp_ldw c lM _) $$ HL
  iintro HL
  iapply (wp_stTo c lM ![0, 0] S1024x1.size XL (lV (A c) 0) _ (put_whole _ _ _ inb_S1024x1_S1024x1_0_0 rfl)) $$ HL
  iintro HL
  iapply (wp_stLand c A K 0 7 7 7 (stS_eq 0 rfl) rfl) $$ [HO HX]
  · isplitr; · iexact HR
    isplitl [HO]; · iexact HO
    iexact HX
  iintro ⟨HO, HXd, HX, HXv⟩
  iapply (wp_stLand c A K 1 7 7 7 (stS_eq 1 rfl) rfl) $$ [HO HQw]
  · isplitr; · iexact HR
    isplitl [HO]; · iexact HO
    iexact HQw
  iintro ⟨HO, HQwd, HQw, HQwv⟩
  iapply (wp_ldTo c xsM _ ![0, 0] S128x1024.size (xsV (A c)) (window_full _ _)) $$ HXd
  iintro HXd
  iapply (wp_fin c)
  iapply Hk
  isplitl [HK12]; · iexact HK12
  isplitl [HK13]; · iexact HK13
  isplitl [HA]; · iexact HA
  isplitl [HL]; · iexact HL
  isplitl [HO]; · iexact HO
  isplitl [HX]; · iexact HX
  isplitl [HQw]; · iexact HQw
  isplitl [HXd]; · iexact HXd
  isplitl [HXv]; · iexact HXv
  isplitl [HQwd]; · iexact HQwd
  iexact HQwv

theorem run_part4 (i : grid0.Coords) (oM : Memref sig .tc .vmem S1x128x1024 .f32) (hoM : oM.IsWhole) (c : Dev nD) (A : Dev nD → Args F) (K : Dev nD × CK → ℕ) (Xq : S1024x128.Idx → Elt F .f32)
    {Q : (PUnit) → sProp 𝕄} :
    iprop(held c wqsM fullShare ((A c).wq) ∗ held c qM fullShare (putRows Xq (qBlk (A c)) 0))
      ⊢ iprop(((held c wqsM fullShare ((A c).wq) ∗ held c qM fullShare (putRows Xq (qBlk (A c)) 4)) -∗ Q (⟨⟩ : (PUnit))) -∗ WP c (k0_part4 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 (k0_pay5 (xsV (A c)))) Q) := by
  rw [k0_part4_eq_skeleton]; unfold k0_part4_skel
  simp only [semSignalWord, semWaitWord, Prog.lift, Prog.bind_op, Prog.bind_ret, Prog.pure_eq_ret, wp_deviceId]
  iintro ⟨HQwd, Hq⟩ Hk
  iapply (wp_ldw c wqsM _) $$ HQwd
  iintro HQwd
  iapply (wp_ldw c qM _) $$ Hq
  iintro Hq
  iapply (wp_stTo c qM ![0, 0] S128x128.size (putRows Xq (qBlk (A c)) 0) (putRows Xq (qBlk (A c)) 1) _ rfl) $$ Hq
  iintro Hq
  iapply (wp_ldw c wqsM _) $$ HQwd
  iintro HQwd
  iapply (wp_ldw c qM _) $$ Hq
  iintro Hq
  iapply (wp_stTo c qM ![128, 0] S128x128.size (putRows Xq (qBlk (A c)) 1) (putRows Xq (qBlk (A c)) 2) _ rfl) $$ Hq
  iintro Hq
  iapply (wp_ldw c wqsM _) $$ HQwd
  iintro HQwd
  iapply (wp_ldw c qM _) $$ Hq
  iintro Hq
  iapply (wp_stTo c qM ![256, 0] S128x128.size (putRows Xq (qBlk (A c)) 2) (putRows Xq (qBlk (A c)) 3) _ rfl) $$ Hq
  iintro Hq
  iapply (wp_ldw c wqsM _) $$ HQwd
  iintro HQwd
  iapply (wp_ldw c qM _) $$ Hq
  iintro Hq
  iapply (wp_stTo c qM ![384, 0] S128x128.size (putRows Xq (qBlk (A c)) 3) (putRows Xq (qBlk (A c)) 4) _ rfl) $$ Hq
  iintro Hq
  iapply (wp_fin c)
  iapply Hk
  isplitl [HQwd]; · iexact HQwd
  iexact Hq

end Cert.KProof

end
-- ==== Proof.HeadB.lean ====
/-
# A grid point's copies and waits

What each kind of grid point, the first, a middle one and the last, does before it computes.
-/
module

public import proofs.«01_k».proof.Proof.HeadA

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem cond1_pos (i : grid0.Coords) (h : (i 0).val = 0) : Scalar.cmpi .ne (Scalar.extui (Scalar.cmpi .eq (BitVec.ofNat 32 (i 0).val) 0#32) : BitVec 32) 0#32 = 1#1 := by
  rw [h]; decide +kernel
theorem cond1_neg (i : grid0.Coords) (h : 0 < (i 0).val) : ¬ Scalar.cmpi .ne (Scalar.extui (Scalar.cmpi .eq (BitVec.ofNat 32 (i 0).val) 0#32) : BitVec 32) 0#32 = 1#1 := by
  revert i; decide +kernel
theorem cond2_first (i : grid0.Coords) (h : (i 0).val = 0) : ¬ k0_cond2 i = 1#1 := fun h' => by
  have := (cond2_iff i).mp h'; omega

theorem run_part5 (i : grid0.Coords) (oM : Memref sig .tc .vmem S1x128x1024 .f32) (hoM : oM.IsWhole) (c : Dev nD) (A : Dev nD → Args F) (K : Dev nD × CK → ℕ) (XA : S1088x128.Idx → Elt F .f32) (XL : S1024x1.Idx → Elt F .f32) (Xq : S1024x128.Idx → Elt F .f32)
    {Q : (Σ' (v233 : FVec F S128x128 .f32), Vec F S128x128 .f32) → sProp 𝕄} :
    iprop(records A K ∗ held c xSq fullShare (xsV (A c)) ∗ heldAny c xsM ∗ semVal ((c : Thread nD τ), .dma (stS 0)) 0 ∗ held c wqM fullShare ((A c).wq) ∗ heldAny c wqsM ∗ semVal ((c : Thread nD τ), .dma (stS 1)) 0 ∗ held c woM fullShare ((A c).wo) ∗ heldAny c wosM ∗ semVal ((c : Thread nD τ), .dma (stS 2)) 0 ∗ idle c (A c) 0 0 ∗ idle c (A c) 0 1 ∗ idle c (A c) 0 2 ∗ idle c (A c) 0 3 ∗ idle c (A c) 1 0 ∗ idle c (A c) 1 1 ∗ idle c (A c) 1 2 ∗ idle c (A c) 1 3 ∗ held c accM fullShare (XA) ∗ held c lM fullShare (XL) ∗ ow c (oAll c 7 7 7) ∗ held c qM fullShare (putRows Xq (qBlk (A c)) 0))
      ⊢ iprop(((held c xSq fullShare (xsV (A c)) ∗ held c xsM fullShare (xsV (A c)) ∗ semVal ((c : Thread nD τ), .dma (stS 0)) 0 ∗ held c wqM fullShare ((A c).wq) ∗ held c wqsM fullShare ((A c).wq) ∗ semVal ((c : Thread nD τ), .dma (stS 1)) 0 ∗ fly c (stS 2) woM wosM fullShare ((A c).wo) ∗ busy c (A c) 0 0 0 ∗ busy c (A c) 0 1 0 ∗ busy c (A c) 0 2 0 ∗ busy c (A c) 0 3 0 ∗ busy c (A c) 1 0 1 ∗ busy c (A c) 1 1 1 ∗ busy c (A c) 1 2 1 ∗ busy c (A c) 1 3 1 ∗ held c accM fullShare (accV (A c) 0) ∗ held c lM fullShare (lV (A c) 0) ∗ ow c (oAll c 7 7 7) ∗ held c qM fullShare (putRows Xq (qBlk (A c)) 7)) -∗ Q (⟨k0_pay13 (k0_pay5 (xsV (A c))) (VecWindow.window (s := S1024x1024) (A c).wq ![0, 896] S1024x128.size inb_S1024x1024_S1024x128_0_896), (VecWindow.window (s := S1024x128) (putRows Xq (qBlk (A c)) 7) ![896, 0] S128x128.size inb_S1024x128_S128x128_896_0)⟩ : (Σ' (v233 : FVec F S128x128 .f32), Vec F S128x128 .f32))) -∗ WP c (k0_part5 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part5_eq_skeleton]; unfold k0_part5_skel
  simp only [semSignalWord, semWaitWord, Prog.lift, Prog.bind_op, Prog.bind_ret, Prog.pure_eq_ret, wp_deviceId]
  iintro ⟨#HR, HX, HXd, HXv, HQw, HQwd, HQwv, HW, HWd, HWv, HK00, HK01, HK02, HK03, HK10, HK11, HK12, HK13, HA, HL, HO, Hq⟩ Hk
  iapply (Entails.of_eq (wp_seq c _ _ _).symm)
  iapply (run_part1 i oM hoM c A K) $$ [HX HXd HXv HQw HQwd HQwv HW HWd HWv HK00 HK01]
  · isplitl [HX]; · iexact HX
    isplitl [HXd]; · iexact HXd
    isplitl [HXv]; · iexact HXv
    isplitl [HQw]; · iexact HQw
    isplitl [HQwd]; · iexact HQwd
    isplitl [HQwv]; · iexact HQwv
    isplitl [HW]; · iexact HW
    isplitl [HWd]; · iexact HWd
    isplitl [HWv]; · iexact HWv
    isplitl [HK00]; · iexact HK00
    iexact HK01
  iintro ⟨HX, HQw, HW, HK00, HK01⟩
  try dsimp only
  iapply (Entails.of_eq (wp_seq c _ _ _).symm)
  iapply (run_part2 i oM hoM c A K) $$ [HK02 HK03 HK10 HK11]
  · isplitl [HK02]; · iexact HK02
    isplitl [HK03]; · iexact HK03
    isplitl [HK10]; · iexact HK10
    iexact HK11
  iintro ⟨HK02, HK03, HK10, HK11⟩
  try dsimp only
  iapply (Entails.of_eq (wp_seq c _ _ _).symm)
  iapply (run_part3 i oM hoM c A K _ _) $$ [HK12 HK13 HA HL HO HX HQw]
  · isplitr; · iexact HR
    isplitl [HK12]; · iexact HK12
    isplitl [HK13]; · iexact HK13
    isplitl [HA]; · iexact HA
    isplitl [HL]; · iexact HL
    isplitl [HO]; · iexact HO
    isplitl [HX]; · iexact HX
    iexact HQw
  iintro ⟨HK12, HK13, HA, HL, HO, HX, HQw, HXd, HXv, HQwd, HQwv⟩
  try dsimp only
  iapply (Entails.of_eq (wp_seq c _ _ _).symm)
  iapply (run_part4 i oM hoM c A K _) $$ [HQwd Hq]
  · isplitl [HQwd]; · iexact HQwd
    iexact Hq
  iintro ⟨HQwd, Hq⟩
  try dsimp only
  iapply (wp_ldw c wqsM _) $$ HQwd
  iintro HQwd
  iapply (wp_ldw c qM _) $$ Hq
  iintro Hq
  iapply (wp_stTo c qM ![512, 0] S128x128.size (putRows Xq (qBlk (A c)) 4) (putRows Xq (qBlk (A c)) 5) _ rfl) $$ Hq
  iintro Hq
  iapply (wp_ldw c wqsM _) $$ HQwd
  iintro HQwd
  iapply (wp_ldw c qM _) $$ Hq
  iintro Hq
  iapply (wp_stTo c qM ![640, 0] S128x128.size (putRows Xq (qBlk (A c)) 5) (putRows Xq (qBlk (A c)) 6) _ rfl) $$ Hq
  iintro Hq
  iapply (wp_ldw c wqsM _) $$ HQwd
  iintro HQwd
  iapply (wp_ldw c qM _) $$ Hq
  iintro Hq
  iapply (wp_stTo c qM ![768, 0] S128x128.size (putRows Xq (qBlk (A c)) 6) (putRows Xq (qBlk (A c)) 7) _ rfl) $$ Hq
  iintro Hq
  iapply (wp_ldw c wqsM _) $$ HQwd
  iintro HQwd
  iapply (wp_ldw c qM _) $$ Hq
  iintro Hq
  iapply (wp_fin c)
  iapply Hk
  isplitl [HX]; · iexact HX
  isplitl [HXd]; · iexact HXd
  isplitl [HXv]; · iexact HXv
  isplitl [HQw]; · iexact HQw
  isplitl [HQwd]; · iexact HQwd
  isplitl [HQwv]; · iexact HQwv
  isplitl [HW]; · iexact HW
  isplitl [HK00]; · iexact HK00
  isplitl [HK01]; · iexact HK01
  isplitl [HK02]; · iexact HK02
  isplitl [HK03]; · iexact HK03
  isplitl [HK10]; · iexact HK10
  isplitl [HK11]; · iexact HK11
  isplitl [HK12]; · iexact HK12
  isplitl [HK13]; · iexact HK13
  isplitl [HA]; · iexact HA
  isplitl [HL]; · iexact HL
  isplitl [HO]; · iexact HO
  iexact Hq

theorem run_part6 (i : grid0.Coords) (oM : Memref sig .tc .vmem S1x128x1024 .f32) (hoM : oM.IsWhole) (c : Dev nD) (A : Dev nD → Args F) (K : Dev nD × CK → ℕ) (arg0 : BitVec 32) (k0_h2 : k0_cond2 i = 1#1)
    {Q : (PUnit) → sProp 𝕄} :
    iprop(idle c (A c) (par ((i 0).val + 1)) 0 ∗ idle c (A c) (par ((i 0).val + 1)) 1)
      ⊢ iprop(((busy c (A c) (par ((i 0).val + 1)) 0 (pt ((i 0).val + 1)) ∗ busy c (A c) (par ((i 0).val + 1)) 1 (pt ((i 0).val + 1))) -∗ Q (⟨⟩ : (PUnit))) -∗ WP c (k0_part6 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 arg0 k0_h2) Q) := by
  rw [k0_part6_eq_skeleton]; unfold k0_part6_skel
  simp only [semSignalWord, semWaitWord, Prog.lift, Prog.bind_op, Prog.bind_ret, Prog.pure_eq_ret, wp_deviceId]
  iintro ⟨HN0, HN1⟩ Hk
  iapply (wp_kvIssue c (A c) (par ((i 0).val + 1)) 0 (pt ((i 0).val + 1)) (kvS_eq (par ((i 0).val + 1)) 0 (off1_eq i)) (chunkM_eq kM (pt ((i 0).val + 1)) 0 (off3_eq i k0_h2)) (kvSlot_eq (par ((i 0).val + 1)) 0 (off2_eq i))) $$ HN0
  iintro HN0
  iapply (wp_kvIssue c (A c) (par ((i 0).val + 1)) 1 (pt ((i 0).val + 1)) (kvS_eq (par ((i 0).val + 1)) 1 (off4_eq i)) (chunkM_eq kM (pt ((i 0).val + 1)) 1 (off6_eq i k0_h2)) (kvSlot_eq (par ((i 0).val + 1)) 1 (off5_eq i))) $$ HN1
  iintro HN1
  iapply (wp_fin c)
  iapply Hk
  isplitl [HN0]; · iexact HN0
  iexact HN1

theorem run_first_part36 (i : grid0.Coords) (oM : Memref sig .tc .vmem S1x128x1024 .f32) (hoM : oM.IsWhole) (c : Dev nD) (A : Dev nD → Args F) (K : Dev nD × CK → ℕ) (XA : S1088x128.Idx → Elt F .f32) (XL : S1024x1.Idx → Elt F .f32) (Xq : S1024x128.Idx → Elt F .f32) (h0 : (i 0).val = 0)
    {Q : (Σ' (arg0 : BitVec 32), BitVec 32) → sProp 𝕄} :
    iprop(records A K ∗ held c xSq fullShare (xsV (A c)) ∗ heldAny c xsM ∗ semVal ((c : Thread nD τ), .dma (stS 0)) 0 ∗ held c wqM fullShare ((A c).wq) ∗ heldAny c wqsM ∗ semVal ((c : Thread nD τ), .dma (stS 1)) 0 ∗ held c woM fullShare ((A c).wo) ∗ heldAny c wosM ∗ semVal ((c : Thread nD τ), .dma (stS 2)) 0 ∗ idle c (A c) 0 0 ∗ idle c (A c) 0 1 ∗ idle c (A c) 0 2 ∗ idle c (A c) 0 3 ∗ idle c (A c) 1 0 ∗ idle c (A c) 1 1 ∗ idle c (A c) 1 2 ∗ idle c (A c) 1 3 ∗ held c accM fullShare (XA) ∗ held c lM fullShare (XL) ∗ ow c (oAll c 7 7 7) ∗ held c qM fullShare (putRows Xq (qBlk (A c)) 0))
      ⊢ iprop((∀ (w0 : BitVec 32), ∀ (w1 : BitVec 32), (held c xSq fullShare (xsV (A c)) ∗ held c xsM fullShare (xsV (A c)) ∗ semVal ((c : Thread nD τ), .dma (stS 0)) 0 ∗ held c wqM fullShare ((A c).wq) ∗ held c wqsM fullShare ((A c).wq) ∗ semVal ((c : Thread nD τ), .dma (stS 1)) 0 ∗ fly c (stS 2) woM wosM fullShare ((A c).wo) ∗ busy c (A c) 1 0 1 ∗ busy c (A c) 1 1 1 ∗ busy c (A c) 1 2 1 ∗ busy c (A c) 1 3 1 ∗ held c accM fullShare (accV (A c) 0) ∗ held c lM fullShare (lV (A c) 0) ∗ ow c (oAll c 7 7 7) ∗ held c qM fullShare (putRows Xq (qBlk (A c)) 8) ∗ full c (A c) (par (i 0).val) 0 (pt (i 0).val) ∗ busy c (A c) (par (i 0).val) 1 (pt (i 0).val) ∗ busy c (A c) (par (i 0).val) 2 (pt (i 0).val) ∗ busy c (A c) (par (i 0).val) 3 (pt (i 0).val)) -∗ Q (⟨w0, w1⟩ : (Σ' (arg0 : BitVec 32), BitVec 32))) -∗ WP c (k0_part36 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part36_eq_skeleton]; unfold k0_part36_skel
  simp only [semSignalWord, semWaitWord, Prog.lift, Prog.bind_op, Prog.bind_ret, Prog.pure_eq_ret, wp_deviceId]
  iintro ⟨#HR, HX, HXd, HXv, HQw, HQwd, HQwv, HW, HWd, HWv, HK00, HK01, HK02, HK03, HK10, HK11, HK12, HK13, HA, HL, HO, Hq⟩ Hk
  rw [dif_pos (cond1_pos i h0)]
  try simp only [Prog.lift, Prog.bind_op, Prog.bind_ret, Prog.pure_eq_ret]
  iapply (Entails.of_eq (wp_seq c _ _ _).symm)
  iapply (run_part5 i oM hoM c A K _ _ _) $$ [HX HXd HXv HQw HQwd HQwv HW HWd HWv HK00 HK01 HK02 HK03 HK10 HK11 HK12 HK13 HA HL HO Hq]
  · isplitr; · iexact HR
    isplitl [HX]; · iexact HX
    isplitl [HXd]; · iexact HXd
    isplitl [HXv]; · iexact HXv
    isplitl [HQw]; · iexact HQw
    isplitl [HQwd]; · iexact HQwd
    isplitl [HQwv]; · iexact HQwv
    isplitl [HW]; · iexact HW
    isplitl [HWd]; · iexact HWd
    isplitl [HWv]; · iexact HWv
    isplitl [HK00]; · iexact HK00
    isplitl [HK01]; · iexact HK01
    isplitl [HK02]; · iexact HK02
    isplitl [HK03]; · iexact HK03
    isplitl [HK10]; · iexact HK10
    isplitl [HK11]; · iexact HK11
    isplitl [HK12]; · iexact HK12
    isplitl [HK13]; · iexact HK13
    isplitl [HA]; · iexact HA
    isplitl [HL]; · iexact HL
    isplitl [HO]; · iexact HO
    iexact Hq
  iintro ⟨HX, HXd, HXv, HQw, HQwd, HQwv, HW, HK00, HK01, HK02, HK03, HK10, HK11, HK12, HK13, HA, HL, HO, Hq⟩
  try dsimp only
  iapply (wp_stTo c qM ![896, 0] S128x128.size (putRows Xq (qBlk (A c)) 7) (putRows Xq (qBlk (A c)) 8) _ rfl) $$ Hq
  iintro Hq
  rw [dif_neg (cond2_first i h0)]
  have hb : par (i 0).val = 0 := by rw [h0]; rfl
  have ht : pt (i 0).val = 0 := by rw [h0]; rfl
  have e0 : (busy c (A c) 0 0 0 : sProp 𝕄) = busy c (A c) (par (i 0).val) 0 (pt (i 0).val) := by rw [hb, ht]
  ihave HC0 := (Entails.of_eq e0) $$ HK00
  have e1 : (busy c (A c) 0 1 0 : sProp 𝕄) = busy c (A c) (par (i 0).val) 1 (pt (i 0).val) := by rw [hb, ht]
  ihave HC1 := (Entails.of_eq e1) $$ HK01
  have e2 : (busy c (A c) 0 2 0 : sProp 𝕄) = busy c (A c) (par (i 0).val) 2 (pt (i 0).val) := by rw [hb, ht]
  ihave HC2 := (Entails.of_eq e2) $$ HK02
  have e3 : (busy c (A c) 0 3 0 : sProp 𝕄) = busy c (A c) (par (i 0).val) 3 (pt (i 0).val) := by rw [hb, ht]
  ihave HC3 := (Entails.of_eq e3) $$ HK03
  try simp only [Prog.lift, Prog.bind_op, Prog.bind_ret, Prog.pure_eq_ret]
  iapply (wp_kvLand c A K (A c) (par (i 0).val) 0 (pt (i 0).val) (kvS_eq (par (i 0).val) 0 (off11_eq i)) (kvSlot_eq (par (i 0).val) 0 (off12_eq i))) $$ [HO HC0]
  · isplitr; · iexact HR
    isplitl [HO]; · iexact HO
    iexact HC0
  iintro ⟨HO, HC0⟩
  iapply (wp_fin c)
  iapply Hk $$ %_ %_
  isplitl [HX]; · iexact HX
  isplitl [HXd]; · iexact HXd
  isplitl [HXv]; · iexact HXv
  isplitl [HQw]; · iexact HQw
  isplitl [HQwd]; · iexact HQwd
  isplitl [HQwv]; · iexact HQwv
  isplitl [HW]; · iexact HW
  isplitl [HK10]; · iexact HK10
  isplitl [HK11]; · iexact HK11
  isplitl [HK12]; · iexact HK12
  isplitl [HK13]; · iexact HK13
  isplitl [HA]; · iexact HA
  isplitl [HL]; · iexact HL
  isplitl [HO]; · iexact HO
  isplitl [Hq]; · iexact Hq
  isplitl [HC0]; · iexact HC0
  isplitl [HC1]; · iexact HC1
  isplitl [HC2]; · iexact HC2
  iexact HC3

theorem run_mid_part36 (i : grid0.Coords) (oM : Memref sig .tc .vmem S1x128x1024 .f32) (hoM : oM.IsWhole) (c : Dev nD) (A : Dev nD → Args F) (K : Dev nD × CK → ℕ) (h0 : 0 < (i 0).val) (k0_h2 : k0_cond2 i = 1#1)
    {Q : (Σ' (arg0 : BitVec 32), BitVec 32) → sProp 𝕄} :
    iprop(records A K ∗ idle c (A c) (par ((i 0).val + 1)) 0 ∗ idle c (A c) (par ((i 0).val + 1)) 1 ∗ idle c (A c) (par ((i 0).val + 1)) 2 ∗ idle c (A c) (par ((i 0).val + 1)) 3 ∗ ow c (oAll c 7 7 7) ∗ busy c (A c) (par (i 0).val) 0 (pt (i 0).val))
      ⊢ iprop((∀ (w0 : BitVec 32), ∀ (w1 : BitVec 32), (busy c (A c) (par ((i 0).val + 1)) 0 (pt ((i 0).val + 1)) ∗ busy c (A c) (par ((i 0).val + 1)) 1 (pt ((i 0).val + 1)) ∗ busy c (A c) (par ((i 0).val + 1)) 2 (pt ((i 0).val + 1)) ∗ busy c (A c) (par ((i 0).val + 1)) 3 (pt ((i 0).val + 1)) ∗ ow c (oAll c 7 7 7) ∗ full c (A c) (par (i 0).val) 0 (pt (i 0).val)) -∗ Q (⟨w0, w1⟩ : (Σ' (arg0 : BitVec 32), BitVec 32))) -∗ WP c (k0_part36 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part36_eq_skeleton]; unfold k0_part36_skel
  simp only [semSignalWord, semWaitWord, Prog.lift, Prog.bind_op, Prog.bind_ret, Prog.pure_eq_ret, wp_deviceId]
  iintro ⟨#HR, HN0, HN1, HN2, HN3, HO, HC0⟩ Hk
  rw [dif_neg (cond1_neg i h0)]
  rw [dif_pos k0_h2]
  try simp only [Prog.lift, Prog.bind_op, Prog.bind_ret, Prog.pure_eq_ret]
  iapply (Entails.of_eq (wp_seq c _ _ _).symm)
  iapply (run_part6 i oM hoM c A K _ _) $$ [HN0 HN1]
  · isplitl [HN0]; · iexact HN0
    iexact HN1
  iintro ⟨HN0, HN1⟩
  try dsimp only
  iapply (wp_kvIssue c (A c) (par ((i 0).val + 1)) 2 (pt ((i 0).val + 1)) (kvS_eq (par ((i 0).val + 1)) 2 (off7_eq i)) (chunkM_eq vM (pt ((i 0).val + 1)) 0 (off3_eq i k0_h2)) (kvSlot_eq (par ((i 0).val + 1)) 2 (off8_eq i))) $$ HN2
  iintro HN2
  iapply (wp_kvIssue c (A c) (par ((i 0).val + 1)) 3 (pt ((i 0).val + 1)) (kvS_eq (par ((i 0).val + 1)) 3 (off9_eq i)) (chunkM_eq vM (pt ((i 0).val + 1)) 1 (off6_eq i k0_h2)) (kvSlot_eq (par ((i 0).val + 1)) 3 (off10_eq i))) $$ HN3
  iintro HN3
  iapply (wp_kvLand c A K (A c) (par (i 0).val) 0 (pt (i 0).val) (kvS_eq (par (i 0).val) 0 (off11_eq i)) (kvSlot_eq (par (i 0).val) 0 (off12_eq i))) $$ [HO HC0]
  · isplitr; · iexact HR
    isplitl [HO]; · iexact HO
    iexact HC0
  iintro ⟨HO, HC0⟩
  iapply (wp_fin c)
  iapply Hk $$ %_ %_
  isplitl [HN0]; · iexact HN0
  isplitl [HN1]; · iexact HN1
  isplitl [HN2]; · iexact HN2
  isplitl [HN3]; · iexact HN3
  isplitl [HO]; · iexact HO
  iexact HC0

theorem run_last_part36 (i : grid0.Coords) (oM : Memref sig .tc .vmem S1x128x1024 .f32) (hoM : oM.IsWhole) (c : Dev nD) (A : Dev nD → Args F) (K : Dev nD × CK → ℕ) (h0 : 0 < (i 0).val) (k0_h2 : ¬ k0_cond2 i = 1#1)
    {Q : (Σ' (arg0 : BitVec 32), BitVec 32) → sProp 𝕄} :
    iprop(records A K ∗ ow c (oAll c 7 7 7) ∗ busy c (A c) (par (i 0).val) 0 (pt (i 0).val))
      ⊢ iprop((∀ (w0 : BitVec 32), ∀ (w1 : BitVec 32), (ow c (oAll c 7 7 7) ∗ full c (A c) (par (i 0).val) 0 (pt (i 0).val)) -∗ Q (⟨w0, w1⟩ : (Σ' (arg0 : BitVec 32), BitVec 32))) -∗ WP c (k0_part36 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part36_eq_skeleton]; unfold k0_part36_skel
  simp only [semSignalWord, semWaitWord, Prog.lift, Prog.bind_op, Prog.bind_ret, Prog.pure_eq_ret, wp_deviceId]
  iintro ⟨#HR, HO, HC0⟩ Hk
  rw [dif_neg (cond1_neg i h0)]
  rw [dif_neg k0_h2]
  try simp only [Prog.lift, Prog.bind_op, Prog.bind_ret, Prog.pure_eq_ret]
  iapply (wp_kvLand c A K (A c) (par (i 0).val) 0 (pt (i 0).val) (kvS_eq (par (i 0).val) 0 (off11_eq i)) (kvSlot_eq (par (i 0).val) 0 (off12_eq i))) $$ [HO HC0]
  · isplitr; · iexact HR
    isplitl [HO]; · iexact HO
    iexact HC0
  iintro ⟨HO, HC0⟩
  iapply (wp_fin c)
  iapply Hk $$ %_ %_
  isplitl [HO]; · iexact HO
  iexact HC0

end Cert.KProof

end
-- ==== Proof.Point.lean ====
/-
# One grid point's sums

The waits for a chunk of keys and values, and its scores laid into the running sums.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem run_part37 (i : grid0.Coords) (oM : Memref sig .tc .vmem S1x128x1024 .f32) (hoM : oM.IsWhole) (c : Dev nD) (A : Dev nD → Args F) (K : Dev nD × CK → ℕ) (v17 : BitVec 32)
    {Q : (Σ' (v55 : FVec F S4096x128 .bf16), FVec F S512x4096 .f32) → sProp 𝕄} :
    iprop(records A K ∗ ow c (oAll c 7 7 7) ∗ busy c (A c) (par (i 0).val) 1 (pt (i 0).val) ∗ busy c (A c) (par (i 0).val) 2 (pt (i 0).val) ∗ busy c (A c) (par (i 0).val) 3 (pt (i 0).val) ∗ held c qM fullShare (qV (A c)) ∗ full c (A c) (par (i 0).val) 0 (pt (i 0).val))
      ⊢ iprop(((ow c (oAll c 7 7 7) ∗ full c (A c) (par (i 0).val) 1 (pt (i 0).val) ∗ full c (A c) (par (i 0).val) 2 (pt (i 0).val) ∗ full c (A c) (par (i 0).val) 3 (pt (i 0).val) ∗ held c qM fullShare (qV (A c)) ∗ full c (A c) (par (i 0).val) 0 (pt (i 0).val)) -∗ Q (⟨k0_pay47 (slotV (A c).v (pt (i 0).val) 0), k0_pay48 (VecWindow.window (s := S1024x128) (qV (A c)) ![0, 0] S512x128.size inb_S1024x128_S512x128_0_0) (slotV (A c).k (pt (i 0).val) 0)⟩ : (Σ' (v55 : FVec F S4096x128 .bf16), FVec F S512x4096 .f32))) -∗ WP c (k0_part37 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 v17) Q) := by
  rw [k0_part37_eq_skeleton]; unfold k0_part37_skel
  simp only [semSignalWord, semWaitWord, Prog.lift, Prog.bind_op, Prog.bind_ret, Prog.pure_eq_ret, wp_deviceId]
  iintro ⟨#HR, HO, HC1, HC2, HC3, Hq, HC0⟩ Hk
  iapply (wp_kvLand c A K (A c) (par (i 0).val) 1 (pt (i 0).val) (kvS_eq (par (i 0).val) 1 (off14_eq i)) (kvSlot_eq (par (i 0).val) 1 (off15_eq i))) $$ [HO HC1]
  · isplitr; · iexact HR
    isplitl [HO]; · iexact HO
    iexact HC1
  iintro ⟨HO, HC1⟩
  iapply (wp_kvLand c A K (A c) (par (i 0).val) 2 (pt (i 0).val) (kvS_eq (par (i 0).val) 2 (off17_eq i)) (kvSlot_eq (par (i 0).val) 2 (off18_eq i))) $$ [HO HC2]
  · isplitr; · iexact HR
    isplitl [HO]; · iexact HO
    iexact HC2
  iintro ⟨HO, HC2⟩
  iapply (wp_kvLand c A K (A c) (par (i 0).val) 3 (pt (i 0).val) (kvS_eq (par (i 0).val) 3 (off19_eq i)) (kvSlot_eq (par (i 0).val) 3 (off20_eq i))) $$ [HO HC3]
  · isplitr; · iexact HR
    isplitl [HO]; · iexact HO
    iexact HC3
  iintro ⟨HO, HC3⟩
  iapply (wp_ldw c qM _) $$ Hq
  iintro Hq
  iapply (wp_ldFull c (A c) (par (i 0).val) 0 (pt (i 0).val) (off21_eq i) (slotV (A c).k (pt (i 0).val) 0) rfl) $$ HC0
  iintro HC0
  iapply (wp_ldFull c (A c) (par (i 0).val) 2 (pt (i 0).val) (off22_eq i) (slotV (A c).v (pt (i 0).val) 0) rfl) $$ HC2
  iintro HC2
  iapply (wp_fin c)
  iapply Hk
  isplitl [HO]; · iexact HO
  isplitl [HC1]; · iexact HC1
  isplitl [HC2]; · iexact HC2
  isplitl [HC3]; · iexact HC3
  isplitl [Hq]; · iexact Hq
  iexact HC0

theorem run_part38 (i : grid0.Coords) (oM : Memref sig .tc .vmem S1x128x1024 .f32) (hoM : oM.IsWhole) (c : Dev nD) (A : Dev nD → Args F) (K : Dev nD × CK → ℕ) (XA : S1088x128.Idx → Elt F .f32) (XL : S1024x1.Idx → Elt F .f32) (v17 : BitVec 32)
    {Q : (Σ' (v81 : FVec F S4096x128 .bf16) (v83 : FVec F S512x4096 .f32), FVec F S512x1 .f32) → sProp 𝕄} :
    iprop(held c lM fullShare (XL) ∗ held c accM fullShare (XA) ∗ held c qM fullShare (qV (A c)) ∗ full c (A c) (par (i 0).val) 1 (pt (i 0).val) ∗ full c (A c) (par (i 0).val) 3 (pt (i 0).val))
      ⊢ iprop(((held c lM fullShare (stepL (qV (A c)) 0 (slotV (A c).k (pt (i 0).val) 0) (XL)) ∗ held c accM fullShare (stepA (qV (A c)) 0 (slotV (A c).k (pt (i 0).val) 0) (slotV (A c).v (pt (i 0).val) 0) (XA)) ∗ held c qM fullShare (qV (A c)) ∗ full c (A c) (par (i 0).val) 1 (pt (i 0).val) ∗ full c (A c) (par (i 0).val) 3 (pt (i 0).val)) -∗ Q (⟨k0_pay52 (slotV (A c).v (pt (i 0).val) 1), k0_pay53 (VecWindow.window (s := S1024x128) (qV (A c)) ![512, 0] S512x128.size inb_S1024x128_S512x128_512_0) (slotV (A c).k (pt (i 0).val) 1), k0_pay54 (VecWindow.window (s := S1024x128) (qV (A c)) ![512, 0] S512x128.size inb_S1024x128_S512x128_512_0) (slotV (A c).k (pt (i 0).val) 1) (VecWindow.window (s := S1024x1) (stepL (qV (A c)) 0 (slotV (A c).k (pt (i 0).val) 0) (XL)) ![512, 0] S512x1.size inb_S1024x1_S512x1_512_0)⟩ : (Σ' (v81 : FVec F S4096x128 .bf16) (v83 : FVec F S512x4096 .f32), FVec F S512x1 .f32))) -∗ WP c (k0_part38 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 v17 (k0_pay47 (slotV (A c).v (pt (i 0).val) 0)) (k0_pay48 (VecWindow.window (s := S1024x128) (qV (A c)) ![0, 0] S512x128.size inb_S1024x128_S512x128_0_0) (slotV (A c).k (pt (i 0).val) 0))) Q) := by
  rw [k0_part38_eq_skeleton]; unfold k0_part38_skel
  simp only [semSignalWord, semWaitWord, Prog.lift, Prog.bind_op, Prog.bind_ret, Prog.pure_eq_ret, wp_deviceId]
  iintro ⟨HL, HA, Hq, HC1, HC3⟩ Hk
  iapply (wp_ldw c lM _) $$ HL
  iintro HL
  iapply (wp_ldw c lM _) $$ HL
  iintro HL
  iapply (wp_stTo c lM ![0, 0] S512x1.size (XL) (stepL (qV (A c)) 0 (slotV (A c).k (pt (i 0).val) 0) (XL)) _ rfl) $$ HL
  iintro HL
  iapply (wp_ldw c accM _) $$ HA
  iintro HA
  iapply (wp_ldw c accM _) $$ HA
  iintro HA
  iapply (wp_stTo c accM ![0, 0] S512x128.size (XA) (stepA (qV (A c)) 0 (slotV (A c).k (pt (i 0).val) 0) (slotV (A c).v (pt (i 0).val) 0) (XA)) _ rfl) $$ HA
  iintro HA
  iapply (wp_ldw c qM _) $$ Hq
  iintro Hq
  iapply (wp_ldFull c (A c) (par (i 0).val) 1 (pt (i 0).val) (off23_eq i) (slotV (A c).k (pt (i 0).val) 1) rfl) $$ HC1
  iintro HC1
  iapply (wp_ldFull c (A c) (par (i 0).val) 3 (pt (i 0).val) (off24_eq i) (slotV (A c).v (pt (i 0).val) 1) rfl) $$ HC3
  iintro HC3
  iapply (wp_ldw c lM _) $$ HL
  iintro HL
  iapply (wp_ldw c lM _) $$ HL
  iintro HL
  iapply (wp_fin c)
  iapply Hk
  isplitl [HL]; · iexact HL
  isplitl [HA]; · iexact HA
  isplitl [Hq]; · iexact Hq
  isplitl [HC1]; · iexact HC1
  iexact HC3

end Cert.KProof

end
-- ==== Proof.BodyFirst.lean ====
/-
# The first grid point

Its pieces one after another.
-/
module

public import proofs.«01_k».proof.Proof.HeadB
public import proofs.«01_k».proof.Proof.Point

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxRecDepth 20000 in
theorem run_first_body (i : grid0.Coords) (oM : Memref sig .tc .vmem S1x128x1024 .f32) (hoM : oM.IsWhole) (c : Dev nD) (A : Dev nD → Args F) (K : Dev nD × CK → ℕ) (XA : S1088x128.Idx → Elt F .f32) (XL : S1024x1.Idx → Elt F .f32) (Xq : S1024x128.Idx → Elt F .f32) (h0 : (i 0).val = 0)
    {Q : PUnit → sProp 𝕄} :
    iprop(records A K ∗ held c xSq fullShare (xsV (A c)) ∗ heldAny c xsM ∗ semVal ((c : Thread nD τ), .dma (stS 0)) 0 ∗ held c wqM fullShare ((A c).wq) ∗ heldAny c wqsM ∗ semVal ((c : Thread nD τ), .dma (stS 1)) 0 ∗ held c woM fullShare ((A c).wo) ∗ heldAny c wosM ∗ semVal ((c : Thread nD τ), .dma (stS 2)) 0 ∗ idle c (A c) 0 0 ∗ idle c (A c) 0 1 ∗ idle c (A c) 0 2 ∗ idle c (A c) 0 3 ∗ idle c (A c) 1 0 ∗ idle c (A c) 1 1 ∗ idle c (A c) 1 2 ∗ idle c (A c) 1 3 ∗ held c accM fullShare (XA) ∗ held c lM fullShare (XL) ∗ ow c (oAll c 7 7 7) ∗ held c qM fullShare (putRows Xq (qBlk (A c)) 0))
      ⊢ iprop(((held c xSq fullShare (xsV (A c)) ∗ held c xsM fullShare (xsV (A c)) ∗ semVal ((c : Thread nD τ), .dma (stS 0)) 0 ∗ held c wqM fullShare ((A c).wq) ∗ held c wqsM fullShare ((A c).wq) ∗ semVal ((c : Thread nD τ), .dma (stS 1)) 0 ∗ fly c (stS 2) woM wosM fullShare ((A c).wo) ∗ busy c (A c) 1 0 1 ∗ busy c (A c) 1 1 1 ∗ busy c (A c) 1 2 1 ∗ busy c (A c) 1 3 1 ∗ held c accM fullShare (accV (A c) ((i 0).val + 1)) ∗ held c lM fullShare (lV (A c) ((i 0).val + 1)) ∗ ow c (oAll c 7 7 7) ∗ held c qM fullShare (qV (A c)) ∗ idle c (A c) (par (i 0).val) 1 ∗ idle c (A c) (par (i 0).val) 2 ∗ idle c (A c) (par (i 0).val) 3 ∗ idle c (A c) (par (i 0).val) 0) -∗ Q (⟨⟩ : PUnit)) -∗ WP c (cc0_body (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [cc0_body_eq_skeleton]; unfold cc0_body_skel
  iintro ⟨#HR, HX, HXd, HXv, HQw, HQwd, HQwv, HW, HWd, HWv, HK00, HK01, HK02, HK03, HK10, HK11, HK12, HK13, HA, HL, HO, Hq⟩ Hk
  iapply (wp_then c)
  iapply (run_first_part36 i oM hoM c A K _ _ _ h0) $$ [HX HXd HXv HQw HQwd HQwv HW HWd HWv HK00 HK01 HK02 HK03 HK10 HK11 HK12 HK13 HA HL HO Hq]
  · isplitr; · iexact HR
    isplitl [HX]; · iexact HX
    isplitl [HXd]; · iexact HXd
    isplitl [HXv]; · iexact HXv
    isplitl [HQw]; · iexact HQw
    isplitl [HQwd]; · iexact HQwd
    isplitl [HQwv]; · iexact HQwv
    isplitl [HW]; · iexact HW
    isplitl [HWd]; · iexact HWd
    isplitl [HWv]; · iexact HWv
    isplitl [HK00]; · iexact HK00
    isplitl [HK01]; · iexact HK01
    isplitl [HK02]; · iexact HK02
    isplitl [HK03]; · iexact HK03
    isplitl [HK10]; · iexact HK10
    isplitl [HK11]; · iexact HK11
    isplitl [HK12]; · iexact HK12
    isplitl [HK13]; · iexact HK13
    isplitl [HA]; · iexact HA
    isplitl [HL]; · iexact HL
    isplitl [HO]; · iexact HO
    iexact Hq
  iintro %w36w0 %w36w1 ⟨HX, HXd, HXv, HQw, HQwd, HQwv, HW, HK10, HK11, HK12, HK13, HA, HL, HO, Hq, HC0, HC1, HC2, HC3⟩
  ihave Hq := (Entails.of_eq (show (held c qM fullShare (putRows Xq (qBlk (A c)) 8) : sProp 𝕄) = held c qM fullShare (qV (A c)) by rw [putRows_all]; rfl)) $$ Hq
  ihave HL := (Entails.of_eq (show (held c lM fullShare (lV (A c) 0) : sProp 𝕄) = held c lM fullShare (lV (A c) (i 0).val) by rw [h0])) $$ HL
  ihave HA := (Entails.of_eq (show (held c accM fullShare (accV (A c) 0) : sProp 𝕄) = held c accM fullShare (accV (A c) (i 0).val) by rw [h0])) $$ HA
  iapply (wp_then c)
  iapply (run_part37 i oM hoM c A K _) $$ [HO HC1 HC2 HC3 Hq HC0]
  · isplitr; · iexact HR
    isplitl [HO]; · iexact HO
    isplitl [HC1]; · iexact HC1
    isplitl [HC2]; · iexact HC2
    isplitl [HC3]; · iexact HC3
    isplitl [Hq]; · iexact Hq
    iexact HC0
  iintro ⟨HO, HC1, HC2, HC3, Hq, HC0⟩
  iapply (wp_then c)
  iapply (run_part38 i oM hoM c A K _ _ _) $$ [HL HA Hq HC1 HC3]
  · isplitl [HL]; · iexact HL
    isplitl [HA]; · iexact HA
    isplitl [Hq]; · iexact Hq
    isplitl [HC1]; · iexact HC1
    iexact HC3
  iintro ⟨HL, HA, Hq, HC1, HC3⟩
  iapply (wp_lift c)
  iapply (wp_stTo c lM ![512, 0] S512x1.size (stepL (qV (A c)) 0 (slotV (A c).k (pt (i 0).val) 0) (lV (A c) (i 0).val)) (stepL (qV (A c)) 1 (slotV (A c).k (pt (i 0).val) 1) (stepL (qV (A c)) 0 (slotV (A c).k (pt (i 0).val) 0) (lV (A c) (i 0).val))) _ rfl) $$ HL
  iintro HL
  iapply (wp_lift c)
  iapply (wp_ldw c accM _) $$ HA
  iintro HA
  iapply (wp_lift c)
  iapply (wp_ldw c accM _) $$ HA
  iintro HA
  iapply (wp_lift c)
  iapply (wp_stTo c accM ![512, 0] S512x128.size (stepA (qV (A c)) 0 (slotV (A c).k (pt (i 0).val) 0) (slotV (A c).v (pt (i 0).val) 0) (accV (A c) (i 0).val)) (stepA (qV (A c)) 1 (slotV (A c).k (pt (i 0).val) 1) (slotV (A c).v (pt (i 0).val) 1) (stepA (qV (A c)) 0 (slotV (A c).k (pt (i 0).val) 0) (slotV (A c).v (pt (i 0).val) 0) (accV (A c) (i 0).val))) _ rfl) $$ HA
  iintro HA
  ihave HL := (Entails.of_eq (show (held c lM fullShare (stepL (qV (A c)) 1 (slotV (A c).k (pt (i 0).val) 1) (stepL (qV (A c)) 0 (slotV (A c).k (pt (i 0).val) 0) (lV (A c) (i 0).val))) : sProp 𝕄) = held c lM fullShare (lV (A c) ((i 0).val + 1)) from rfl)) $$ HL
  ihave HA := (Entails.of_eq (show (held c accM fullShare (stepA (qV (A c)) 1 (slotV (A c).k (pt (i 0).val) 1) (slotV (A c).v (pt (i 0).val) 1) (stepA (qV (A c)) 0 (slotV (A c).k (pt (i 0).val) 0) (slotV (A c).v (pt (i 0).val) 0) (accV (A c) (i 0).val))) : sProp 𝕄) = held c accM fullShare (accV (A c) ((i 0).val + 1)) from rfl)) $$ HA
  ihave HC0 := (idle_of_full c (A c) (par (i 0).val) 0 (pt (i 0).val)) $$ HC0
  ihave HC1 := (idle_of_full c (A c) (par (i 0).val) 1 (pt (i 0).val)) $$ HC1
  ihave HC2 := (idle_of_full c (A c) (par (i 0).val) 2 (pt (i 0).val)) $$ HC2
  ihave HC3 := (idle_of_full c (A c) (par (i 0).val) 3 (pt (i 0).val)) $$ HC3
  rw [dif_neg (fun h => by have := (cond3_iff i).mp h; omega)]
  try simp only [Prog.lift, Prog.bind_op, Prog.bind_ret, Prog.pure_eq_ret]
  iapply (wp_fin c)
  iapply Hk
  isplitl [HX]; · iexact HX
  isplitl [HXd]; · iexact HXd
  isplitl [HXv]; · iexact HXv
  isplitl [HQw]; · iexact HQw
  isplitl [HQwd]; · iexact HQwd
  isplitl [HQwv]; · iexact HQwv
  isplitl [HW]; · iexact HW
  isplitl [HK10]; · iexact HK10
  isplitl [HK11]; · iexact HK11
  isplitl [HK12]; · iexact HK12
  isplitl [HK13]; · iexact HK13
  isplitl [HA]; · iexact HA
  isplitl [HL]; · iexact HL
  isplitl [HO]; · iexact HO
  isplitl [Hq]; · iexact Hq
  isplitl [HC1]; · iexact HC1
  isplitl [HC2]; · iexact HC2
  isplitl [HC3]; · iexact HC3
  iexact HC0

end Cert.KProof

end
-- ==== Proof.BodyMid.lean ====
/-
# A middle grid point

Its pieces one after another.
-/
module

public import proofs.«01_k».proof.Proof.HeadB
public import proofs.«01_k».proof.Proof.Point

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxRecDepth 20000 in
theorem run_mid_body (i : grid0.Coords) (oM : Memref sig .tc .vmem S1x128x1024 .f32) (hoM : oM.IsWhole) (c : Dev nD) (A : Dev nD → Args F) (K : Dev nD × CK → ℕ) (h0 : 0 < (i 0).val) (k0_h2 : k0_cond2 i = 1#1)
    {Q : PUnit → sProp 𝕄} :
    iprop(records A K ∗ idle c (A c) (par ((i 0).val + 1)) 0 ∗ idle c (A c) (par ((i 0).val + 1)) 1 ∗ idle c (A c) (par ((i 0).val + 1)) 2 ∗ idle c (A c) (par ((i 0).val + 1)) 3 ∗ ow c (oAll c 7 7 7) ∗ busy c (A c) (par (i 0).val) 0 (pt (i 0).val) ∗ busy c (A c) (par (i 0).val) 1 (pt (i 0).val) ∗ busy c (A c) (par (i 0).val) 2 (pt (i 0).val) ∗ busy c (A c) (par (i 0).val) 3 (pt (i 0).val) ∗ held c qM fullShare (qV (A c)) ∗ held c lM fullShare (lV (A c) (i 0).val) ∗ held c accM fullShare (accV (A c) (i 0).val))
      ⊢ iprop(((busy c (A c) (par ((i 0).val + 1)) 0 (pt ((i 0).val + 1)) ∗ busy c (A c) (par ((i 0).val + 1)) 1 (pt ((i 0).val + 1)) ∗ busy c (A c) (par ((i 0).val + 1)) 2 (pt ((i 0).val + 1)) ∗ busy c (A c) (par ((i 0).val + 1)) 3 (pt ((i 0).val + 1)) ∗ ow c (oAll c 7 7 7) ∗ idle c (A c) (par (i 0).val) 0 ∗ idle c (A c) (par (i 0).val) 1 ∗ idle c (A c) (par (i 0).val) 2 ∗ idle c (A c) (par (i 0).val) 3 ∗ held c qM fullShare (qV (A c)) ∗ held c lM fullShare (lV (A c) ((i 0).val + 1)) ∗ held c accM fullShare (accV (A c) ((i 0).val + 1))) -∗ Q (⟨⟩ : PUnit)) -∗ WP c (cc0_body (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [cc0_body_eq_skeleton]; unfold cc0_body_skel
  iintro ⟨#HR, HN0, HN1, HN2, HN3, HO, HC0, HC1, HC2, HC3, Hq, HL, HA⟩ Hk
  iapply (wp_then c)
  iapply (run_mid_part36 i oM hoM c A K h0 k0_h2) $$ [HN0 HN1 HN2 HN3 HO HC0]
  · isplitr; · iexact HR
    isplitl [HN0]; · iexact HN0
    isplitl [HN1]; · iexact HN1
    isplitl [HN2]; · iexact HN2
    isplitl [HN3]; · iexact HN3
    isplitl [HO]; · iexact HO
    iexact HC0
  iintro %w36w0 %w36w1 ⟨HN0, HN1, HN2, HN3, HO, HC0⟩
  iapply (wp_then c)
  iapply (run_part37 i oM hoM c A K _) $$ [HO HC1 HC2 HC3 Hq HC0]
  · isplitr; · iexact HR
    isplitl [HO]; · iexact HO
    isplitl [HC1]; · iexact HC1
    isplitl [HC2]; · iexact HC2
    isplitl [HC3]; · iexact HC3
    isplitl [Hq]; · iexact Hq
    iexact HC0
  iintro ⟨HO, HC1, HC2, HC3, Hq, HC0⟩
  iapply (wp_then c)
  iapply (run_part38 i oM hoM c A K _ _ _) $$ [HL HA Hq HC1 HC3]
  · isplitl [HL]; · iexact HL
    isplitl [HA]; · iexact HA
    isplitl [Hq]; · iexact Hq
    isplitl [HC1]; · iexact HC1
    iexact HC3
  iintro ⟨HL, HA, Hq, HC1, HC3⟩
  iapply (wp_lift c)
  iapply (wp_stTo c lM ![512, 0] S512x1.size (stepL (qV (A c)) 0 (slotV (A c).k (pt (i 0).val) 0) (lV (A c) (i 0).val)) (stepL (qV (A c)) 1 (slotV (A c).k (pt (i 0).val) 1) (stepL (qV (A c)) 0 (slotV (A c).k (pt (i 0).val) 0) (lV (A c) (i 0).val))) _ rfl) $$ HL
  iintro HL
  iapply (wp_lift c)
  iapply (wp_ldw c accM _) $$ HA
  iintro HA
  iapply (wp_lift c)
  iapply (wp_ldw c accM _) $$ HA
  iintro HA
  iapply (wp_lift c)
  iapply (wp_stTo c accM ![512, 0] S512x128.size (stepA (qV (A c)) 0 (slotV (A c).k (pt (i 0).val) 0) (slotV (A c).v (pt (i 0).val) 0) (accV (A c) (i 0).val)) (stepA (qV (A c)) 1 (slotV (A c).k (pt (i 0).val) 1) (slotV (A c).v (pt (i 0).val) 1) (stepA (qV (A c)) 0 (slotV (A c).k (pt (i 0).val) 0) (slotV (A c).v (pt (i 0).val) 0) (accV (A c) (i 0).val))) _ rfl) $$ HA
  iintro HA
  ihave HL := (Entails.of_eq (show (held c lM fullShare (stepL (qV (A c)) 1 (slotV (A c).k (pt (i 0).val) 1) (stepL (qV (A c)) 0 (slotV (A c).k (pt (i 0).val) 0) (lV (A c) (i 0).val))) : sProp 𝕄) = held c lM fullShare (lV (A c) ((i 0).val + 1)) from rfl)) $$ HL
  ihave HA := (Entails.of_eq (show (held c accM fullShare (stepA (qV (A c)) 1 (slotV (A c).k (pt (i 0).val) 1) (slotV (A c).v (pt (i 0).val) 1) (stepA (qV (A c)) 0 (slotV (A c).k (pt (i 0).val) 0) (slotV (A c).v (pt (i 0).val) 0) (accV (A c) (i 0).val))) : sProp 𝕄) = held c accM fullShare (accV (A c) ((i 0).val + 1)) from rfl)) $$ HA
  ihave HC0 := (idle_of_full c (A c) (par (i 0).val) 0 (pt (i 0).val)) $$ HC0
  ihave HC1 := (idle_of_full c (A c) (par (i 0).val) 1 (pt (i 0).val)) $$ HC1
  ihave HC2 := (idle_of_full c (A c) (par (i 0).val) 2 (pt (i 0).val)) $$ HC2
  ihave HC3 := (idle_of_full c (A c) (par (i 0).val) 3 (pt (i 0).val)) $$ HC3
  rw [dif_neg (fun h => by have := (cond3_iff i).mp h; have := (cond2_iff i).mp k0_h2; omega)]
  try simp only [Prog.lift, Prog.bind_op, Prog.bind_ret, Prog.pure_eq_ret]
  iapply (wp_fin c)
  iapply Hk
  isplitl [HN0]; · iexact HN0
  isplitl [HN1]; · iexact HN1
  isplitl [HN2]; · iexact HN2
  isplitl [HN3]; · iexact HN3
  isplitl [HO]; · iexact HO
  isplitl [HC0]; · iexact HC0
  isplitl [HC1]; · iexact HC1
  isplitl [HC2]; · iexact HC2
  isplitl [HC3]; · iexact HC3
  isplitl [Hq]; · iexact Hq
  isplitl [HL]; · iexact HL
  iexact HA

end Cert.KProof

end
-- ==== Proof.Slabs.lean ====
/-
# Buffers cut into their parts

A buffer held whole is its slabs, landing buffers or slots held by themselves, and back; and the shares a device lends of the slab it
has summed.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (c : Dev nD)

/-! ## Any cover by disjoint rectangles -/

theorem owns_held {sp : Space} {s : Shape} {e : EltTy} (M : Memref sig .tc sp s e) (q : PosShare TreeShare) (X : s.Idx → Elt F e) :
    (owns (c : Thread nD τ) M q X : sProp 𝕄) = held c M q X := by
  refine Entails.antisymm ?_ ?_
  · show iprop(∃ f, ⌜M.view.read (Elt F) f = X⌝ ∗ (M.view.loc (c : Thread nD τ) ↦[M.view.set]{q} f)) ⊢ _
    iintro ⟨%f, %h, H⟩
    subst h
    iapply (Entails.of_eq (held_of c M q f)) $$ H
  · show _ ⊢ iprop(∃ f, ⌜M.view.read (Elt F) f = X⌝ ∗ (M.view.loc (c : Thread nD τ) ↦[M.view.set]{q} f))
    iintro H
    iexists (M.view.rep X)
    isplitr; · ipureintro; exact View.read_rep M.view X
    unfold held
    iexact H

section Cover

variable {sp : Space} {s : Shape} {e : EltTy} (M : Memref sig .tc sp s e) {T : Type} [Fintype T] (r : T → Rect s) (hr : ∀ t a, (r t).stride a = 1)
  (hd : ∀ t t', t ≠ t' → Disjoint (r t).set (r t').set) (hcov : ∀ y : s.Idx, ∃ t, y ∈ (r t).set)
include hd hcov

theorem held_rects (q : PosShare TreeShare) (X : s.Idx → Elt F e) :
    (held c M q X : sProp 𝕄) = bigSep Finset.univ fun t => held c (M.slice (r t) (hr t)) q (fun j => X ((r t).emb j)) := by
  classical
  have h := pointsTo_rects (Ix := Unit) (Name := ℕ) (U := UU) (Lvl := ℕ) (c : Thread nD τ) M q r hr hd (Finset.eq_univ_iff_forall.mpr fun y => Finset.mem_biUnion.mpr (by
    obtain ⟨t, ht⟩ := hcov y; exact ⟨t, Finset.mem_univ _, ht⟩)) (M.view.rep X)
  rw [View.read_rep] at h
  unfold held
  refine h.trans (bigSep_congr fun t _ => ?_)
  exact owns_held c _ q _

theorem heldAny_rects : (heldAny c M : sProp 𝕄) ⊢ bigSep Finset.univ fun t => heldAny c (M.slice (r t) (hr t)) := by
  iintro H
  ihave H := (heldAny_some c M) $$ H
  icases H with ⟨%X, H⟩
  ihave H := (Entails.of_eq (held_rects c M r hr hd hcov fullShare X)) $$ H
  have hm : (bigSep Finset.univ fun t => held c (M.slice (r t) (hr t)) fullShare (fun j => X ((r t).emb j)) : sProp 𝕄) ⊢ bigSep Finset.univ fun t => heldAny c (M.slice (r t) (hr t)) :=
    bigSep_mono (fun t _ => heldAny_of c (M.slice (r t) (hr t)) _)
  iapply hm $$ H

theorem rects_heldAny : (bigSep Finset.univ fun t => heldAny c (M.slice (r t) (hr t))) ⊢ (heldAny c M : sProp 𝕄) := by
  classical
  have hds : ∀ t t', t ≠ t' → Disjoint (M.view.slice (r t)).set (M.view.slice (r t')).set := fun t t' htt => by
    rw [View.set_slice, View.set_slice]; exact (Finset.disjoint_map _).mpr (hd t t' htt)
  unfold heldAny
  refine (bigSep_exists_pi Finset.univ (fun t (f : Buf (Elt F) (M.view.loc (c : Thread nD τ))) =>
    (M.view.loc (c : Thread nD τ) ↦[(M.slice (r t) (hr t)).view.set]{fullShare} f : sProp 𝕄))).trans ?_
  iintro ⟨%fs, H⟩
  have hj := pointsTo_biUnion_join (Ix := Unit) (Name := ℕ) (U := UU) (Lvl := ℕ) (Val := Elt F) (ℓ := M.view.loc (c : Thread nD τ)) (q := fullShare) Finset.univ (fun t => (M.slice (r t) (hr t)).view.set) fs
    (Classical.arbitrary _) (fun t _ t' _ htt => hds t t' htt)
  ihave H := hj $$ H
  icases H with ⟨%g, %hg, H⟩
  have hs : (Finset.univ.biUnion fun t => (M.slice (r t) (hr t)).view.set) = M.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, hx⟩ := hcov x
      exact Finset.mem_biUnion.mpr ⟨t, Finset.mem_univ _, by
        show M.view.emb x ∈ (M.view.slice (r t)).set
        rw [View.set_slice]; exact Finset.mem_map_of_mem _ hx⟩
  rw [hs]
  iexists g
  iexact H

end Cover

theorem heldAny_squeeze {sp : Space} {s s' : Shape} {e : EltTy} (M : Memref sig .tc sp s e) (hq : s.Squeezes s') :
    (heldAny c (M.squeeze s' hq) : sProp 𝕄) = heldAny c M := by
  unfold heldAny
  rw [Memref.set_view_squeeze]

/-! ## The slabs of the accumulator -/

abbrev slabRect (d : Fin 8) : Rect S1088x128 := Rect.unit (s := S1088x128) ![136 * d.val, 0] S136x128.size (inb_slab d)

theorem slabs_disj (d d' : Fin 8) (h : d ≠ d') : Disjoint (slabRect d).set (slabRect d').set := by
  refine Rect.unit_disjoint 0 ?_
  have : d.val ≠ d'.val := fun e => h (Fin.ext e)
  show 136 * d.val + 136 ≤ 136 * d'.val ∨ 136 * d'.val + 136 ≤ 136 * d.val
  omega

theorem slabs_cover (y : S1088x128.Idx) : ∃ d, y ∈ (slabRect d).set := by
  have h0 : (y 0).val < 1088 := (y 0).isLt
  have h1 : (y 1).val < 128 := (y 1).isLt
  refine ⟨⟨(y 0).val / 136, by omega⟩, Rect.mem_set_unit.mpr fun a => ?_⟩
  fin_cases a
  · show 136 * ((y 0).val / 136) ≤ (y 0).val ∧ (y 0).val < 136 * ((y 0).val / 136) + 136; omega
  · show 0 ≤ (y 1).val ∧ (y 1).val < 0 + 128; omega

theorem slabs_held (q : PosShare TreeShare) (X : S1088x128.Idx → Elt F .f32) :
    (held c accM q X : sProp 𝕄) = bigSep Finset.univ fun d : Fin 8 => held c (slab d) q (VecWindow.window X ![136 * d.val, 0] S136x128.size (inb_slab d)) :=
  held_rects c accM slabRect (fun _ _ => rfl) slabs_disj slabs_cover q X

theorem fwd_list : Finset.univ = [c, fwd c 0, fwd c 1, fwd c 2, fwd c 3, fwd c 4, fwd c 5, fwd c 6].toFinset ∧ [c, fwd c 0, fwd c 1, fwd c 2, fwd c 3, fwd c 4, fwd c 5, fwd c 6].Nodup := by revert c; decide
theorem bwd_list : Finset.univ = [c, bwd c 0, bwd c 1, bwd c 2, bwd c 3, bwd c 4, bwd c 5, bwd c 6].toFinset ∧ [c, bwd c 0, bwd c 1, bwd c 2, bwd c 3, bwd c 4, bwd c 5, bwd c 6].Nodup := by revert c; decide

/-- Over the eight devices, from this one on; -/
theorem bigSep_fwd (Φ : Fin 8 → sProp 𝕄) : bigSep Finset.univ Φ = iprop(Φ c ∗ Φ (fwd c 0) ∗ Φ (fwd c 1) ∗ Φ (fwd c 2) ∗ Φ (fwd c 3) ∗ Φ (fwd c 4) ∗ Φ (fwd c 5) ∗ Φ (fwd c 6)) := by
  rw [bigSep_univ_eq_bigSepL [c, fwd c 0, fwd c 1, fwd c 2, fwd c 3, fwd c 4, fwd c 5, fwd c 6] (fwd_list c).1 (fwd_list c).2]
  simp only [bigSepL_cons_cons, bigSepL_singleton]
  rfl
/-- and from this one back. -/
theorem bigSep_bwd (Φ : Fin 8 → sProp 𝕄) : bigSep Finset.univ Φ = iprop(Φ c ∗ Φ (bwd c 0) ∗ Φ (bwd c 1) ∗ Φ (bwd c 2) ∗ Φ (bwd c 3) ∗ Φ (bwd c 4) ∗ Φ (bwd c 5) ∗ Φ (bwd c 6)) := by
  rw [bigSep_univ_eq_bigSepL [c, bwd c 0, bwd c 1, bwd c 2, bwd c 3, bwd c 4, bwd c 5, bwd c 6] (bwd_list c).1 (bwd_list c).2]
  simp only [bigSepL_cons_cons, bigSepL_singleton]
  rfl
theorem bigSep_seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl

/-- The accumulator cut for the scatter. -/
theorem split_all (a : Args F) : (held c accM fullShare (accR a 8) : sProp 𝕄) ⊢ iprop(held c (slab c) fullShare (slabV a c)
    ∗ held c (slab (fwd c 0)) fullShare (slabV a (fwd c 0))
    ∗ held c (slab (fwd c 1)) fullShare (slabV a (fwd c 1))
    ∗ held c (slab (fwd c 2)) fullShare (slabV a (fwd c 2))
    ∗ held c (slab (fwd c 3)) fullShare (slabV a (fwd c 3))
    ∗ held c (slab (fwd c 4)) fullShare (slabV a (fwd c 4))
    ∗ held c (slab (fwd c 5)) fullShare (slabV a (fwd c 5))
    ∗ held c (slab (fwd c 6)) fullShare (slabV a (fwd c 6))) := by
  rw [slabs_held, bigSep_fwd c]
  exact .rfl

/-- What the barrier's seven signals hand over. -/
theorem bar_split : (bigSep Finset.univ (barPay c) : sProp 𝕄) ⊢ iprop((heldAny (fwd c 0) (rsSlot 0) ∗ heldAny (fwd c 0) (agSlot 0))
    ∗ (heldAny (fwd c 1) (rsSlot 1) ∗ heldAny (fwd c 1) (agSlot 1))
    ∗ (heldAny (fwd c 2) (rsSlot 2) ∗ heldAny (fwd c 2) (agSlot 2))
    ∗ (heldAny (fwd c 3) (rsSlot 3) ∗ heldAny (fwd c 3) (agSlot 3))
    ∗ (heldAny (fwd c 4) (rsSlot 4) ∗ heldAny (fwd c 4) (agSlot 4))
    ∗ (heldAny (fwd c 5) (rsSlot 5) ∗ heldAny (fwd c 5) (agSlot 5))
    ∗ (heldAny (fwd c 6) (rsSlot 6) ∗ heldAny (fwd c 6) (agSlot 6))) := by
  rw [bigSep_seven]
  exact .rfl

theorem held_deal {sp : Space} {s : Shape} {e : EltTy} (M : Memref sig .tc sp s e) (X : s.Idx → Elt F e) :
    (held c M fullShare X : sProp 𝕄) = bigSep Finset.univ fun k : Fin 7 => held c M (shr k) X := by
  unfold held shr
  exact Transfers.pointsTo_deal Finset.univ ⟨0, Finset.mem_univ _⟩ fullShare

/-- The summed slab lent seven times. -/
theorem deal_me (X : S136x128.Idx → Elt F .f32) : (held c (slab c) fullShare X : sProp 𝕄) ⊢ iprop(held c (slab c) (shr 0) X
    ∗ held c (slab c) (shr 1) X
    ∗ held c (slab c) (shr 2) X
    ∗ held c (slab c) (shr 3) X
    ∗ held c (slab c) (shr 4) X
    ∗ held c (slab c) (shr 5) X
    ∗ held c (slab c) (shr 6) X) := by
  rw [held_deal, bigSep_seven]

variable (A : Dev nD → Args F)

/-- The shares back together, and all eight slabs the gathered accumulator. -/
theorem join_all : iprop(held c (slab c) (shr 0) (redV A c) ∗ held c (slab c) (shr 1) (redV A c) ∗ held c (slab c) (shr 2) (redV A c) ∗ held c (slab c) (shr 3) (redV A c) ∗ held c (slab c) (shr 4) (redV A c) ∗ held c (slab c) (shr 5) (redV A c) ∗ held c (slab c) (shr 6) (redV A c) ∗ held c (slab (bwd c 0)) fullShare (redV A (bwd c 0)) ∗ held c (slab (bwd c 1)) fullShare (redV A (bwd c 1)) ∗ held c (slab (bwd c 2)) fullShare (redV A (bwd c 2)) ∗ held c (slab (bwd c 3)) fullShare (redV A (bwd c 3)) ∗ held c (slab (bwd c 4)) fullShare (redV A (bwd c 4)) ∗ held c (slab (bwd c 5)) fullShare (redV A (bwd c 5)) ∗ held c (slab (bwd c 6)) fullShare (redV A (bwd c 6)))
    ⊢ (held c accM fullShare (gatV A) : sProp 𝕄) := by
  have hw : (fun d : Fin 8 => (held c (slab d) fullShare (VecWindow.window (gatV A) ![136 * d.val, 0] S136x128.size (inb_slab d)) : sProp 𝕄))
      = fun d => held c (slab d) fullShare (redV A d) := funext fun d => by
    rw [show VecWindow.window (gatV A) ![136 * d.val, 0] S136x128.size (inb_slab d) = redV A d from window_slabs8 (redV A) d]
  rw [slabs_held, hw, bigSep_bwd c]
  have hme : iprop(held c (slab c) (shr 0) (redV A c) ∗ held c (slab c) (shr 1) (redV A c) ∗ held c (slab c) (shr 2) (redV A c) ∗ held c (slab c) (shr 3) (redV A c) ∗ held c (slab c) (shr 4) (redV A c) ∗ held c (slab c) (shr 5) (redV A c) ∗ held c (slab c) (shr 6) (redV A c)) ⊢ (held c (slab c) fullShare (redV A c) : sProp 𝕄) := by
    rw [held_deal, bigSep_seven]
  iintro ⟨HM0, HM1, HM2, HM3, HM4, HM5, HM6, HS0, HS1, HS2, HS3, HS4, HS5, HS6⟩
  isplitl [HM0 HM1 HM2 HM3 HM4 HM5 HM6]
  · iapply hme
    isplitl [HM0]; · iexact HM0
    isplitl [HM1]; · iexact HM1
    isplitl [HM2]; · iexact HM2
    isplitl [HM3]; · iexact HM3
    isplitl [HM4]; · iexact HM4
    isplitl [HM5]; · iexact HM5
    iexact HM6
  isplitl [HS0]; · iexact HS0
  isplitl [HS1]; · iexact HS1
  isplitl [HS2]; · iexact HS2
  isplitl [HS3]; · iexact HS3
  isplitl [HS4]; · iexact HS4
  isplitl [HS5]; · iexact HS5
  iexact HS6

/-! ## Landing buffers -/

abbrev landRect (k : Fin 7) : Rect S7x136x128 := Rect.unit (s := S7x136x128) ![k.val, 0, 0] S1x136x128.size (inb_land k)

theorem land_disj (d d' : Fin 7) (h : d ≠ d') : Disjoint (landRect d).set (landRect d').set := by
  refine Rect.unit_disjoint 0 ?_
  have : d.val ≠ d'.val := fun e => h (Fin.ext e)
  show d.val + 1 ≤ d'.val ∨ d'.val + 1 ≤ d.val
  omega

theorem land_cover (y : S7x136x128.Idx) : ∃ d, y ∈ (landRect d).set := by
  have h0 : (y 0).val < 7 := (y 0).isLt
  have h1 : (y 1).val < 136 := (y 1).isLt
  have h2 : (y 2).val < 128 := (y 2).isLt
  refine ⟨⟨(y 0).val, h0⟩, Rect.mem_set_unit.mpr fun a => ?_⟩
  fin_cases a
  · show (y 0).val ≤ (y 0).val ∧ (y 0).val < (y 0).val + 1; omega
  · show 0 ≤ (y 1).val ∧ (y 1).val < 0 + 136; omega
  · show 0 ≤ (y 2).val ∧ (y 2).val < 0 + 128; omega

theorem land_split (M : Memref sig .tc .vmem S7x136x128 .f32) : (heldAny c M : sProp 𝕄) ⊢ bigSep Finset.univ fun k : Fin 7 => heldAny c (landOf M k) := by
  refine (heldAny_rects c M landRect (fun _ _ => rfl) land_disj land_cover).trans (bigSep_mono fun k _ => ?_)
  exact Entails.of_eq (heldAny_squeeze c _ squeezes_S1x136x128_S136x128).symm
theorem land_join (M : Memref sig .tc .vmem S7x136x128 .f32) : (bigSep Finset.univ fun k : Fin 7 => heldAny c (landOf M k)) ⊢ (heldAny c M : sProp 𝕄) := by
  refine (bigSep_mono fun k _ => ?_).trans (rects_heldAny c M landRect (fun _ _ => rfl) land_disj land_cover)
  exact Entails.of_eq (heldAny_squeeze c _ squeezes_S1x136x128_S136x128)

/-! ## The slots of the keys and values -/

abbrev kvRect (p : Fin 2 × Fin 4) : Rect S2x4x4096x128 := Rect.unit (s := S2x4x4096x128) ![p.1.val, p.2.val, 0, 0] S1x1x4096x128.size (inb_kv p.1 p.2)

theorem kv_disj (d d' : Fin 2 × Fin 4) (h : d ≠ d') : Disjoint (kvRect d).set (kvRect d').set := by
  by_cases e : d.1 = d'.1
  · refine Rect.unit_disjoint 1 ?_
    have : d.2.val ≠ d'.2.val := fun e' => h (Prod.ext e (Fin.ext e'))
    show d.2.val + 1 ≤ d'.2.val ∨ d'.2.val + 1 ≤ d.2.val
    omega
  · refine Rect.unit_disjoint 0 ?_
    have : d.1.val ≠ d'.1.val := fun e' => e (Fin.ext e')
    show d.1.val + 1 ≤ d'.1.val ∨ d'.1.val + 1 ≤ d.1.val
    omega

theorem kv_cover (y : S2x4x4096x128.Idx) : ∃ d, y ∈ (kvRect d).set := by
  have h0 : (y 0).val < 2 := (y 0).isLt
  have h1 : (y 1).val < 4 := (y 1).isLt
  have h2 : (y 2).val < 4096 := (y 2).isLt
  have h3 : (y 3).val < 128 := (y 3).isLt
  refine ⟨(⟨(y 0).val, h0⟩, ⟨(y 1).val, h1⟩), Rect.mem_set_unit.mpr fun a => ?_⟩
  fin_cases a
  · show (y 0).val ≤ (y 0).val ∧ (y 0).val < (y 0).val + 1; omega
  · show (y 1).val ≤ (y 1).val ∧ (y 1).val < (y 1).val + 1; omega
  · show 0 ≤ (y 2).val ∧ (y 2).val < 0 + 4096; omega
  · show 0 ≤ (y 3).val ∧ (y 3).val < 0 + 128; omega

theorem kv_split : (heldAny c kvM : sProp 𝕄) ⊢ bigSep Finset.univ fun p : Fin 2 × Fin 4 => heldAny c (kvSlot p.1 p.2) := by
  refine (heldAny_rects c kvM kvRect (fun _ _ => rfl) kv_disj kv_cover).trans (bigSep_mono fun k _ => ?_)
  exact Entails.of_eq (heldAny_squeeze c _ squeezes_S1x1x4096x128_S4096x128).symm
theorem kv_join : (bigSep Finset.univ fun p : Fin 2 × Fin 4 => heldAny c (kvSlot p.1 p.2)) ⊢ (heldAny c kvM : sProp 𝕄) := by
  refine (bigSep_mono fun k _ => ?_).trans (rects_heldAny c kvM kvRect (fun _ _ => rfl) kv_disj kv_cover)
  exact Entails.of_eq (heldAny_squeeze c _ squeezes_S1x1x4096x128_S4096x128)

end Cert.KProof

end
-- ==== Proof.TailA.lean ====
/-
# The tail of the last grid point, first half

The rows of sums laid under the accumulator, the barrier, and the scatter's sends and waits.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem run_part7 (i : grid0.Coords) (oM : Memref sig .tc .vmem S1x128x1024 .f32) (hoM : oM.IsWhole) (c : Dev nD) (A : Dev nD → Args F) (K : Dev nD × CK → ℕ)
    {Q : (Σ' (d101 : Dev nD) (v103 : BitVec 32) (v139 : FVec F S1x128 .f32), Vec F S1x128 .f32) → sProp 𝕄} :
    iprop(held c lM fullShare (lV (A c) 8) ∗ held c accM fullShare (accR (A c) 0))
      ⊢ iprop((∀ (w1 : BitVec 32), (held c lM fullShare (lV (A c) 8) ∗ held c accM fullShare (accR (A c) 2)) -∗ Q (⟨c, w1, k0_pay16 (VecWindow.window (s := S1024x1) (lV (A c) 8) ![256, 0] S128x1.size inb_S1024x1_S128x1_256_0), (VecWindow.window (s := S1088x128) (accR (A c) 2) ![1026, 0] S1x128.size inb_S1088x128_S1x128_1026_0)⟩ : (Σ' (d101 : Dev nD) (v103 : BitVec 32) (v139 : FVec F S1x128 .f32), Vec F S1x128 .f32))) -∗ WP c (k0_part7 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [k0_part7_eq_skeleton]; unfold k0_part7_skel
  simp only [semSignalWord, semWaitWord, Prog.lift, Prog.bind_op, Prog.bind_ret, Prog.pure_eq_ret, wp_deviceId]
  iintro ⟨HL, HA⟩ Hk
  iapply (wp_ldw c lM _) $$ HL
  iintro HL
  iapply (wp_ldw c accM _) $$ HA
  iintro HA
  iapply (wp_stTo c accM ![1024, 0] S1x128.size (accR (A c) 0) (accR (A c) 1) _ rfl) $$ HA
  iintro HA
  iapply (wp_ldw c lM _) $$ HL
  iintro HL
  iapply (wp_ldw c accM _) $$ HA
  iintro HA
  iapply (wp_stTo c accM ![1025, 0] S1x128.size (accR (A c) 1) (accR (A c) 2) _ rfl) $$ HA
  iintro HA
  iapply (wp_ldw c lM _) $$ HL
  iintro HL
  iapply (wp_ldw c accM _) $$ HA
  iintro HA
  iapply (wp_fin c)
  iapply Hk $$ %_
  isplitl [HL]; · iexact HL
  iexact HA

theorem run_part8 (i : grid0.Coords) (oM : Memref sig .tc .vmem S1x128x1024 .f32) (hoM : oM.IsWhole) (c : Dev nD) (A : Dev nD → Args F) (K : Dev nD × CK → ℕ)
    {Q : (PUnit) → sProp 𝕄} :
    iprop(held c accM fullShare (accR (A c) 2) ∗ held c lM fullShare (lV (A c) 8))
      ⊢ iprop(((held c accM fullShare (accR (A c) 6) ∗ held c lM fullShare (lV (A c) 8)) -∗ Q (⟨⟩ : (PUnit))) -∗ WP c (k0_part8 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 (k0_pay16 (VecWindow.window (s := S1024x1) (lV (A c) 8) ![256, 0] S128x1.size inb_S1024x1_S128x1_256_0)) (VecWindow.window (s := S1088x128) (accR (A c) 2) ![1026, 0] S1x128.size inb_S1088x128_S1x128_1026_0)) Q) := by
  rw [k0_part8_eq_skeleton]; unfold k0_part8_skel
  simp only [semSignalWord, semWaitWord, Prog.lift, Prog.bind_op, Prog.bind_ret, Prog.pure_eq_ret, wp_deviceId]
  iintro ⟨HA, HL⟩ Hk
  iapply (wp_stTo c accM ![1026, 0] S1x128.size (accR (A c) 2) (accR (A c) 3) _ rfl) $$ HA
  iintro HA
  iapply (wp_ldw c lM _) $$ HL
  iintro HL
  iapply (wp_ldw c accM _) $$ HA
  iintro HA
  iapply (wp_stTo c accM ![1027, 0] S1x128.size (accR (A c) 3) (accR (A c) 4) _ rfl) $$ HA
  iintro HA
  iapply (wp_ldw c lM _) $$ HL
  iintro HL
  iapply (wp_ldw c accM _) $$ HA
  iintro HA
  iapply (wp_stTo c accM ![1028, 0] S1x128.size (accR (A c) 4) (accR (A c) 5) _ rfl) $$ HA
  iintro HA
  iapply (wp_ldw c lM _) $$ HL
  iintro HL
  iapply (wp_ldw c accM _) $$ HA
  iintro HA
  iapply (wp_stTo c accM ![1029, 0] S1x128.size (accR (A c) 5) (accR (A c) 6) _ rfl) $$ HA
  iintro HA
  iapply (wp_fin c)
  iapply Hk
  isplitl [HA]; · iexact HA
  iexact HL

theorem run_part9 (i : grid0.Coords) (oM : Memref sig .tc .vmem S1x128x1024 .f32) (hoM : oM.IsWhole) (c : Dev nD) (A : Dev nD → Args F) (K : Dev nD × CK → ℕ) (v103 : BitVec 32)
    {Q : (Σ' (v208 : Sems sig S_), BitVec 32) → sProp 𝕄} :
    iprop(held c lM fullShare (lV (A c) 8) ∗ held c accM fullShare (accR (A c) 6))
      ⊢ iprop((∀ (w1 : BitVec 32), (held c lM fullShare (lV (A c) 8) ∗ held c accM fullShare (accR (A c) 8)) -∗ Q (⟨(SemArray.scalar (sig.barrier 0 rfl)), w1⟩ : (Σ' (v208 : Sems sig S_), BitVec 32))) -∗ WP c (k0_part9 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 v103) Q) := by
  rw [k0_part9_eq_skeleton]; unfold k0_part9_skel
  simp only [semSignalWord, semWaitWord, Prog.lift, Prog.bind_op, Prog.bind_ret, Prog.pure_eq_ret, wp_deviceId]
  iintro ⟨HL, HA⟩ Hk
  iapply (wp_ldw c lM _) $$ HL
  iintro HL
  iapply (wp_ldw c accM _) $$ HA
  iintro HA
  iapply (wp_stTo c accM ![1030, 0] S1x128.size (accR (A c) 6) (accR (A c) 7) _ rfl) $$ HA
  iintro HA
  iapply (wp_ldw c lM _) $$ HL
  iintro HL
  iapply (wp_ldw c accM _) $$ HA
  iintro HA
  iapply (wp_stTo c accM ![1031, 0] S1x128.size (accR (A c) 7) (accR (A c) 8) _ rfl) $$ HA
  iintro HA
  iapply (wp_fin c)
  iapply Hk $$ %_
  isplitl [HL]; · iexact HL
  iexact HA

theorem run_part10 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v220 : BitVec 32)
    {Q : (Σ' (v250 : BitVec 32) (v251 : BitVec 32), BitVec 32) → sProp 𝕄} :
    iprop(records A K ∗ ow c (oAll c 7 7 7) ∗ sigTok c 0 ∗ sigTok c 1 ∗ sigTok c 2)
      ⊢ iprop((∀ (w0 : BitVec 32), ∀ (w1 : BitVec 32), (ow c (oAll c 7 7 4)) -∗ Q (⟨w0, w1, 0#32⟩ : (Σ' (v250 : BitVec 32) (v251 : BitVec 32), BitVec 32))) -∗ WP c (k0_part10 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 (SemArray.scalar (sig.barrier 0 rfl)) v220) Q) := by
  rw [k0_part10_eq_skeleton]; unfold k0_part10_skel
  simp only [semSignalWord, semWaitWord, Prog.lift, Prog.bind_op, Prog.bind_ret, Prog.pure_eq_ret, wp_deviceId]
  iintro ⟨#HR, HO, HB0, HB1, HB2⟩ Hk
  iapply (wp_sigB c A K 0 6 rfl (dev1_eq c _) rfl rfl) $$ [HO HB0]
  · isplitr; · iexact HR
    isplitl [HO]; · iexact HO
    iexact HB0
  iintro HO
  iapply (wp_sigB c A K 1 5 rfl (dev2_eq c _) rfl rfl) $$ [HO HB1]
  · isplitr; · iexact HR
    isplitl [HO]; · iexact HO
    iexact HB1
  iintro HO
  iapply (wp_sigB c A K 2 4 rfl (dev3_eq c _) rfl rfl) $$ [HO HB2]
  · isplitr; · iexact HR
    isplitl [HO]; · iexact HO
    iexact HB2
  iintro HO
  iapply (wp_fin c)
  iapply Hk $$ %_ %_
  iexact HO

theorem run_part11 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v250 : BitVec 32) (v251 : BitVec 32) (c0_i32_136 : BitVec 32)
    {Q : (BitVec 32) → sProp 𝕄} :
    iprop(records A K ∗ ow c (oAll c 7 7 4) ∗ sigTok c 3 ∗ sigTok c 4)
      ⊢ iprop((∀ (w0 : BitVec 32), (ow c (oAll c 7 7 2)) -∗ Q (w0 : (BitVec 32))) -∗ WP c (k0_part11 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 (SemArray.scalar (sig.barrier 0 rfl)) v250 v251 c0_i32_136) Q) := by
  rw [k0_part11_eq_skeleton]; unfold k0_part11_skel
  simp only [semSignalWord, semWaitWord, Prog.lift, Prog.bind_op, Prog.bind_ret, Prog.pure_eq_ret, wp_deviceId]
  iintro ⟨#HR, HO, HB3, HB4⟩ Hk
  iapply (wp_sigB c A K 3 3 rfl (dev4_eq c _) rfl rfl) $$ [HO HB3]
  · isplitr; · iexact HR
    isplitl [HO]; · iexact HO
    iexact HB3
  iintro HO
  iapply (wp_sigB c A K 4 2 rfl (dev5_eq c _) rfl rfl) $$ [HO HB4]
  · isplitr; · iexact HR
    isplitl [HO]; · iexact HO
    iexact HB4
  iintro HO
  iapply (wp_fin c)
  iapply Hk $$ %_
  iexact HO

theorem run_part12 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v285 : BitVec 32)
    {Q : (BitVec 32) → sProp 𝕄} :
    iprop(records A K ∗ ow c (oAll c 7 7 2) ∗ sigTok c 5 ∗ sigTok c 6 ∗ cred (tallyAt (barCell c) () 7) ∗ atPos ER (barCell c) 0 ∅ 0)
      ⊢ iprop((∀ (w0 : BitVec 32), (ow c (oAll c 7 7 0) ∗ semVal (barCell c) 0 ∗ bigSep Finset.univ (barPay c)) -∗ Q (w0 : (BitVec 32))) -∗ WP c (k0_part12 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 (SemArray.scalar (sig.barrier 0 rfl)) v285) Q) := by
  rw [k0_part12_eq_skeleton]; unfold k0_part12_skel
  simp only [semSignalWord, semWaitWord, Prog.lift, Prog.bind_op, Prog.bind_ret, Prog.pure_eq_ret, wp_deviceId]
  iintro ⟨#HR, HO, HB5, HB6, HC, HP⟩ Hk
  iapply (wp_sigB c A K 5 1 rfl (dev6_eq c _) rfl rfl) $$ [HO HB5]
  · isplitr; · iexact HR
    isplitl [HO]; · iexact HO
    iexact HB5
  iintro HO
  iapply (wp_sigB c A K 6 0 rfl (dev7_eq c _) rfl rfl) $$ [HO HB6]
  · isplitr; · iexact HR
    isplitl [HO]; · iexact HO
    iexact HB6
  iintro HO
  iapply (wp_barWait A K c rfl rfl) $$ [HO HC HP]
  · isplitr; · iexact HR
    isplitl [HO]; · iexact HO
    isplitl [HC]; · iexact HC
    iexact HP
  iintro ⟨HO, HZb, HBP⟩
  iapply (wp_fin c)
  iapply Hk $$ %_
  isplitl [HO]; · iexact HO
  isplitl [HZb]; · iexact HZb
  iexact HBP

end Cert.KProof

end
-- ==== Proof.TailB.lean ====
/-
# The scatter of sums

Each device sends every other one its slab of the sums, waits for the seven that come in and adds them up.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem run_part13 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32)
    {Q : (Σ' (v331 : BitVec 32) (v344 : BitVec 32) (v345 : BitVec 32) (v346 : BitVec 1) (v347 : BitVec 1), BitVec 1) → sProp 𝕄} :
    iprop(records A K ∗ ow c (oAll c 7 7 0) ∗ held c (slab (fwd c 0)) fullShare (slabV (A c) (fwd c 0)) ∗ heldAny (fwd c 0) (rsSlot 0) ∗ sendTok c 0 1 0 ∗ held c (slab (fwd c 1)) fullShare (slabV (A c) (fwd c 1)) ∗ heldAny (fwd c 1) (rsSlot 1) ∗ sendTok c 0 1 1)
      ⊢ iprop((∀ (w0 : BitVec 32), ∀ (w1 : BitVec 32), ∀ (w2 : BitVec 32), ∀ (w3 : BitVec 1), ∀ (w4 : BitVec 1), ∀ (w5 : BitVec 1), (ow c (oAll c 7 5 0) ∗ tick c 0 0 ∗ tick c 0 1) -∗ Q (⟨w0, w1, w2, w3, w4, w5⟩ : (Σ' (v331 : BitVec 32) (v344 : BitVec 32) (v345 : BitVec 32) (v346 : BitVec 1) (v347 : BitVec 1), BitVec 1))) -∗ WP c (k0_part13 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103) Q) := by
  rw [k0_part13_eq_skeleton]; unfold k0_part13_skel
  simp only [semSignalWord, semWaitWord, Prog.lift, Prog.bind_op, Prog.bind_ret, Prog.pure_eq_ret, wp_deviceId]
  iintro ⟨#HR, HO, HF0, HN0, HT0, HF1, HN1, HT1⟩ Hk
  iapply (wp_rsSend c A K 0 6 rfl (dev8_eq c _) (xS_eq0 0 rfl) (xS_eq1 0 rfl) (slab_eq (fwd c 0) (off25_eq0 c)) (land_eq rsM 0 rfl)) $$ [HO HF0 HN0 HT0]
  · isplitr; · iexact HR
    isplitl [HO]; · iexact HO
    isplitl [HF0]; · iexact HF0
    isplitl [HN0]; · iexact HN0
    iexact HT0
  iintro ⟨HO, H0T0⟩
  iapply (wp_rsSend c A K 1 5 rfl (dev9_eq c _) (xS_eq0 1 rfl) (xS_eq1 1 rfl) (slab_eq (fwd c 1) (off25_eq1 c)) (land_eq rsM 1 rfl)) $$ [HO HF1 HN1 HT1]
  · isplitr; · iexact HR
    isplitl [HO]; · iexact HO
    isplitl [HF1]; · iexact HF1
    isplitl [HN1]; · iexact HN1
    iexact HT1
  iintro ⟨HO, H0T1⟩
  iapply (wp_fin c)
  iapply Hk $$ %_ %_ %_ %_ %_ %_
  isplitl [HO]; · iexact HO
  isplitl [H0T0]; · iexact H0T0
  iexact H0T1

theorem run_part14 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v344 : BitVec 32) (v345 : BitVec 32) (v346 : BitVec 1) (v347 : BitVec 1) (v348 : BitVec 1)
    {Q : (Σ' (v352 : BitVec 32), BitVec 32) → sProp 𝕄} :
    iprop(records A K ∗ ow c (oAll c 7 5 0) ∗ held c (slab (fwd c 2)) fullShare (slabV (A c) (fwd c 2)) ∗ heldAny (fwd c 2) (rsSlot 2) ∗ sendTok c 0 1 2)
      ⊢ iprop((∀ (w0 : BitVec 32), ∀ (w1 : BitVec 32), (ow c (oAll c 7 4 0) ∗ tick c 0 2) -∗ Q (⟨w0, w1⟩ : (Σ' (v352 : BitVec 32), BitVec 32))) -∗ WP c (k0_part14 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v344 v345 v346 v347 v348) Q) := by
  rw [k0_part14_eq_skeleton]; unfold k0_part14_skel
  simp only [semSignalWord, semWaitWord, Prog.lift, Prog.bind_op, Prog.bind_ret, Prog.pure_eq_ret, wp_deviceId]
  iintro ⟨#HR, HO, HF2, HN2, HT2⟩ Hk
  iapply (wp_rsSend c A K 2 4 rfl (dev10_eq c _) (xS_eq0 2 rfl) (xS_eq1 2 rfl) (slab_eq (fwd c 2) (off25_eq2 c)) (land_eq rsM 2 rfl)) $$ [HO HF2 HN2 HT2]
  · isplitr; · iexact HR
    isplitl [HO]; · iexact HO
    isplitl [HF2]; · iexact HF2
    isplitl [HN2]; · iexact HN2
    iexact HT2
  iintro ⟨HO, H0T2⟩
  iapply (wp_fin c)
  iapply Hk $$ %_ %_
  isplitl [HO]; · iexact HO
  iexact H0T2

theorem run_part15 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32)
    {Q : (Σ' (v394 : BitVec 32), BitVec 32) → sProp 𝕄} :
    iprop(records A K ∗ ow c (oAll c 7 4 0) ∗ held c (slab (fwd c 3)) fullShare (slabV (A c) (fwd c 3)) ∗ heldAny (fwd c 3) (rsSlot 3) ∗ sendTok c 0 1 3 ∗ held c (slab (fwd c 4)) fullShare (slabV (A c) (fwd c 4)) ∗ heldAny (fwd c 4) (rsSlot 4) ∗ sendTok c 0 1 4)
      ⊢ iprop((∀ (w0 : BitVec 32), ∀ (w1 : BitVec 32), (ow c (oAll c 7 2 0) ∗ tick c 0 3 ∗ tick c 0 4) -∗ Q (⟨w0, w1⟩ : (Σ' (v394 : BitVec 32), BitVec 32))) -∗ WP c (k0_part15 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103) Q) := by
  rw [k0_part15_eq_skeleton]; unfold k0_part15_skel
  simp only [semSignalWord, semWaitWord, Prog.lift, Prog.bind_op, Prog.bind_ret, Prog.pure_eq_ret, wp_deviceId]
  iintro ⟨#HR, HO, HF3, HN3, HT3, HF4, HN4, HT4⟩ Hk
  iapply (wp_rsSend c A K 3 3 rfl (dev11_eq c _) (xS_eq0 3 rfl) (xS_eq1 3 rfl) (slab_eq (fwd c 3) (off25_eq3 c)) (land_eq rsM 3 rfl)) $$ [HO HF3 HN3 HT3]
  · isplitr; · iexact HR
    isplitl [HO]; · iexact HO
    isplitl [HF3]; · iexact HF3
    isplitl [HN3]; · iexact HN3
    iexact HT3
  iintro ⟨HO, H0T3⟩
  iapply (wp_rsSend c A K 4 2 rfl (dev12_eq c _) (xS_eq0 4 rfl) (xS_eq1 4 rfl) (slab_eq (fwd c 4) (off25_eq4 c)) (land_eq rsM 4 rfl)) $$ [HO HF4 HN4 HT4]
  · isplitr; · iexact HR
    isplitl [HO]; · iexact HO
    isplitl [HF4]; · iexact HF4
    isplitl [HN4]; · iexact HN4
    iexact HT4
  iintro ⟨HO, H0T4⟩
  iapply (wp_fin c)
  iapply Hk $$ %_ %_
  isplitl [HO]; · iexact HO
  isplitl [H0T3]; · iexact H0T3
  iexact H0T4

theorem run_part16 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v415 : BitVec 32)
    {Q : (BitVec 32) → sProp 𝕄} :
    iprop(records A K ∗ ow c (oAll c 7 2 0) ∗ held c (slab (fwd c 5)) fullShare (slabV (A c) (fwd c 5)) ∗ heldAny (fwd c 5) (rsSlot 5) ∗ sendTok c 0 1 5 ∗ held c (slab (fwd c 6)) fullShare (slabV (A c) (fwd c 6)) ∗ heldAny (fwd c 6) (rsSlot 6) ∗ sendTok c 0 1 6)
      ⊢ iprop((∀ (w0 : BitVec 32), (ow c (oAll c 7 0 0) ∗ tick c 0 5 ∗ tick c 0 6) -∗ Q (w0 : (BitVec 32))) -∗ WP c (k0_part16 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v415) Q) := by
  rw [k0_part16_eq_skeleton]; unfold k0_part16_skel
  simp only [semSignalWord, semWaitWord, Prog.lift, Prog.bind_op, Prog.bind_ret, Prog.pure_eq_ret, wp_deviceId]
  iintro ⟨#HR, HO, HF5, HN5, HT5, HF6, HN6, HT6⟩ Hk
  iapply (wp_rsSend c A K 5 1 rfl (dev13_eq c _) (xS_eq0 5 rfl) (xS_eq1 5 rfl) (slab_eq (fwd c 5) (off25_eq5 c)) (land_eq rsM 5 rfl)) $$ [HO HF5 HN5 HT5]
  · isplitr; · iexact HR
    isplitl [HO]; · iexact HO
    isplitl [HF5]; · iexact HF5
    isplitl [HN5]; · iexact HN5
    iexact HT5
  iintro ⟨HO, H0T5⟩
  iapply (wp_rsSend c A K 6 0 rfl (dev14_eq c _) (xS_eq0 6 rfl) (xS_eq1 6 rfl) (slab_eq (fwd c 6) (off25_eq6 c)) (land_eq rsM 6 rfl)) $$ [HO HF6 HN6 HT6]
  · isplitr; · iexact HR
    isplitl [HO]; · iexact HO
    isplitl [HF6]; · iexact HF6
    isplitl [HN6]; · iexact HN6
    iexact HT6
  iintro ⟨HO, H0T6⟩
  iapply (wp_fin c)
  iapply Hk $$ %_
  isplitl [HO]; · iexact HO
  isplitl [H0T5]; · iexact H0T5
  iexact H0T6

theorem run_part17 (i : grid0.Coords) (oM : Memref sig .tc .vmem S1x128x1024 .f32) (hoM : oM.IsWhole) (c : Dev nD) (A : Dev nD → Args F) (K : Dev nD × CK → ℕ) (k0_h3 : k0_cond3 i = 1#1) (v310 : BitVec 32) (v331 : BitVec 32) (v352 : BitVec 32)
    {Q : (FVec F S136x128 .f32) → sProp 𝕄} :
    iprop(records A K ∗ held c (slab c) fullShare (slabV (A c) c) ∗ ow c (oAll c 7 0 0) ∗ tick c 1 0 ∗ tick c 1 1)
      ⊢ iprop(((held c (slab c) fullShare (slabV (A c) c) ∗ ow c (oAll c 7 0 0) ∗ held c (rsSlot 0) fullShare (slabV (A (bwd c 0)) c) ∗ held c (rsSlot 1) fullShare (slabV (A (bwd c 1)) c) ∗ semVal (xCell c 1 0) 0 ∗ semVal (xCell c 1 1) 0) -∗ Q ((k0_pay23 (slabV (A c) c) (unsq squeezes_S1x136x128_S136x128 (slabV (A (bwd c 0)) c)) (unsq squeezes_S1x136x128_S136x128 (slabV (A (bwd c 1)) c))) : (FVec F S136x128 .f32))) -∗ WP c (k0_part17 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v310 v331 v352) Q) := by
  rw [k0_part17_eq_skeleton]; unfold k0_part17_skel
  simp only [semSignalWord, semWaitWord, Prog.lift, Prog.bind_op, Prog.bind_ret, Prog.pure_eq_ret, wp_deviceId]
  iintro ⟨#HR, HSme, HO, H1T0, H1T1⟩ Hk
  iapply (wp_ldSlice c accM (inb_slab c) (off26_eq c)) $$ HSme
  iintro HSme
  iapply (wp_rsLand c A K 0 (xS_eq1 0 rfl) (rsSlot 0) (land_eq rsM 0 rfl) rfl) $$ [HO H1T0]
  · isplitr; · iexact HR
    isplitl [HO]; · iexact HO
    iexact H1T0
  iintro ⟨HO, HZ10, HR0⟩
  iapply (wp_ldSlot c rsM (inb_land 0) squeezes_S1x136x128_S136x128 rfl) $$ HR0
  iintro HR0
  iapply (wp_rsLand c A K 1 (xS_eq1 1 rfl) (rsSlot 1) (land_eq rsM 1 rfl) rfl) $$ [HO H1T1]
  · isplitr; · iexact HR
    isplitl [HO]; · iexact HO
    iexact H1T1
  iintro ⟨HO, HZ11, HR1⟩
  iapply (wp_ldSlot c rsM (inb_land 1) squeezes_S1x136x128_S136x128 rfl) $$ HR1
  iintro HR1
  iapply (wp_fin c)
  iapply Hk
  isplitl [HSme]; · iexact HSme
  isplitl [HO]; · iexact HO
  isplitl [HR0]; · iexact HR0
  isplitl [HR1]; · iexact HR1
  isplitl [HZ10]; · iexact HZ10
  iexact HZ11

theorem run_part18 (i : grid0.Coords) (oM : Memref sig .tc .vmem S1x128x1024 .f32) (hoM : oM.IsWhole) (c : Dev nD) (A : Dev nD → Args F) (K : Dev nD × CK → ℕ) (k0_h3 : k0_cond3 i = 1#1) (v373 : BitVec 32) (v394 : BitVec 32) (v415 : BitVec 32)
    {Q : (FVec F S136x128 .f32) → sProp 𝕄} :
    iprop(records A K ∗ ow c (oAll c 7 0 0) ∗ tick c 1 2 ∗ tick c 1 3 ∗ tick c 1 4)
      ⊢ iprop(((ow c (oAll c 7 0 0) ∗ held c (rsSlot 2) fullShare (slabV (A (bwd c 2)) c) ∗ held c (rsSlot 3) fullShare (slabV (A (bwd c 3)) c) ∗ held c (rsSlot 4) fullShare (slabV (A (bwd c 4)) c) ∗ semVal (xCell c 1 2) 0 ∗ semVal (xCell c 1 3) 0 ∗ semVal (xCell c 1 4) 0) -∗ Q ((k0_pay24 (k0_pay23 (slabV (A c) c) (unsq squeezes_S1x136x128_S136x128 (slabV (A (bwd c 0)) c)) (unsq squeezes_S1x136x128_S136x128 (slabV (A (bwd c 1)) c))) (unsq squeezes_S1x136x128_S136x128 (slabV (A (bwd c 2)) c)) (unsq squeezes_S1x136x128_S136x128 (slabV (A (bwd c 3)) c)) (unsq squeezes_S1x136x128_S136x128 (slabV (A (bwd c 4)) c))) : (FVec F S136x128 .f32))) -∗ WP c (k0_part18 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v373 v394 v415 (k0_pay23 (slabV (A c) c) (unsq squeezes_S1x136x128_S136x128 (slabV (A (bwd c 0)) c)) (unsq squeezes_S1x136x128_S136x128 (slabV (A (bwd c 1)) c)))) Q) := by
  rw [k0_part18_eq_skeleton]; unfold k0_part18_skel
  simp only [semSignalWord, semWaitWord, Prog.lift, Prog.bind_op, Prog.bind_ret, Prog.pure_eq_ret, wp_deviceId]
  iintro ⟨#HR, HO, H1T2, H1T3, H1T4⟩ Hk
  iapply (wp_rsLand c A K 2 (xS_eq1 2 rfl) (rsSlot 2) (land_eq rsM 2 rfl) rfl) $$ [HO H1T2]
  · isplitr; · iexact HR
    isplitl [HO]; · iexact HO
    iexact H1T2
  iintro ⟨HO, HZ12, HR2⟩
  iapply (wp_ldSlot c rsM (inb_land 2) squeezes_S1x136x128_S136x128 rfl) $$ HR2
  iintro HR2
  iapply (wp_rsLand c A K 3 (xS_eq1 3 rfl) (rsSlot 3) (land_eq rsM 3 rfl) rfl) $$ [HO H1T3]
  · isplitr; · iexact HR
    isplitl [HO]; · iexact HO
    iexact H1T3
  iintro ⟨HO, HZ13, HR3⟩
  iapply (wp_ldSlot c rsM (inb_land 3) squeezes_S1x136x128_S136x128 rfl) $$ HR3
  iintro HR3
  iapply (wp_rsLand c A K 4 (xS_eq1 4 rfl) (rsSlot 4) (land_eq rsM 4 rfl) rfl) $$ [HO H1T4]
  · isplitr; · iexact HR
    isplitl [HO]; · iexact HO
    iexact H1T4
  iintro ⟨HO, HZ14, HR4⟩
  iapply (wp_ldSlot c rsM (inb_land 4) squeezes_S1x136x128_S136x128 rfl) $$ HR4
  iintro HR4
  iapply (wp_fin c)
  iapply Hk
  isplitl [HO]; · iexact HO
  isplitl [HR2]; · iexact HR2
  isplitl [HR3]; · iexact HR3
  isplitl [HR4]; · iexact HR4
  isplitl [HZ12]; · iexact HZ12
  isplitl [HZ13]; · iexact HZ13
  iexact HZ14

theorem run_part19 (i : grid0.Coords) (oM : Memref sig .tc .vmem S1x128x1024 .f32) (hoM : oM.IsWhole) (c : Dev nD) (A : Dev nD → Args F) (K : Dev nD × CK → ℕ) (k0_h3 : k0_cond3 i = 1#1) (v436 : BitVec 32)
    {Q : (FVec F S136x128 .f32) → sProp 𝕄} :
    iprop(records A K ∗ ow c (oAll c 7 0 0) ∗ tick c 1 5 ∗ tick c 1 6 ∗ tick c 0 0)
      ⊢ iprop(((ow c (oAll c 7 0 0) ∗ held c (rsSlot 5) fullShare (slabV (A (bwd c 5)) c) ∗ held c (rsSlot 6) fullShare (slabV (A (bwd c 6)) c) ∗ semVal (xCell c 1 5) 0 ∗ semVal (xCell c 1 6) 0 ∗ semVal (xCell c 0 0) 0 ∗ heldAny c (slab (bwd c 6))) -∗ Q ((k0_pay25 (k0_pay24 (k0_pay23 (slabV (A c) c) (unsq squeezes_S1x136x128_S136x128 (slabV (A (bwd c 0)) c)) (unsq squeezes_S1x136x128_S136x128 (slabV (A (bwd c 1)) c))) (unsq squeezes_S1x136x128_S136x128 (slabV (A (bwd c 2)) c)) (unsq squeezes_S1x136x128_S136x128 (slabV (A (bwd c 3)) c)) (unsq squeezes_S1x136x128_S136x128 (slabV (A (bwd c 4)) c))) (unsq squeezes_S1x136x128_S136x128 (slabV (A (bwd c 5)) c)) (unsq squeezes_S1x136x128_S136x128 (slabV (A (bwd c 6)) c))) : (FVec F S136x128 .f32))) -∗ WP c (k0_part19 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v436 (k0_pay24 (k0_pay23 (slabV (A c) c) (unsq squeezes_S1x136x128_S136x128 (slabV (A (bwd c 0)) c)) (unsq squeezes_S1x136x128_S136x128 (slabV (A (bwd c 1)) c))) (unsq squeezes_S1x136x128_S136x128 (slabV (A (bwd c 2)) c)) (unsq squeezes_S1x136x128_S136x128 (slabV (A (bwd c 3)) c)) (unsq squeezes_S1x136x128_S136x128 (slabV (A (bwd c 4)) c)))) Q) := by
  rw [k0_part19_eq_skeleton]; unfold k0_part19_skel
  simp only [semSignalWord, semWaitWord, Prog.lift, Prog.bind_op, Prog.bind_ret, Prog.pure_eq_ret, wp_deviceId]
  iintro ⟨#HR, HO, H1T5, H1T6, H0T0⟩ Hk
  iapply (wp_rsLand c A K 5 (xS_eq1 5 rfl) (rsSlot 5) (land_eq rsM 5 rfl) rfl) $$ [HO H1T5]
  · isplitr; · iexact HR
    isplitl [HO]; · iexact HO
    iexact H1T5
  iintro ⟨HO, HZ15, HR5⟩
  iapply (wp_ldSlot c rsM (inb_land 5) squeezes_S1x136x128_S136x128 rfl) $$ HR5
  iintro HR5
  iapply (wp_rsLand c A K 6 (xS_eq1 6 rfl) (rsSlot 6) (land_eq rsM 6 rfl) rfl) $$ [HO H1T6]
  · isplitr; · iexact HR
    isplitl [HO]; · iexact HO
    iexact H1T6
  iintro ⟨HO, HZ16, HR6⟩
  iapply (wp_ldSlot c rsM (inb_land 6) squeezes_S1x136x128_S136x128 rfl) $$ HR6
  iintro HR6
  iapply (wp_rsHome c A K 0 6 (bwd_eq c 6).symm (xS_eq0 0 rfl) (slab (fwd c 0)) (slab_eq (fwd c 0) (off25_eq0 c)) rfl) $$ [HO H0T0]
  · isplitr; · iexact HR
    isplitl [HO]; · iexact HO
    iexact H0T0
  iintro ⟨HO, HZ00, HS6⟩
  iapply (wp_fin c)
  iapply Hk
  isplitl [HO]; · iexact HO
  isplitl [HR5]; · iexact HR5
  isplitl [HR6]; · iexact HR6
  isplitl [HZ15]; · iexact HZ15
  isplitl [HZ16]; · iexact HZ16
  isplitl [HZ00]; · iexact HZ00
  iexact HS6

theorem run_part20 (i : grid0.Coords) (oM : Memref sig .tc .vmem S1x128x1024 .f32) (hoM : oM.IsWhole) (c : Dev nD) (A : Dev nD → Args F) (K : Dev nD × CK → ℕ) (k0_h3 : k0_cond3 i = 1#1)
    {Q : (PUnit) → sProp 𝕄} :
    iprop(records A K ∗ ow c (oAll c 7 0 0) ∗ tick c 0 1 ∗ tick c 0 2 ∗ tick c 0 3 ∗ tick c 0 4 ∗ tick c 0 5)
      ⊢ iprop(((ow c (oAll c 7 0 0) ∗ semVal (xCell c 0 1) 0 ∗ heldAny c (slab (bwd c 5)) ∗ semVal (xCell c 0 2) 0 ∗ heldAny c (slab (bwd c 4)) ∗ semVal (xCell c 0 3) 0 ∗ heldAny c (slab (bwd c 3)) ∗ semVal (xCell c 0 4) 0 ∗ heldAny c (slab (bwd c 2)) ∗ semVal (xCell c 0 5) 0 ∗ heldAny c (slab (bwd c 1))) -∗ Q (⟨⟩ : (PUnit))) -∗ WP c (k0_part20 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c) Q) := by
  rw [k0_part20_eq_skeleton]; unfold k0_part20_skel
  simp only [semSignalWord, semWaitWord, Prog.lift, Prog.bind_op, Prog.bind_ret, Prog.pure_eq_ret, wp_deviceId]
  iintro ⟨#HR, HO, H0T1, H0T2, H0T3, H0T4, H0T5⟩ Hk
  iapply (wp_rsHome c A K 1 5 (bwd_eq c 5).symm (xS_eq0 1 rfl) (slab (fwd c 1)) (slab_eq (fwd c 1) (off25_eq1 c)) rfl) $$ [HO H0T1]
  · isplitr; · iexact HR
    isplitl [HO]; · iexact HO
    iexact H0T1
  iintro ⟨HO, HZ01, HS5⟩
  iapply (wp_rsHome c A K 2 4 (bwd_eq c 4).symm (xS_eq0 2 rfl) (slab (fwd c 2)) (slab_eq (fwd c 2) (off25_eq2 c)) rfl) $$ [HO H0T2]
  · isplitr; · iexact HR
    isplitl [HO]; · iexact HO
    iexact H0T2
  iintro ⟨HO, HZ02, HS4⟩
  iapply (wp_rsHome c A K 3 3 (bwd_eq c 3).symm (xS_eq0 3 rfl) (slab (fwd c 3)) (slab_eq (fwd c 3) (off25_eq3 c)) rfl) $$ [HO H0T3]
  · isplitr; · iexact HR
    isplitl [HO]; · iexact HO
    iexact H0T3
  iintro ⟨HO, HZ03, HS3⟩
  iapply (wp_rsHome c A K 4 2 (bwd_eq c 2).symm (xS_eq0 4 rfl) (slab (fwd c 4)) (slab_eq (fwd c 4) (off25_eq4 c)) rfl) $$ [HO H0T4]
  · isplitr; · iexact HR
    isplitl [HO]; · iexact HO
    iexact H0T4
  iintro ⟨HO, HZ04, HS2⟩
  iapply (wp_rsHome c A K 5 1 (bwd_eq c 1).symm (xS_eq0 5 rfl) (slab (fwd c 5)) (slab_eq (fwd c 5) (off25_eq5 c)) rfl) $$ [HO H0T5]
  · isplitr; · iexact HR
    isplitl [HO]; · iexact HO
    iexact H0T5
  iintro ⟨HO, HZ05, HS1⟩
  iapply (wp_fin c)
  iapply Hk
  isplitl [HO]; · iexact HO
  isplitl [HZ01]; · iexact HZ01
  isplitl [HS5]; · iexact HS5
  isplitl [HZ02]; · iexact HZ02
  isplitl [HS4]; · iexact HS4
  isplitl [HZ03]; · iexact HZ03
  isplitl [HS3]; · iexact HS3
  isplitl [HZ04]; · iexact HZ04
  isplitl [HS2]; · iexact HS2
  isplitl [HZ05]; · iexact HZ05
  iexact HS1

end Cert.KProof

end
-- ==== Proof.TailC.lean ====
/-
# The gather

Each device sends its slab of sums to every other one and lays the seven that come in into its own buffer.
-/
module

public import proofs.«01_k».proof.Proof.Slabs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem run_part21 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32)
    {Q : (Σ' (v571 : BitVec 32) (v582 : BitVec 32) (c8_i32_427 : BitVec 32) (v583 : BitVec 1), BitVec 32) → sProp 𝕄} :
    iprop(records A K ∗ ow c (oAll c 7 0 0) ∗ tick c 0 6 ∗ held c (slab c) fullShare (slabV (A c) c) ∗ heldAny (fwd c 0) (agSlot 0) ∗ sendTok c 2 3 0)
      ⊢ iprop((∀ (w0 : BitVec 32), ∀ (w1 : BitVec 32), ∀ (w3 : BitVec 1), (ow c (oAll c 6 0 0) ∗ held c (slab c) (shr 1) (redV A c) ∗ held c (slab c) (shr 2) (redV A c) ∗ held c (slab c) (shr 3) (redV A c) ∗ held c (slab c) (shr 4) (redV A c) ∗ held c (slab c) (shr 5) (redV A c) ∗ held c (slab c) (shr 6) (redV A c) ∗ semVal (xCell c 0 6) 0 ∗ heldAny c (slab (bwd c 0)) ∗ tick c 2 0) -∗ Q (⟨w0, w1, 8#32, w3, 1#32⟩ : (Σ' (v571 : BitVec 32) (v582 : BitVec 32) (c8_i32_427 : BitVec 32) (v583 : BitVec 1), BitVec 32))) -∗ WP c (k0_part21 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 (k0_pay25 (k0_pay24 (k0_pay23 (slabV (A c) c) (unsq squeezes_S1x136x128_S136x128 (slabV (A (bwd c 0)) c)) (unsq squeezes_S1x136x128_S136x128 (slabV (A (bwd c 1)) c))) (unsq squeezes_S1x136x128_S136x128 (slabV (A (bwd c 2)) c)) (unsq squeezes_S1x136x128_S136x128 (slabV (A (bwd c 3)) c)) (unsq squeezes_S1x136x128_S136x128 (slabV (A (bwd c 4)) c))) (unsq squeezes_S1x136x128_S136x128 (slabV (A (bwd c 5)) c)) (unsq squeezes_S1x136x128_S136x128 (slabV (A (bwd c 6)) c)))) Q) := by
  rw [k0_part21_eq_skeleton]; unfold k0_part21_skel
  simp only [semSignalWord, semWaitWord, Prog.lift, Prog.bind_op, Prog.bind_ret, Prog.pure_eq_ret, wp_deviceId]
  iintro ⟨#HR, HO, H0T6, HSme, HN0, HT0⟩ Hk
  iapply (wp_rsHome c A K 6 0 (bwd_eq c 0).symm (xS_eq0 6 rfl) (slab (fwd c 6)) (slab_eq (fwd c 6) (off25_eq6 c)) rfl) $$ [HO H0T6]
  · isplitr; · iexact HR
    isplitl [HO]; · iexact HO
    iexact H0T6
  iintro ⟨HO, HZ06, HS0⟩
  iapply (wp_ldSlice c accM (inb_slab c) (off26_eq c)) $$ HSme
  iintro HSme
  iapply (wp_stSl c accM (inb_slab c) (off26_eq c) (redV A c) rfl) $$ HSme
  iintro HSme
  ihave HSme := (deal_me c (redV A c)) $$ HSme
  icases HSme with ⟨HM0, HM1, HM2, HM3, HM4, HM5, HM6⟩
  iapply (wp_agSend c A K 0 6 rfl (dev15_eq c _) (xS_eq2 0 rfl) (xS_eq3 0 rfl) (slab_eq c (off27_eq c)) (land_eq agM 0 rfl)) $$ [HO HM0 HN0 HT0]
  · isplitr; · iexact HR
    isplitl [HO]; · iexact HO
    isplitl [HM0]; · iexact HM0
    isplitl [HN0]; · iexact HN0
    iexact HT0
  iintro ⟨HO, H2T0⟩
  iapply (wp_fin c)
  iapply Hk $$ %_ %_ %_
  isplitl [HO]; · iexact HO
  isplitl [HM1]; · iexact HM1
  isplitl [HM2]; · iexact HM2
  isplitl [HM3]; · iexact HM3
  isplitl [HM4]; · iexact HM4
  isplitl [HM5]; · iexact HM5
  isplitl [HM6]; · iexact HM6
  isplitl [HZ06]; · iexact HZ06
  isplitl [HS0]; · iexact HS0
  iexact H2T0

theorem run_part22 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v582 : BitVec 32) (c8_i32_427 : BitVec 32) (v583 : BitVec 1) (c1_i32_429 : BitVec 32)
    {Q : (Σ' (v592 : BitVec 32), BitVec 32) → sProp 𝕄} :
    iprop(records A K ∗ ow c (oAll c 6 0 0) ∗ held c (slab c) (shr 1) (redV A c) ∗ heldAny (fwd c 1) (agSlot 1) ∗ sendTok c 2 3 1)
      ⊢ iprop((∀ (w0 : BitVec 32), ∀ (w1 : BitVec 32), (ow c (oAll c 5 0 0) ∗ tick c 2 1) -∗ Q (⟨w0, w1⟩ : (Σ' (v592 : BitVec 32), BitVec 32))) -∗ WP c (k0_part22 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v582 c8_i32_427 v583 c1_i32_429) Q) := by
  rw [k0_part22_eq_skeleton]; unfold k0_part22_skel
  simp only [semSignalWord, semWaitWord, Prog.lift, Prog.bind_op, Prog.bind_ret, Prog.pure_eq_ret, wp_deviceId]
  iintro ⟨#HR, HO, HM1, HN1, HT1⟩ Hk
  iapply (wp_agSend c A K 1 5 rfl (dev16_eq c _) (xS_eq2 1 rfl) (xS_eq3 1 rfl) (slab_eq c (off27_eq c)) (land_eq agM 1 rfl)) $$ [HO HM1 HN1 HT1]
  · isplitr; · iexact HR
    isplitl [HO]; · iexact HO
    isplitl [HM1]; · iexact HM1
    isplitl [HN1]; · iexact HN1
    iexact HT1
  iintro ⟨HO, H2T1⟩
  iapply (wp_fin c)
  iapply Hk $$ %_ %_
  isplitl [HO]; · iexact HO
  iexact H2T1

theorem run_part23 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32)
    {Q : (Σ' (v634 : BitVec 32) (v647 : BitVec 32) (v648 : BitVec 32) (v649 : BitVec 1), BitVec 1) → sProp 𝕄} :
    iprop(records A K ∗ ow c (oAll c 5 0 0) ∗ held c (slab c) (shr 2) (redV A c) ∗ heldAny (fwd c 2) (agSlot 2) ∗ sendTok c 2 3 2 ∗ held c (slab c) (shr 3) (redV A c) ∗ heldAny (fwd c 3) (agSlot 3) ∗ sendTok c 2 3 3)
      ⊢ iprop((∀ (w0 : BitVec 32), ∀ (w1 : BitVec 32), ∀ (w2 : BitVec 32), ∀ (w3 : BitVec 1), ∀ (w4 : BitVec 1), (ow c (oAll c 3 0 0) ∗ tick c 2 2 ∗ tick c 2 3) -∗ Q (⟨w0, w1, w2, w3, w4⟩ : (Σ' (v634 : BitVec 32) (v647 : BitVec 32) (v648 : BitVec 32) (v649 : BitVec 1), BitVec 1))) -∗ WP c (k0_part23 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103) Q) := by
  rw [k0_part23_eq_skeleton]; unfold k0_part23_skel
  simp only [semSignalWord, semWaitWord, Prog.lift, Prog.bind_op, Prog.bind_ret, Prog.pure_eq_ret, wp_deviceId]
  iintro ⟨#HR, HO, HM2, HN2, HT2, HM3, HN3, HT3⟩ Hk
  iapply (wp_agSend c A K 2 4 rfl (dev17_eq c _) (xS_eq2 2 rfl) (xS_eq3 2 rfl) (slab_eq c (off27_eq c)) (land_eq agM 2 rfl)) $$ [HO HM2 HN2 HT2]
  · isplitr; · iexact HR
    isplitl [HO]; · iexact HO
    isplitl [HM2]; · iexact HM2
    isplitl [HN2]; · iexact HN2
    iexact HT2
  iintro ⟨HO, H2T2⟩
  iapply (wp_agSend c A K 3 3 rfl (dev18_eq c _) (xS_eq2 3 rfl) (xS_eq3 3 rfl) (slab_eq c (off27_eq c)) (land_eq agM 3 rfl)) $$ [HO HM3 HN3 HT3]
  · isplitr; · iexact HR
    isplitl [HO]; · iexact HO
    isplitl [HM3]; · iexact HM3
    isplitl [HN3]; · iexact HN3
    iexact HT3
  iintro ⟨HO, H2T3⟩
  iapply (wp_fin c)
  iapply Hk $$ %_ %_ %_ %_ %_
  isplitl [HO]; · iexact HO
  isplitl [H2T2]; · iexact H2T2
  iexact H2T3

theorem run_part24 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v647 : BitVec 32) (v648 : BitVec 32) (v649 : BitVec 1) (v650 : BitVec 1)
    {Q : (Σ' (v655 : BitVec 32), BitVec 32) → sProp 𝕄} :
    iprop(records A K ∗ ow c (oAll c 3 0 0) ∗ held c (slab c) (shr 4) (redV A c) ∗ heldAny (fwd c 4) (agSlot 4) ∗ sendTok c 2 3 4)
      ⊢ iprop((∀ (w0 : BitVec 32), ∀ (w1 : BitVec 32), (ow c (oAll c 2 0 0) ∗ tick c 2 4) -∗ Q (⟨w0, w1⟩ : (Σ' (v655 : BitVec 32), BitVec 32))) -∗ WP c (k0_part24 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v647 v648 v649 v650) Q) := by
  rw [k0_part24_eq_skeleton]; unfold k0_part24_skel
  simp only [semSignalWord, semWaitWord, Prog.lift, Prog.bind_op, Prog.bind_ret, Prog.pure_eq_ret, wp_deviceId]
  iintro ⟨#HR, HO, HM4, HN4, HT4⟩ Hk
  iapply (wp_agSend c A K 4 2 rfl (dev19_eq c _) (xS_eq2 4 rfl) (xS_eq3 4 rfl) (slab_eq c (off27_eq c)) (land_eq agM 4 rfl)) $$ [HO HM4 HN4 HT4]
  · isplitr; · iexact HR
    isplitl [HO]; · iexact HO
    isplitl [HM4]; · iexact HM4
    isplitl [HN4]; · iexact HN4
    iexact HT4
  iintro ⟨HO, H2T4⟩
  iapply (wp_fin c)
  iapply Hk $$ %_ %_
  isplitl [HO]; · iexact HO
  iexact H2T4

theorem run_part25 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v571 : BitVec 32)
    {Q : (Σ' (v697 : BitVec 32) (v714 : BitVec 32) (c8_i32_530 : BitVec 32), BitVec 32) → sProp 𝕄} :
    iprop(records A K ∗ ow c (oAll c 2 0 0) ∗ held c (slab c) (shr 5) (redV A c) ∗ heldAny (fwd c 5) (agSlot 5) ∗ sendTok c 2 3 5 ∗ held c (slab c) (shr 6) (redV A c) ∗ heldAny (fwd c 6) (agSlot 6) ∗ sendTok c 2 3 6 ∗ tick c 3 0)
      ⊢ iprop((∀ (w0 : BitVec 32), ∀ (w1 : BitVec 32), (ow c (oAll c 0 0 0) ∗ tick c 2 5 ∗ tick c 2 6 ∗ semVal (xCell c 3 0) 0 ∗ held c (agSlot 0) fullShare (redV A (bwd c 0))) -∗ Q (⟨w0, w1, 8#32, 0#32⟩ : (Σ' (v697 : BitVec 32) (v714 : BitVec 32) (c8_i32_530 : BitVec 32), BitVec 32))) -∗ WP c (k0_part25 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v571) Q) := by
  rw [k0_part25_eq_skeleton]; unfold k0_part25_skel
  simp only [semSignalWord, semWaitWord, Prog.lift, Prog.bind_op, Prog.bind_ret, Prog.pure_eq_ret, wp_deviceId]
  iintro ⟨#HR, HO, HM5, HN5, HT5, HM6, HN6, HT6, H3T0⟩ Hk
  iapply (wp_agSend c A K 5 1 rfl (dev20_eq c _) (xS_eq2 5 rfl) (xS_eq3 5 rfl) (slab_eq c (off27_eq c)) (land_eq agM 5 rfl)) $$ [HO HM5 HN5 HT5]
  · isplitr; · iexact HR
    isplitl [HO]; · iexact HO
    isplitl [HM5]; · iexact HM5
    isplitl [HN5]; · iexact HN5
    iexact HT5
  iintro ⟨HO, H2T5⟩
  iapply (wp_agSend c A K 6 0 rfl (dev21_eq c _) (xS_eq2 6 rfl) (xS_eq3 6 rfl) (slab_eq c (off27_eq c)) (land_eq agM 6 rfl)) $$ [HO HM6 HN6 HT6]
  · isplitr; · iexact HR
    isplitl [HO]; · iexact HO
    isplitl [HM6]; · iexact HM6
    isplitl [HN6]; · iexact HN6
    iexact HT6
  iintro ⟨HO, H2T6⟩
  iapply (wp_agLand c A K 0 (xS_eq3 0 rfl) (agSlot 0) (land_eq agM 0 rfl) rfl) $$ [HO H3T0]
  · isplitr; · iexact HR
    isplitl [HO]; · iexact HO
    iexact H3T0
  iintro ⟨HO, HZ30, HG0⟩
  iapply (wp_fin c)
  iapply Hk $$ %_ %_
  isplitl [HO]; · iexact HO
  isplitl [H2T5]; · iexact H2T5
  isplitl [H2T6]; · iexact H2T6
  isplitl [HZ30]; · iexact HZ30
  iexact HG0

theorem run_part26 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v592 : BitVec 32) (v714 : BitVec 32) (c8_i32_530 : BitVec 32) (c0_i32_531 : BitVec 32)
    {Q : (Σ' (v742 : BitVec 32) (v747 : BitVec 1), BitVec 32) → sProp 𝕄} :
    iprop(records A K ∗ held c (agSlot 0) fullShare (redV A (bwd c 0)) ∗ heldAny c (slab (bwd c 0)) ∗ ow c (oAll c 0 0 0) ∗ tick c 3 1)
      ⊢ iprop((∀ (w0 : BitVec 32), ∀ (w1 : BitVec 1), ∀ (w2 : BitVec 32), (held c (agSlot 0) fullShare (redV A (bwd c 0)) ∗ held c (slab (bwd c 0)) fullShare (redV A (bwd c 0)) ∗ ow c (oAll c 0 0 0) ∗ semVal (xCell c 3 1) 0 ∗ held c (agSlot 1) fullShare (redV A (bwd c 1))) -∗ Q (⟨w0, w1, w2⟩ : (Σ' (v742 : BitVec 32) (v747 : BitVec 1), BitVec 32))) -∗ WP c (k0_part26 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v592 v714 c8_i32_530 c0_i32_531) Q) := by
  rw [k0_part26_eq_skeleton]; unfold k0_part26_skel
  simp only [semSignalWord, semWaitWord, Prog.lift, Prog.bind_op, Prog.bind_ret, Prog.pure_eq_ret, wp_deviceId]
  iintro ⟨#HR, HG0, HS0, HO, H3T1⟩ Hk
  iapply (wp_ldSlot c agM (inb_land 0) squeezes_S1x136x128_S136x128 rfl) $$ HG0
  iintro HG0
  ihave HS0 := (heldAny_some c (slab (bwd c 0))) $$ HS0
  icases HS0 with ⟨%X0, HS0⟩
  iapply (wp_ldSlice c accM (inb_slab (bwd c 0)) (off28_eq0 c)) $$ HS0
  iintro HS0
  iapply (wp_stSl c accM (inb_slab (bwd c 0)) (off28_eq0 c) (redV A (bwd c 0)) (pay27_unsq _)) $$ HS0
  iintro HS0
  iapply (wp_agLand c A K 1 (xS_eq3 1 rfl) (agSlot 1) (land_eq agM 1 rfl) rfl) $$ [HO H3T1]
  · isplitr; · iexact HR
    isplitl [HO]; · iexact HO
    iexact H3T1
  iintro ⟨HO, HZ31, HG1⟩
  iapply (wp_fin c)
  iapply Hk $$ %_ %_ %_
  isplitl [HG0]; · iexact HG0
  isplitl [HS0]; · iexact HS0
  isplitl [HO]; · iexact HO
  isplitl [HZ31]; · iexact HZ31
  iexact HG1

theorem run_part27 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v613 : BitVec 32) (v742 : BitVec 32) (v747 : BitVec 1) (v748 : BitVec 32)
    {Q : (FVec F S136x128 .f32) → sProp 𝕄} :
    iprop(records A K ∗ held c (agSlot 1) fullShare (redV A (bwd c 1)) ∗ heldAny c (slab (bwd c 1)) ∗ ow c (oAll c 0 0 0) ∗ tick c 3 2 ∗ heldAny c (slab (bwd c 2)))
      ⊢ iprop(((held c (agSlot 1) fullShare (redV A (bwd c 1)) ∗ held c (slab (bwd c 1)) fullShare (redV A (bwd c 1)) ∗ ow c (oAll c 0 0 0) ∗ held c (agSlot 2) fullShare (redV A (bwd c 2)) ∗ heldAny c (slab (bwd c 2)) ∗ semVal (xCell c 3 2) 0) -∗ Q ((k0_pay29 (unsq squeezes_S1x136x128_S136x128 (redV A (bwd c 2)))) : (FVec F S136x128 .f32))) -∗ WP c (k0_part27 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v613 v742 v747 v748) Q) := by
  rw [k0_part27_eq_skeleton]; unfold k0_part27_skel
  simp only [semSignalWord, semWaitWord, Prog.lift, Prog.bind_op, Prog.bind_ret, Prog.pure_eq_ret, wp_deviceId]
  iintro ⟨#HR, HG1, HS1, HO, H3T2, HS2⟩ Hk
  iapply (wp_ldSlot c agM (inb_land 1) squeezes_S1x136x128_S136x128 rfl) $$ HG1
  iintro HG1
  ihave HS1 := (heldAny_some c (slab (bwd c 1))) $$ HS1
  icases HS1 with ⟨%X1, HS1⟩
  iapply (wp_ldSlice c accM (inb_slab (bwd c 1)) (off28_eq1 c)) $$ HS1
  iintro HS1
  iapply (wp_stSl c accM (inb_slab (bwd c 1)) (off28_eq1 c) (redV A (bwd c 1)) (pay27_unsq _)) $$ HS1
  iintro HS1
  iapply (wp_agLand c A K 2 (xS_eq3 2 rfl) (agSlot 2) (land_eq agM 2 rfl) rfl) $$ [HO H3T2]
  · isplitr; · iexact HR
    isplitl [HO]; · iexact HO
    iexact H3T2
  iintro ⟨HO, HZ32, HG2⟩
  iapply (wp_ldSlot c agM (inb_land 2) squeezes_S1x136x128_S136x128 rfl) $$ HG2
  iintro HG2
  ihave HS2 := (heldAny_some c (slab (bwd c 2))) $$ HS2
  icases HS2 with ⟨%X2, HS2⟩
  iapply (wp_ldSlice c accM (inb_slab (bwd c 2)) (off28_eq2 c)) $$ HS2
  iintro HS2
  ihave HS2 := (heldAny_of c (slab (bwd c 2)) X2) $$ HS2
  iapply (wp_fin c)
  iapply Hk
  isplitl [HG1]; · iexact HG1
  isplitl [HS1]; · iexact HS1
  isplitl [HO]; · iexact HO
  isplitl [HG2]; · iexact HG2
  isplitl [HS2]; · iexact HS2
  iexact HZ32

theorem run_part28 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v634 : BitVec 32) (v655 : BitVec 32)
    {Q : (PUnit) → sProp 𝕄} :
    iprop(records A K ∗ heldAny c (slab (bwd c 2)) ∗ ow c (oAll c 0 0 0) ∗ tick c 3 3 ∗ heldAny c (slab (bwd c 3)))
      ⊢ iprop(((held c (slab (bwd c 2)) fullShare (redV A (bwd c 2)) ∗ ow c (oAll c 0 0 0) ∗ held c (agSlot 3) fullShare (redV A (bwd c 3)) ∗ held c (slab (bwd c 3)) fullShare (redV A (bwd c 3)) ∗ semVal (xCell c 3 3) 0) -∗ Q (⟨⟩ : (PUnit))) -∗ WP c (k0_part28 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v634 v655 (k0_pay29 (unsq squeezes_S1x136x128_S136x128 (redV A (bwd c 2))))) Q) := by
  rw [k0_part28_eq_skeleton]; unfold k0_part28_skel
  simp only [semSignalWord, semWaitWord, Prog.lift, Prog.bind_op, Prog.bind_ret, Prog.pure_eq_ret, wp_deviceId]
  iintro ⟨#HR, HS2, HO, H3T3, HS3⟩ Hk
  ihave HS2 := (heldAny_some c (slab (bwd c 2))) $$ HS2
  icases HS2 with ⟨%X2, HS2⟩
  iapply (wp_stSl c accM (inb_slab (bwd c 2)) (off28_eq2 c) (redV A (bwd c 2)) (pay27_unsq _)) $$ HS2
  iintro HS2
  iapply (wp_agLand c A K 3 (xS_eq3 3 rfl) (agSlot 3) (land_eq agM 3 rfl) rfl) $$ [HO H3T3]
  · isplitr; · iexact HR
    isplitl [HO]; · iexact HO
    iexact H3T3
  iintro ⟨HO, HZ33, HG3⟩
  iapply (wp_ldSlot c agM (inb_land 3) squeezes_S1x136x128_S136x128 rfl) $$ HG3
  iintro HG3
  ihave HS3 := (heldAny_some c (slab (bwd c 3))) $$ HS3
  icases HS3 with ⟨%X3, HS3⟩
  iapply (wp_ldSlice c accM (inb_slab (bwd c 3)) (off28_eq3 c)) $$ HS3
  iintro HS3
  iapply (wp_stSl c accM (inb_slab (bwd c 3)) (off28_eq3 c) (redV A (bwd c 3)) (pay27_unsq _)) $$ HS3
  iintro HS3
  iapply (wp_fin c)
  iapply Hk
  isplitl [HS2]; · iexact HS2
  isplitl [HO]; · iexact HO
  isplitl [HG3]; · iexact HG3
  isplitl [HS3]; · iexact HS3
  iexact HZ33

theorem run_part29 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v676 : BitVec 32)
    {Q : (Σ' (v841 : BitVec 32) (v842 : BitVec 32), BitVec 32) → sProp 𝕄} :
    iprop(records A K ∗ ow c (oAll c 0 0 0) ∗ tick c 3 4 ∗ heldAny c (slab (bwd c 4)) ∗ tick c 3 5)
      ⊢ iprop((∀ (w0 : BitVec 32), ∀ (w1 : BitVec 32), (ow c (oAll c 0 0 0) ∗ held c (agSlot 4) fullShare (redV A (bwd c 4)) ∗ held c (slab (bwd c 4)) fullShare (redV A (bwd c 4)) ∗ semVal (xCell c 3 4) 0 ∗ semVal (xCell c 3 5) 0 ∗ held c (agSlot 5) fullShare (redV A (bwd c 5))) -∗ Q (⟨w0, w1, 0#32⟩ : (Σ' (v841 : BitVec 32) (v842 : BitVec 32), BitVec 32))) -∗ WP c (k0_part29 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v676) Q) := by
  rw [k0_part29_eq_skeleton]; unfold k0_part29_skel
  simp only [semSignalWord, semWaitWord, Prog.lift, Prog.bind_op, Prog.bind_ret, Prog.pure_eq_ret, wp_deviceId]
  iintro ⟨#HR, HO, H3T4, HS4, H3T5⟩ Hk
  iapply (wp_agLand c A K 4 (xS_eq3 4 rfl) (agSlot 4) (land_eq agM 4 rfl) rfl) $$ [HO H3T4]
  · isplitr; · iexact HR
    isplitl [HO]; · iexact HO
    iexact H3T4
  iintro ⟨HO, HZ34, HG4⟩
  iapply (wp_ldSlot c agM (inb_land 4) squeezes_S1x136x128_S136x128 rfl) $$ HG4
  iintro HG4
  ihave HS4 := (heldAny_some c (slab (bwd c 4))) $$ HS4
  icases HS4 with ⟨%X4, HS4⟩
  iapply (wp_ldSlice c accM (inb_slab (bwd c 4)) (off28_eq4 c)) $$ HS4
  iintro HS4
  iapply (wp_stSl c accM (inb_slab (bwd c 4)) (off28_eq4 c) (redV A (bwd c 4)) (pay27_unsq _)) $$ HS4
  iintro HS4
  iapply (wp_agLand c A K 5 (xS_eq3 5 rfl) (agSlot 5) (land_eq agM 5 rfl) rfl) $$ [HO H3T5]
  · isplitr; · iexact HR
    isplitl [HO]; · iexact HO
    iexact H3T5
  iintro ⟨HO, HZ35, HG5⟩
  iapply (wp_fin c)
  iapply Hk $$ %_ %_
  isplitl [HO]; · iexact HO
  isplitl [HG4]; · iexact HG4
  isplitl [HS4]; · iexact HS4
  isplitl [HZ34]; · iexact HZ34
  isplitl [HZ35]; · iexact HZ35
  iexact HG5

theorem run_part30 (i : grid0.Coords) (oM : Memref sig .tc .vmem S1x128x1024 .f32) (hoM : oM.IsWhole) (c : Dev nD) (A : Dev nD → Args F) (K : Dev nD × CK → ℕ) (k0_h3 : k0_cond3 i = 1#1) (v103 : BitVec 32) (v697 : BitVec 32) (v841 : BitVec 32) (v842 : BitVec 32) (c0_i32_633 : BitVec 32)
    {Q : (Σ' (v874 : BitVec 32), Vec F S1x136x128 .f32) → sProp 𝕄} :
    iprop(records A K ∗ held c (agSlot 5) fullShare (redV A (bwd c 5)) ∗ heldAny c (slab (bwd c 5)) ∗ ow c (oAll c 0 0 0) ∗ tick c 3 6)
      ⊢ iprop((∀ (w0 : BitVec 32), (held c (agSlot 5) fullShare (redV A (bwd c 5)) ∗ held c (slab (bwd c 5)) fullShare (redV A (bwd c 5)) ∗ ow c (oAll c 0 0 0) ∗ held c (agSlot 6) fullShare (redV A (bwd c 6)) ∗ semVal (xCell c 3 6) 0) -∗ Q (⟨w0, (unsq squeezes_S1x136x128_S136x128 (redV A (bwd c 6)))⟩ : (Σ' (v874 : BitVec 32), Vec F S1x136x128 .f32))) -∗ WP c (k0_part30 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v103 v697 v841 v842 c0_i32_633) Q) := by
  rw [k0_part30_eq_skeleton]; unfold k0_part30_skel
  simp only [semSignalWord, semWaitWord, Prog.lift, Prog.bind_op, Prog.bind_ret, Prog.pure_eq_ret, wp_deviceId]
  iintro ⟨#HR, HG5, HS5, HO, H3T6⟩ Hk
  iapply (wp_ldSlot c agM (inb_land 5) squeezes_S1x136x128_S136x128 rfl) $$ HG5
  iintro HG5
  ihave HS5 := (heldAny_some c (slab (bwd c 5))) $$ HS5
  icases HS5 with ⟨%X5, HS5⟩
  iapply (wp_ldSlice c accM (inb_slab (bwd c 5)) (off28_eq5 c)) $$ HS5
  iintro HS5
  iapply (wp_stSl c accM (inb_slab (bwd c 5)) (off28_eq5 c) (redV A (bwd c 5)) (pay27_unsq _)) $$ HS5
  iintro HS5
  iapply (wp_agLand c A K 6 (xS_eq3 6 rfl) (agSlot 6) (land_eq agM 6 rfl) rfl) $$ [HO H3T6]
  · isplitr; · iexact HR
    isplitl [HO]; · iexact HO
    iexact H3T6
  iintro ⟨HO, HZ36, HG6⟩
  iapply (wp_ldSlot c agM (inb_land 6) squeezes_S1x136x128_S136x128 rfl) $$ HG6
  iintro HG6
  iapply (wp_fin c)
  iapply Hk $$ %_
  isplitl [HG5]; · iexact HG5
  isplitl [HS5]; · iexact HS5
  isplitl [HO]; · iexact HO
  isplitl [HG6]; · iexact HG6
  iexact HZ36

theorem run_part31 (i : grid0.Coords) (oM : Memref sig .tc .vmem S1x128x1024 .f32) (hoM : oM.IsWhole) (c : Dev nD) (A : Dev nD → Args F) (K : Dev nD × CK → ℕ) (k0_h3 : k0_cond3 i = 1#1) (v874 : BitVec 32)
    {Q : (PUnit) → sProp 𝕄} :
    iprop(records A K ∗ heldAny c (slab (bwd c 6)) ∗ ow c (oAll c 0 0 0) ∗ tick c 2 0 ∗ tick c 2 1 ∗ tick c 2 2)
      ⊢ iprop(((held c (slab (bwd c 6)) fullShare (redV A (bwd c 6)) ∗ ow c (oAll c 0 0 0) ∗ semVal (xCell c 2 0) 0 ∗ held c (slab c) (shr 0) (redV A c) ∗ semVal (xCell c 2 1) 0 ∗ held c (slab c) (shr 1) (redV A c) ∗ semVal (xCell c 2 2) 0 ∗ held c (slab c) (shr 2) (redV A c)) -∗ Q (⟨⟩ : (PUnit))) -∗ WP c (k0_part31 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c v874 (unsq squeezes_S1x136x128_S136x128 (redV A (bwd c 6)))) Q) := by
  rw [k0_part31_eq_skeleton]; unfold k0_part31_skel
  simp only [semSignalWord, semWaitWord, Prog.lift, Prog.bind_op, Prog.bind_ret, Prog.pure_eq_ret, wp_deviceId]
  iintro ⟨#HR, HS6, HO, H2T0, H2T1, H2T2⟩ Hk
  ihave HS6 := (heldAny_some c (slab (bwd c 6))) $$ HS6
  icases HS6 with ⟨%X6, HS6⟩
  iapply (wp_ldSlice c accM (inb_slab (bwd c 6)) (off28_eq6 c)) $$ HS6
  iintro HS6
  iapply (wp_stSl c accM (inb_slab (bwd c 6)) (off28_eq6 c) (redV A (bwd c 6)) (pay27_unsq _)) $$ HS6
  iintro HS6
  iapply (wp_agBack c A K 0 (xS_eq2 0 rfl) (slab c) (slab_eq c (off27_eq c)) rfl) $$ [HO H2T0]
  · isplitr; · iexact HR
    isplitl [HO]; · iexact HO
    iexact H2T0
  iintro ⟨HO, HZ20, HM0⟩
  iapply (wp_agBack c A K 1 (xS_eq2 1 rfl) (slab c) (slab_eq c (off27_eq c)) rfl) $$ [HO H2T1]
  · isplitr; · iexact HR
    isplitl [HO]; · iexact HO
    iexact H2T1
  iintro ⟨HO, HZ21, HM1⟩
  iapply (wp_agBack c A K 2 (xS_eq2 2 rfl) (slab c) (slab_eq c (off27_eq c)) rfl) $$ [HO H2T2]
  · isplitr; · iexact HR
    isplitl [HO]; · iexact HO
    iexact H2T2
  iintro ⟨HO, HZ22, HM2⟩
  iapply (wp_fin c)
  iapply Hk
  isplitl [HS6]; · iexact HS6
  isplitl [HO]; · iexact HO
  isplitl [HZ20]; · iexact HZ20
  isplitl [HM0]; · iexact HM0
  isplitl [HZ21]; · iexact HZ21
  isplitl [HM1]; · iexact HM1
  isplitl [HZ22]; · iexact HZ22
  iexact HM2

theorem run_part32 (i : grid0.Coords) (oM : Memref sig .tc .vmem S1x128x1024 .f32) (hoM : oM.IsWhole) (c : Dev nD) (A : Dev nD → Args F) (K : Dev nD × CK → ℕ) (k0_h3 : k0_cond3 i = 1#1)
    {Q : (FVec F S128x128 .f32) → sProp 𝕄} :
    iprop(records A K ∗ ow c (oAll c 0 0 0) ∗ tick c 2 3 ∗ tick c 2 4 ∗ tick c 2 5 ∗ tick c 2 6 ∗ held c (slab c) (shr 0) (redV A c) ∗ held c (slab c) (shr 1) (redV A c) ∗ held c (slab c) (shr 2) (redV A c) ∗ held c (slab (bwd c 0)) fullShare (redV A (bwd c 0)) ∗ held c (slab (bwd c 1)) fullShare (redV A (bwd c 1)) ∗ held c (slab (bwd c 2)) fullShare (redV A (bwd c 2)) ∗ held c (slab (bwd c 3)) fullShare (redV A (bwd c 3)) ∗ held c (slab (bwd c 4)) fullShare (redV A (bwd c 4)) ∗ held c (slab (bwd c 5)) fullShare (redV A (bwd c 5)) ∗ held c (slab (bwd c 6)) fullShare (redV A (bwd c 6)))
      ⊢ iprop(((ow c (oAll c 0 0 0) ∗ held c accM fullShare (gatV A) ∗ semVal (xCell c 2 3) 0 ∗ semVal (xCell c 2 4) 0 ∗ semVal (xCell c 2 5) 0 ∗ semVal (xCell c 2 6) 0) -∗ Q ((k0_pay34 (VecWindow.window (s := S1088x128) (gatV A) ![1024, 0] S1x128.size inb_S1088x128_S1x128_1024_0) (VecWindow.window (s := S1088x128) (gatV A) ![0, 0] S128x128.size inb_S1088x128_S128x128_0_0)) : (FVec F S128x128 .f32))) -∗ WP c (k0_part32 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 k0_h3 c) Q) := by
  rw [k0_part32_eq_skeleton]; unfold k0_part32_skel
  simp only [semSignalWord, semWaitWord, Prog.lift, Prog.bind_op, Prog.bind_ret, Prog.pure_eq_ret, wp_deviceId]
  iintro ⟨#HR, HO, H2T3, H2T4, H2T5, H2T6, HM0, HM1, HM2, HS0, HS1, HS2, HS3, HS4, HS5, HS6⟩ Hk
  iapply (wp_agBack c A K 3 (xS_eq2 3 rfl) (slab c) (slab_eq c (off27_eq c)) rfl) $$ [HO H2T3]
  · isplitr; · iexact HR
    isplitl [HO]; · iexact HO
    iexact H2T3
  iintro ⟨HO, HZ23, HM3⟩
  iapply (wp_agBack c A K 4 (xS_eq2 4 rfl) (slab c) (slab_eq c (off27_eq c)) rfl) $$ [HO H2T4]
  · isplitr; · iexact HR
    isplitl [HO]; · iexact HO
    iexact H2T4
  iintro ⟨HO, HZ24, HM4⟩
  iapply (wp_agBack c A K 5 (xS_eq2 5 rfl) (slab c) (slab_eq c (off27_eq c)) rfl) $$ [HO H2T5]
  · isplitr; · iexact HR
    isplitl [HO]; · iexact HO
    iexact H2T5
  iintro ⟨HO, HZ25, HM5⟩
  iapply (wp_agBack c A K 6 (xS_eq2 6 rfl) (slab c) (slab_eq c (off27_eq c)) rfl) $$ [HO H2T6]
  · isplitr; · iexact HR
    isplitl [HO]; · iexact HO
    iexact H2T6
  iintro ⟨HO, HZ26, HM6⟩
  ihave HA := (join_all c A) $$ [HM0 HM1 HM2 HM3 HM4 HM5 HM6 HS0 HS1 HS2 HS3 HS4 HS5 HS6]
  · isplitl [HM0]; · iexact HM0
    isplitl [HM1]; · iexact HM1
    isplitl [HM2]; · iexact HM2
    isplitl [HM3]; · iexact HM3
    isplitl [HM4]; · iexact HM4
    isplitl [HM5]; · iexact HM5
    isplitl [HM6]; · iexact HM6
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iapply (wp_ldw c accM _) $$ HA
  iintro HA
  iapply (wp_ldw c accM _) $$ HA
  iintro HA
  iapply (wp_fin c)
  iapply Hk
  isplitl [HO]; · iexact HO
  isplitl [HA]; · iexact HA
  isplitl [HZ23]; · iexact HZ23
  isplitl [HZ24]; · iexact HZ24
  isplitl [HZ25]; · iexact HZ25
  iexact HZ26

end Cert.KProof

end
-- ==== Proof.TailD.lean ====
/-
# The normalised rows

Each head's rows over its sums, side by side, and the wait for the output weights.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem run_part33 (i : grid0.Coords) (oM : Memref sig .tc .vmem S1x128x1024 .f32) (hoM : oM.IsWhole) (c : Dev nD) (A : Dev nD → Args F) (K : Dev nD × CK → ℕ) (X : S128x1024.Idx → Elt F .f32)
    {Q : (Σ' (v965 : Vec F S1x128 .f32), FVec F S128x128 .f32) → sProp 𝕄} :
    iprop(held c tM fullShare (putCols X (tBlk A) 0) ∗ held c accM fullShare (gatV A))
      ⊢ iprop(((held c tM fullShare (putCols X (tBlk A) 3) ∗ held c accM fullShare (gatV A)) -∗ Q (⟨(VecWindow.window (s := S1088x128) (gatV A) ![1027, 0] S1x128.size inb_S1088x128_S1x128_1027_0), k0_pay38 (F := F)⟩ : (Σ' (v965 : Vec F S1x128 .f32), FVec F S128x128 .f32))) -∗ WP c (k0_part33 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 (k0_pay34 (VecWindow.window (s := S1088x128) (gatV A) ![1024, 0] S1x128.size inb_S1088x128_S1x128_1024_0) (VecWindow.window (s := S1088x128) (gatV A) ![0, 0] S128x128.size inb_S1088x128_S128x128_0_0))) Q) := by
  rw [k0_part33_eq_skeleton]; unfold k0_part33_skel
  simp only [semSignalWord, semWaitWord, Prog.lift, Prog.bind_op, Prog.bind_ret, Prog.pure_eq_ret, wp_deviceId]
  iintro ⟨HT, HA⟩ Hk
  iapply (wp_ldw c tM _) $$ HT
  iintro HT
  iapply (wp_stTo c tM ![0, 0] S128x128.size (putCols X (tBlk A) 0) (putCols X (tBlk A) 1) _ rfl) $$ HT
  iintro HT
  iapply (wp_ldw c accM _) $$ HA
  iintro HA
  iapply (wp_ldw c accM _) $$ HA
  iintro HA
  iapply (wp_ldw c tM _) $$ HT
  iintro HT
  iapply (wp_stTo c tM ![0, 128] S128x128.size (putCols X (tBlk A) 1) (putCols X (tBlk A) 2) _ rfl) $$ HT
  iintro HT
  iapply (wp_ldw c accM _) $$ HA
  iintro HA
  iapply (wp_ldw c accM _) $$ HA
  iintro HA
  iapply (wp_ldw c tM _) $$ HT
  iintro HT
  iapply (wp_stTo c tM ![0, 256] S128x128.size (putCols X (tBlk A) 2) (putCols X (tBlk A) 3) _ rfl) $$ HT
  iintro HT
  iapply (wp_ldw c accM _) $$ HA
  iintro HA
  iapply (wp_fin c)
  iapply Hk
  isplitl [HT]; · iexact HT
  iexact HA

theorem run_part34 (i : grid0.Coords) (oM : Memref sig .tc .vmem S1x128x1024 .f32) (hoM : oM.IsWhole) (c : Dev nD) (A : Dev nD → Args F) (K : Dev nD × CK → ℕ) (X : S128x1024.Idx → Elt F .f32)
    {Q : (FVec F S128x128 .f32) → sProp 𝕄} :
    iprop(held c accM fullShare (gatV A) ∗ held c tM fullShare (putCols X (tBlk A) 3))
      ⊢ iprop(((held c accM fullShare (gatV A) ∗ held c tM fullShare (putCols X (tBlk A) 5)) -∗ Q ((k0_pay41 (VecWindow.window (s := S1088x128) (gatV A) ![1029, 0] S1x128.size inb_S1088x128_S1x128_1029_0) (VecWindow.window (s := S1088x128) (gatV A) ![640, 0] S128x128.size inb_S1088x128_S128x128_640_0)) : (FVec F S128x128 .f32))) -∗ WP c (k0_part34 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 (VecWindow.window (s := S1088x128) (gatV A) ![1027, 0] S1x128.size inb_S1088x128_S1x128_1027_0) (k0_pay38 (F := F))) Q) := by
  rw [k0_part34_eq_skeleton]; unfold k0_part34_skel
  simp only [semSignalWord, semWaitWord, Prog.lift, Prog.bind_op, Prog.bind_ret, Prog.pure_eq_ret, wp_deviceId]
  iintro ⟨HA, HT⟩ Hk
  iapply (wp_ldw c accM _) $$ HA
  iintro HA
  iapply (wp_ldw c tM _) $$ HT
  iintro HT
  iapply (wp_stTo c tM ![0, 384] S128x128.size (putCols X (tBlk A) 3) (putCols X (tBlk A) 4) _ rfl) $$ HT
  iintro HT
  iapply (wp_ldw c accM _) $$ HA
  iintro HA
  iapply (wp_ldw c accM _) $$ HA
  iintro HA
  iapply (wp_ldw c tM _) $$ HT
  iintro HT
  iapply (wp_stTo c tM ![0, 512] S128x128.size (putCols X (tBlk A) 4) (putCols X (tBlk A) 5) _ rfl) $$ HT
  iintro HT
  iapply (wp_ldw c accM _) $$ HA
  iintro HA
  iapply (wp_ldw c accM _) $$ HA
  iintro HA
  iapply (wp_fin c)
  iapply Hk
  isplitl [HA]; · iexact HA
  iexact HT

theorem run_part35 (i : grid0.Coords) (oM : Memref sig .tc .vmem S1x128x1024 .f32) (hoM : oM.IsWhole) (c : Dev nD) (A : Dev nD → Args F) (K : Dev nD × CK → ℕ) (X : S128x1024.Idx → Elt F .f32) (qwo : PosShare TreeShare)
    {Q : (FVec F S128x1024 .bf16) → sProp 𝕄} :
    iprop(records A K ∗ held c tM fullShare (putCols X (tBlk A) 5) ∗ held c accM fullShare (gatV A) ∗ ow c (oAll c 0 0 0) ∗ fly c (stS 2) woM wosM qwo (A c).wo)
      ⊢ iprop(((held c tM fullShare (putCols X (tBlk A) 8) ∗ held c accM fullShare (gatV A) ∗ ow c (oAll c 0 0 0) ∗ held c wosM fullShare ((A c).wo) ∗ held c woM qwo ((A c).wo) ∗ semVal ((c : Thread nD τ), .dma (stS 2)) 0) -∗ Q ((k0_pay45 (tV A)) : (FVec F S128x1024 .bf16))) -∗ WP c (k0_part35 (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15 (k0_pay41 (VecWindow.window (s := S1088x128) (gatV A) ![1029, 0] S1x128.size inb_S1088x128_S1x128_1029_0) (VecWindow.window (s := S1088x128) (gatV A) ![640, 0] S128x128.size inb_S1088x128_S128x128_640_0))) Q) := by
  rw [k0_part35_eq_skeleton]; unfold k0_part35_skel
  simp only [semSignalWord, semWaitWord, Prog.lift, Prog.bind_op, Prog.bind_ret, Prog.pure_eq_ret, wp_deviceId]
  iintro ⟨#HR, HT, HA, HO, HW⟩ Hk
  iapply (wp_ldw c tM _) $$ HT
  iintro HT
  iapply (wp_stTo c tM ![0, 640] S128x128.size (putCols X (tBlk A) 5) (putCols X (tBlk A) 6) _ rfl) $$ HT
  iintro HT
  iapply (wp_ldw c accM _) $$ HA
  iintro HA
  iapply (wp_ldw c accM _) $$ HA
  iintro HA
  iapply (wp_ldw c tM _) $$ HT
  iintro HT
  iapply (wp_stTo c tM ![0, 768] S128x128.size (putCols X (tBlk A) 6) (putCols X (tBlk A) 7) _ rfl) $$ HT
  iintro HT
  iapply (wp_ldw c accM _) $$ HA
  iintro HA
  iapply (wp_ldw c accM _) $$ HA
  iintro HA
  iapply (wp_ldw c tM _) $$ HT
  iintro HT
  iapply (wp_stTo c tM ![0, 896] S128x128.size (putCols X (tBlk A) 7) (putCols X (tBlk A) 8) _ rfl) $$ HT
  iintro HT
  iapply (wp_stLand c A K 2 0 0 0 (stS_eq 2 rfl) rfl) $$ [HO HW]
  · isplitr; · iexact HR
    isplitl [HO]; · iexact HO
    iexact HW
  iintro ⟨HO, HW, HWo, HZs2⟩
  iapply (wp_ldTo c tM _ ![0, 0] S128x1024.size (tV A) ((window_full _ _).trans (putCols_all _ _))) $$ HT
  iintro HT
  iapply (wp_fin c)
  iapply Hk
  isplitl [HT]; · iexact HT
  isplitl [HA]; · iexact HA
  isplitl [HO]; · iexact HO
  isplitl [HW]; · iexact HW
  isplitl [HWo]; · iexact HWo
  iexact HZs2

end Cert.KProof

end
-- ==== Proof.BodyLast.lean ====
/-
# The last grid point

Its pieces one after another.
-/
module

public import proofs.«01_k».proof.Proof.HeadB
public import proofs.«01_k».proof.Proof.Point
public import proofs.«01_k».proof.Proof.Slabs
public import proofs.«01_k».proof.Proof.TailA
public import proofs.«01_k».proof.Proof.TailB
public import proofs.«01_k».proof.Proof.TailC
public import proofs.«01_k».proof.Proof.TailD

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxRecDepth 20000 in
theorem run_last_body (i : grid0.Coords) (oM : Memref sig .tc .vmem S1x128x1024 .f32) (hoM : oM.IsWhole) (c : Dev nD) (A : Dev nD → Args F) (K : Dev nD × CK → ℕ) (h7 : (i 0).val = 7) (X : S128x1024.Idx → Elt F .f32) (Xo : S1x128x1024.Idx → Elt F .f32)
    {Q : PUnit → sProp 𝕄} :
    iprop(records A K ∗ ow c (oAll c 7 7 7) ∗ busy c (A c) (par (i 0).val) 0 (pt (i 0).val) ∗ busy c (A c) (par (i 0).val) 1 (pt (i 0).val) ∗ busy c (A c) (par (i 0).val) 2 (pt (i 0).val) ∗ busy c (A c) (par (i 0).val) 3 (pt (i 0).val) ∗ held c qM fullShare (qV (A c)) ∗ held c lM fullShare (lV (A c) (i 0).val) ∗ held c accM fullShare (accV (A c) (i 0).val) ∗ sigTok c 0 ∗ sigTok c 1 ∗ sigTok c 2 ∗ sigTok c 3 ∗ sigTok c 4 ∗ sigTok c 5 ∗ sigTok c 6 ∗ cred (tallyAt (barCell c) () 7) ∗ atPos ER (barCell c) 0 ∅ 0 ∗ sendTok c 0 1 0 ∗ sendTok c 0 1 1 ∗ sendTok c 0 1 2 ∗ sendTok c 0 1 3 ∗ sendTok c 0 1 4 ∗ sendTok c 0 1 5 ∗ sendTok c 0 1 6 ∗ tick c 1 0 ∗ tick c 1 1 ∗ tick c 1 2 ∗ tick c 1 3 ∗ tick c 1 4 ∗ tick c 1 5 ∗ tick c 1 6 ∗ sendTok c 2 3 0 ∗ sendTok c 2 3 1 ∗ sendTok c 2 3 2 ∗ sendTok c 2 3 3 ∗ sendTok c 2 3 4 ∗ sendTok c 2 3 5 ∗ sendTok c 2 3 6 ∗ tick c 3 0 ∗ tick c 3 1 ∗ tick c 3 2 ∗ tick c 3 3 ∗ tick c 3 4 ∗ tick c 3 5 ∗ tick c 3 6 ∗ held c tM fullShare (X) ∗ fly c (stS 2) woM wosM fullShare (A c).wo ∗ held c oM fullShare (Xo))
      ⊢ iprop(((ow c (oAll c 0 0 0) ∗ idle c (A c) (par (i 0).val) 0 ∗ idle c (A c) (par (i 0).val) 1 ∗ idle c (A c) (par (i 0).val) 2 ∗ idle c (A c) (par (i 0).val) 3 ∗ held c qM fullShare (qV (A c)) ∗ held c lM fullShare (lV (A c) 8) ∗ held c accM fullShare (gatV A) ∗ held c (agSlot 0) fullShare (redV A (bwd c 0)) ∗ held c (agSlot 1) fullShare (redV A (bwd c 1)) ∗ held c (agSlot 5) fullShare (redV A (bwd c 5)) ∗ held c tM fullShare (putCols X (tBlk A) 8) ∗ held c wosM fullShare ((A c).wo) ∗ held c oM fullShare (outV A c) ∗ semVal (barCell c) 0 ∗ held c (rsSlot 0) fullShare (slabV (A (bwd c 0)) c) ∗ held c (rsSlot 1) fullShare (slabV (A (bwd c 1)) c) ∗ semVal (xCell c 1 0) 0 ∗ semVal (xCell c 1 1) 0 ∗ held c (rsSlot 2) fullShare (slabV (A (bwd c 2)) c) ∗ held c (rsSlot 3) fullShare (slabV (A (bwd c 3)) c) ∗ held c (rsSlot 4) fullShare (slabV (A (bwd c 4)) c) ∗ semVal (xCell c 1 2) 0 ∗ semVal (xCell c 1 3) 0 ∗ semVal (xCell c 1 4) 0 ∗ held c (rsSlot 5) fullShare (slabV (A (bwd c 5)) c) ∗ held c (rsSlot 6) fullShare (slabV (A (bwd c 6)) c) ∗ semVal (xCell c 1 5) 0 ∗ semVal (xCell c 1 6) 0 ∗ semVal (xCell c 0 0) 0 ∗ semVal (xCell c 0 1) 0 ∗ semVal (xCell c 0 2) 0 ∗ semVal (xCell c 0 3) 0 ∗ semVal (xCell c 0 4) 0 ∗ semVal (xCell c 0 5) 0 ∗ semVal (xCell c 0 6) 0 ∗ semVal (xCell c 3 0) 0 ∗ semVal (xCell c 3 1) 0 ∗ held c (agSlot 2) fullShare (redV A (bwd c 2)) ∗ semVal (xCell c 3 2) 0 ∗ held c (agSlot 3) fullShare (redV A (bwd c 3)) ∗ semVal (xCell c 3 3) 0 ∗ held c (agSlot 4) fullShare (redV A (bwd c 4)) ∗ semVal (xCell c 3 4) 0 ∗ semVal (xCell c 3 5) 0 ∗ held c (agSlot 6) fullShare (redV A (bwd c 6)) ∗ semVal (xCell c 3 6) 0 ∗ semVal (xCell c 2 0) 0 ∗ semVal (xCell c 2 1) 0 ∗ semVal (xCell c 2 2) 0 ∗ semVal (xCell c 2 3) 0 ∗ semVal (xCell c 2 4) 0 ∗ semVal (xCell c 2 5) 0 ∗ semVal (xCell c 2 6) 0 ∗ held c woM fullShare ((A c).wo) ∗ semVal ((c : Thread nD τ), .dma (stS 2)) 0) -∗ Q (⟨⟩ : PUnit)) -∗ WP c (cc0_body (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15) Q) := by
  rw [cc0_body_eq_skeleton]; unfold cc0_body_skel
  iintro ⟨#HR, HO, HC0, HC1, HC2, HC3, Hq, HL, HA, HB0, HB1, HB2, HB3, HB4, HB5, HB6, HC, HP, HT0, HT1, HT2, HT3, HT4, HT5, HT6, H1T0, H1T1, H1T2, H1T3, H1T4, H1T5, H1T6, HU0, HU1, HU2, HU3, HU4, HU5, HU6, H3T0, H3T1, H3T2, H3T3, H3T4, H3T5, H3T6, HT, HW, Ho⟩ Hk
  iapply (wp_then c)
  iapply (run_last_part36 i oM hoM c A K (by omega) (fun h => by have := (cond2_iff i).mp h; omega)) $$ [HO HC0]
  · isplitr; · iexact HR
    isplitl [HO]; · iexact HO
    iexact HC0
  iintro %w36w0 %w36w1 ⟨HO, HC0⟩
  iapply (wp_then c)
  iapply (run_part37 i oM hoM c A K _) $$ [HO HC1 HC2 HC3 Hq HC0]
  · isplitr; · iexact HR
    isplitl [HO]; · iexact HO
    isplitl [HC1]; · iexact HC1
    isplitl [HC2]; · iexact HC2
    isplitl [HC3]; · iexact HC3
    isplitl [Hq]; · iexact Hq
    iexact HC0
  iintro ⟨HO, HC1, HC2, HC3, Hq, HC0⟩
  iapply (wp_then c)
  iapply (run_part38 i oM hoM c A K _ _ _) $$ [HL HA Hq HC1 HC3]
  · isplitl [HL]; · iexact HL
    isplitl [HA]; · iexact HA
    isplitl [Hq]; · iexact Hq
    isplitl [HC1]; · iexact HC1
    iexact HC3
  iintro ⟨HL, HA, Hq, HC1, HC3⟩
  iapply (wp_lift c)
  iapply (wp_stTo c lM ![512, 0] S512x1.size (stepL (qV (A c)) 0 (slotV (A c).k (pt (i 0).val) 0) (lV (A c) (i 0).val)) (stepL (qV (A c)) 1 (slotV (A c).k (pt (i 0).val) 1) (stepL (qV (A c)) 0 (slotV (A c).k (pt (i 0).val) 0) (lV (A c) (i 0).val))) _ rfl) $$ HL
  iintro HL
  iapply (wp_lift c)
  iapply (wp_ldw c accM _) $$ HA
  iintro HA
  iapply (wp_lift c)
  iapply (wp_ldw c accM _) $$ HA
  iintro HA
  iapply (wp_lift c)
  iapply (wp_stTo c accM ![512, 0] S512x128.size (stepA (qV (A c)) 0 (slotV (A c).k (pt (i 0).val) 0) (slotV (A c).v (pt (i 0).val) 0) (accV (A c) (i 0).val)) (stepA (qV (A c)) 1 (slotV (A c).k (pt (i 0).val) 1) (slotV (A c).v (pt (i 0).val) 1) (stepA (qV (A c)) 0 (slotV (A c).k (pt (i 0).val) 0) (slotV (A c).v (pt (i 0).val) 0) (accV (A c) (i 0).val))) _ rfl) $$ HA
  iintro HA
  ihave HL := (Entails.of_eq (show (held c lM fullShare (stepL (qV (A c)) 1 (slotV (A c).k (pt (i 0).val) 1) (stepL (qV (A c)) 0 (slotV (A c).k (pt (i 0).val) 0) (lV (A c) (i 0).val))) : sProp 𝕄) = held c lM fullShare (lV (A c) ((i 0).val + 1)) from rfl)) $$ HL
  ihave HA := (Entails.of_eq (show (held c accM fullShare (stepA (qV (A c)) 1 (slotV (A c).k (pt (i 0).val) 1) (slotV (A c).v (pt (i 0).val) 1) (stepA (qV (A c)) 0 (slotV (A c).k (pt (i 0).val) 0) (slotV (A c).v (pt (i 0).val) 0) (accV (A c) (i 0).val))) : sProp 𝕄) = held c accM fullShare (accV (A c) ((i 0).val + 1)) from rfl)) $$ HA
  ihave HC0 := (idle_of_full c (A c) (par (i 0).val) 0 (pt (i 0).val)) $$ HC0
  ihave HC1 := (idle_of_full c (A c) (par (i 0).val) 1 (pt (i 0).val)) $$ HC1
  ihave HC2 := (idle_of_full c (A c) (par (i 0).val) 2 (pt (i 0).val)) $$ HC2
  ihave HC3 := (idle_of_full c (A c) (par (i 0).val) 3 (pt (i 0).val)) $$ HC3
  rw [dif_pos ((cond3_iff i).mpr h7)]
  try simp only [Prog.lift, Prog.bind_op, Prog.bind_ret, Prog.pure_eq_ret]
  ihave HL := (Entails.of_eq (show (held c lM fullShare (lV (A c) ((i 0).val + 1)) : sProp 𝕄) = held c lM fullShare (lV (A c) 8) by rw [h7] <;> rfl)) $$ HL
  ihave HA := (Entails.of_eq (show (held c accM fullShare (accV (A c) ((i 0).val + 1)) : sProp 𝕄) = held c accM fullShare (accR (A c) 0) by rw [h7] <;> rfl)) $$ HA
  iapply (wp_then c)
  iapply (run_part7 i oM hoM c A K) $$ [HL HA]
  · isplitl [HL]; · iexact HL
    iexact HA
  iintro %w7w1 ⟨HL, HA⟩
  iapply (wp_then c)
  iapply (run_part8 i oM hoM c A K) $$ [HA HL]
  · isplitl [HA]; · iexact HA
    iexact HL
  iintro ⟨HA, HL⟩
  iapply (wp_then c)
  iapply (run_part9 i oM hoM c A K _) $$ [HL HA]
  · isplitl [HL]; · iexact HL
    iexact HA
  iintro %w9w1 ⟨HL, HA⟩
  iapply (wp_then c)
  iapply (run_part10 i oM hoM c A K _ _ _) $$ [HO HB0 HB1 HB2]
  · isplitr; · iexact HR
    isplitl [HO]; · iexact HO
    isplitl [HB0]; · iexact HB0
    isplitl [HB1]; · iexact HB1
    iexact HB2
  iintro %w10w0 %w10w1 HO
  iapply (wp_then c)
  iapply (run_part11 i oM hoM c A K _ _ _ _ _) $$ [HO HB3 HB4]
  · isplitr; · iexact HR
    isplitl [HO]; · iexact HO
    isplitl [HB3]; · iexact HB3
    iexact HB4
  iintro %w11w0 HO
  iapply (wp_then c)
  iapply (run_part12 i oM hoM c A K _ _ _) $$ [HO HB5 HB6 HC HP]
  · isplitr; · iexact HR
    isplitl [HO]; · iexact HO
    isplitl [HB5]; · iexact HB5
    isplitl [HB6]; · iexact HB6
    isplitl [HC]; · iexact HC
    iexact HP
  iintro %w12w0 ⟨HO, HZb, HBP⟩
  ihave HA := (split_all c (A c)) $$ HA
  icases HA with ⟨HSme, HF0, HF1, HF2, HF3, HF4, HF5, HF6⟩
  ihave HBP := (bar_split c) $$ HBP
  icases HBP with ⟨⟨HN0, HV0⟩, ⟨HN1, HV1⟩, ⟨HN2, HV2⟩, ⟨HN3, HV3⟩, ⟨HN4, HV4⟩, ⟨HN5, HV5⟩, ⟨HN6, HV6⟩⟩
  iapply (wp_then c)
  iapply (run_part13 i oM hoM c A K _ _) $$ [HO HF0 HN0 HT0 HF1 HN1 HT1]
  · isplitr; · iexact HR
    isplitl [HO]; · iexact HO
    isplitl [HF0]; · iexact HF0
    isplitl [HN0]; · iexact HN0
    isplitl [HT0]; · iexact HT0
    isplitl [HF1]; · iexact HF1
    isplitl [HN1]; · iexact HN1
    iexact HT1
  iintro %w13w0 %w13w1 %w13w2 %w13w3 %w13w4 %w13w5 ⟨HO, H0T0, H0T1⟩
  iapply (wp_then c)
  iapply (run_part14 i oM hoM c A K _ _ _ _ _ _ _) $$ [HO HF2 HN2 HT2]
  · isplitr; · iexact HR
    isplitl [HO]; · iexact HO
    isplitl [HF2]; · iexact HF2
    isplitl [HN2]; · iexact HN2
    iexact HT2
  iintro %w14w0 %w14w1 ⟨HO, H0T2⟩
  iapply (wp_then c)
  iapply (run_part15 i oM hoM c A K _ _) $$ [HO HF3 HN3 HT3 HF4 HN4 HT4]
  · isplitr; · iexact HR
    isplitl [HO]; · iexact HO
    isplitl [HF3]; · iexact HF3
    isplitl [HN3]; · iexact HN3
    isplitl [HT3]; · iexact HT3
    isplitl [HF4]; · iexact HF4
    isplitl [HN4]; · iexact HN4
    iexact HT4
  iintro %w15w0 %w15w1 ⟨HO, H0T3, H0T4⟩
  iapply (wp_then c)
  iapply (run_part16 i oM hoM c A K _ _ _) $$ [HO HF5 HN5 HT5 HF6 HN6 HT6]
  · isplitr; · iexact HR
    isplitl [HO]; · iexact HO
    isplitl [HF5]; · iexact HF5
    isplitl [HN5]; · iexact HN5
    isplitl [HT5]; · iexact HT5
    isplitl [HF6]; · iexact HF6
    isplitl [HN6]; · iexact HN6
    iexact HT6
  iintro %w16w0 ⟨HO, H0T5, H0T6⟩
  iapply (wp_then c)
  iapply (run_part17 i oM hoM c A K _ _ _ _) $$ [HSme HO H1T0 H1T1]
  · isplitr; · iexact HR
    isplitl [HSme]; · iexact HSme
    isplitl [HO]; · iexact HO
    isplitl [H1T0]; · iexact H1T0
    iexact H1T1
  iintro ⟨HSme, HO, HR0, HR1, HZ10, HZ11⟩
  iapply (wp_then c)
  iapply (run_part18 i oM hoM c A K _ _ _ _) $$ [HO H1T2 H1T3 H1T4]
  · isplitr; · iexact HR
    isplitl [HO]; · iexact HO
    isplitl [H1T2]; · iexact H1T2
    isplitl [H1T3]; · iexact H1T3
    iexact H1T4
  iintro ⟨HO, HR2, HR3, HR4, HZ12, HZ13, HZ14⟩
  iapply (wp_then c)
  iapply (run_part19 i oM hoM c A K _ _) $$ [HO H1T5 H1T6 H0T0]
  · isplitr; · iexact HR
    isplitl [HO]; · iexact HO
    isplitl [H1T5]; · iexact H1T5
    isplitl [H1T6]; · iexact H1T6
    iexact H0T0
  iintro ⟨HO, HR5, HR6, HZ15, HZ16, HZ00, HS6⟩
  iapply (wp_then c)
  iapply (run_part20 i oM hoM c A K _) $$ [HO H0T1 H0T2 H0T3 H0T4 H0T5]
  · isplitr; · iexact HR
    isplitl [HO]; · iexact HO
    isplitl [H0T1]; · iexact H0T1
    isplitl [H0T2]; · iexact H0T2
    isplitl [H0T3]; · iexact H0T3
    isplitl [H0T4]; · iexact H0T4
    iexact H0T5
  iintro ⟨HO, HZ01, HS5, HZ02, HS4, HZ03, HS3, HZ04, HS2, HZ05, HS1⟩
  iapply (wp_then c)
  iapply (run_part21 i oM hoM c A K _ _) $$ [HO H0T6 HSme HV0 HU0]
  · isplitr; · iexact HR
    isplitl [HO]; · iexact HO
    isplitl [H0T6]; · iexact H0T6
    isplitl [HSme]; · iexact HSme
    isplitl [HV0]; · iexact HV0
    iexact HU0
  iintro %w21w0 %w21w1 %w21w3 ⟨HO, HM1, HM2, HM3, HM4, HM5, HM6, HZ06, HS0, H2T0⟩
  iapply (wp_then c)
  iapply (run_part22 i oM hoM c A K _ _ _ _ _ _) $$ [HO HM1 HV1 HU1]
  · isplitr; · iexact HR
    isplitl [HO]; · iexact HO
    isplitl [HM1]; · iexact HM1
    isplitl [HV1]; · iexact HV1
    iexact HU1
  iintro %w22w0 %w22w1 ⟨HO, H2T1⟩
  iapply (wp_then c)
  iapply (run_part23 i oM hoM c A K _ _) $$ [HO HM2 HV2 HU2 HM3 HV3 HU3]
  · isplitr; · iexact HR
    isplitl [HO]; · iexact HO
    isplitl [HM2]; · iexact HM2
    isplitl [HV2]; · iexact HV2
    isplitl [HU2]; · iexact HU2
    isplitl [HM3]; · iexact HM3
    isplitl [HV3]; · iexact HV3
    iexact HU3
  iintro %w23w0 %w23w1 %w23w2 %w23w3 %w23w4 ⟨HO, H2T2, H2T3⟩
  iapply (wp_then c)
  iapply (run_part24 i oM hoM c A K _ _ _ _ _ _) $$ [HO HM4 HV4 HU4]
  · isplitr; · iexact HR
    isplitl [HO]; · iexact HO
    isplitl [HM4]; · iexact HM4
    isplitl [HV4]; · iexact HV4
    iexact HU4
  iintro %w24w0 %w24w1 ⟨HO, H2T4⟩
  iapply (wp_then c)
  iapply (run_part25 i oM hoM c A K _ _ _) $$ [HO HM5 HV5 HU5 HM6 HV6 HU6 H3T0]
  · isplitr; · iexact HR
    isplitl [HO]; · iexact HO
    isplitl [HM5]; · iexact HM5
    isplitl [HV5]; · iexact HV5
    isplitl [HU5]; · iexact HU5
    isplitl [HM6]; · iexact HM6
    isplitl [HV6]; · iexact HV6
    isplitl [HU6]; · iexact HU6
    iexact H3T0
  iintro %w25w0 %w25w1 ⟨HO, H2T5, H2T6, HZ30, HG0⟩
  iapply (wp_then c)
  iapply (run_part26 i oM hoM c A K _ _ _ _ _ _) $$ [HG0 HS0 HO H3T1]
  · isplitr; · iexact HR
    isplitl [HG0]; · iexact HG0
    isplitl [HS0]; · iexact HS0
    isplitl [HO]; · iexact HO
    iexact H3T1
  iintro %w26w0 %w26w1 %w26w2 ⟨HG0, HS0, HO, HZ31, HG1⟩
  iapply (wp_then c)
  iapply (run_part27 i oM hoM c A K _ _ _ _ _ _) $$ [HG1 HS1 HO H3T2 HS2]
  · isplitr; · iexact HR
    isplitl [HG1]; · iexact HG1
    isplitl [HS1]; · iexact HS1
    isplitl [HO]; · iexact HO
    isplitl [H3T2]; · iexact H3T2
    iexact HS2
  iintro ⟨HG1, HS1, HO, HG2, HS2, HZ32⟩
  iapply (wp_then c)
  iapply (run_part28 i oM hoM c A K _ _ _ _) $$ [HS2 HO H3T3 HS3]
  · isplitr; · iexact HR
    isplitl [HS2]; · iexact HS2
    isplitl [HO]; · iexact HO
    isplitl [H3T3]; · iexact H3T3
    iexact HS3
  iintro ⟨HS2, HO, HG3, HS3, HZ33⟩
  iapply (wp_then c)
  iapply (run_part29 i oM hoM c A K _ _ _) $$ [HO H3T4 HS4 H3T5]
  · isplitr; · iexact HR
    isplitl [HO]; · iexact HO
    isplitl [H3T4]; · iexact H3T4
    isplitl [HS4]; · iexact HS4
    iexact H3T5
  iintro %w29w0 %w29w1 ⟨HO, HG4, HS4, HZ34, HZ35, HG5⟩
  iapply (wp_then c)
  iapply (run_part30 i oM hoM c A K _ _ _ _ _ _) $$ [HG5 HS5 HO H3T6]
  · isplitr; · iexact HR
    isplitl [HG5]; · iexact HG5
    isplitl [HS5]; · iexact HS5
    isplitl [HO]; · iexact HO
    iexact H3T6
  iintro %w30w0 ⟨HG5, HS5, HO, HG6, HZ36⟩
  iapply (wp_then c)
  iapply (run_part31 i oM hoM c A K _ _) $$ [HS6 HO H2T0 H2T1 H2T2]
  · isplitr; · iexact HR
    isplitl [HS6]; · iexact HS6
    isplitl [HO]; · iexact HO
    isplitl [H2T0]; · iexact H2T0
    isplitl [H2T1]; · iexact H2T1
    iexact H2T2
  iintro ⟨HS6, HO, HZ20, HM0, HZ21, HM1, HZ22, HM2⟩
  iapply (wp_then c)
  iapply (run_part32 i oM hoM c A K _) $$ [HO H2T3 H2T4 H2T5 H2T6 HM0 HM1 HM2 HS0 HS1 HS2 HS3 HS4 HS5 HS6]
  · isplitr; · iexact HR
    isplitl [HO]; · iexact HO
    isplitl [H2T3]; · iexact H2T3
    isplitl [H2T4]; · iexact H2T4
    isplitl [H2T5]; · iexact H2T5
    isplitl [H2T6]; · iexact H2T6
    isplitl [HM0]; · iexact HM0
    isplitl [HM1]; · iexact HM1
    isplitl [HM2]; · iexact HM2
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro ⟨HO, HA, HZ23, HZ24, HZ25, HZ26⟩
  ihave HT := (Entails.of_eq (show (held c tM fullShare (X) : sProp 𝕄) = held c tM fullShare (putCols X (tBlk A) 0) from rfl)) $$ HT
  iapply (wp_then c)
  iapply (run_part33 i oM hoM c A K _) $$ [HT HA]
  · isplitl [HT]; · iexact HT
    iexact HA
  iintro ⟨HT, HA⟩
  iapply (wp_then c)
  iapply (run_part34 i oM hoM c A K _) $$ [HA HT]
  · isplitl [HA]; · iexact HA
    iexact HT
  iintro ⟨HA, HT⟩
  iapply (wp_then c)
  iapply (run_part35 i oM hoM c A K _ _) $$ [HT HA HO HW]
  · isplitr; · iexact HR
    isplitl [HT]; · iexact HT
    isplitl [HA]; · iexact HA
    isplitl [HO]; · iexact HO
    iexact HW
  iintro ⟨HT, HA, HO, HW, HWo, HZs2⟩
  iapply (wp_lift c)
  iapply (wp_ldTo c wosM _ ![0, 0] S1024x1024.size (A c).wo (window_full _ _)) $$ HW
  iintro HW
  iapply (wp_lift c)
  iapply (wp_ldw c oM _) $$ Ho
  iintro Ho
  iapply (wp_lift c)
  iapply (wp_stTo c oM ![0, 0, 0] S1x128x1024.size Xo (outV A c) _ (put_whole _ _ _ inb_S1x128x1024_S1x128x1024_0_0_0 rfl)) $$ Ho
  iintro Ho
  iapply (wp_fin c)
  iapply Hk
  isplitl [HO]; · iexact HO
  isplitl [HC0]; · iexact HC0
  isplitl [HC1]; · iexact HC1
  isplitl [HC2]; · iexact HC2
  isplitl [HC3]; · iexact HC3
  isplitl [Hq]; · iexact Hq
  isplitl [HL]; · iexact HL
  isplitl [HA]; · iexact HA
  isplitl [HG0]; · iexact HG0
  isplitl [HG1]; · iexact HG1
  isplitl [HG5]; · iexact HG5
  isplitl [HT]; · iexact HT
  isplitl [HW]; · iexact HW
  isplitl [Ho]; · iexact Ho
  isplitl [HZb]; · iexact HZb
  isplitl [HR0]; · iexact HR0
  isplitl [HR1]; · iexact HR1
  isplitl [HZ10]; · iexact HZ10
  isplitl [HZ11]; · iexact HZ11
  isplitl [HR2]; · iexact HR2
  isplitl [HR3]; · iexact HR3
  isplitl [HR4]; · iexact HR4
  isplitl [HZ12]; · iexact HZ12
  isplitl [HZ13]; · iexact HZ13
  isplitl [HZ14]; · iexact HZ14
  isplitl [HR5]; · iexact HR5
  isplitl [HR6]; · iexact HR6
  isplitl [HZ15]; · iexact HZ15
  isplitl [HZ16]; · iexact HZ16
  isplitl [HZ00]; · iexact HZ00
  isplitl [HZ01]; · iexact HZ01
  isplitl [HZ02]; · iexact HZ02
  isplitl [HZ03]; · iexact HZ03
  isplitl [HZ04]; · iexact HZ04
  isplitl [HZ05]; · iexact HZ05
  isplitl [HZ06]; · iexact HZ06
  isplitl [HZ30]; · iexact HZ30
  isplitl [HZ31]; · iexact HZ31
  isplitl [HG2]; · iexact HG2
  isplitl [HZ32]; · iexact HZ32
  isplitl [HG3]; · iexact HG3
  isplitl [HZ33]; · iexact HZ33
  isplitl [HG4]; · iexact HG4
  isplitl [HZ34]; · iexact HZ34
  isplitl [HZ35]; · iexact HZ35
  isplitl [HG6]; · iexact HG6
  isplitl [HZ36]; · iexact HZ36
  isplitl [HZ20]; · iexact HZ20
  isplitl [HZ21]; · iexact HZ21
  isplitl [HZ22]; · iexact HZ22
  isplitl [HZ23]; · iexact HZ23
  isplitl [HZ24]; · iexact HZ24
  isplitl [HZ25]; · iexact HZ25
  isplitl [HZ26]; · iexact HZ26
  isplitl [HWo]; · iexact HWo
  iexact HZs2

end Cert.KProof

end
-- ==== Proof.State.lean ====
/-
# The state between grid points

Before the first point everything lies still: the arguments, the free slots, the scratch buffers. Between points chunk
`t` is on its way into the slots of its parity and the sums of the chunks before it are held. After the last point everything
lies still again, the protocol's cells are closed and the result is in its staging buffer.
-/
module

public import proofs.«01_k».proof.Proof.BodyFirst
public import proofs.«01_k».proof.Proof.BodyMid
public import proofs.«01_k».proof.Proof.BodyLast

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (c : Dev nD)

theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-- The four slots of parity `b` free. -/
def quiet (a : Args F) (b : Fin 2) : sProp 𝕄 := iprop(idle c a b 0 ∗ idle c a b 1 ∗ idle c a b 2 ∗ idle c a b 3)
/-- Chunk `t` on its way to the four slots of its parity. -/
def inFlight (a : Args F) (t : ℕ) : sProp 𝕄 :=
  iprop(busy c a (par t) 0 (pt t) ∗ busy c a (par t) 1 (pt t) ∗ busy c a (par t) 2 (pt t) ∗ busy c a (par t) 3 (pt t))
/-- Semaphore `k` of the staging copies at zero. -/
abbrev stZero (k : Fin 3) : sProp 𝕄 := semVal ((c : Thread nD τ), .dma (stS k)) 0

/-- Everything lies still. -/
def resting (a : Args F) : sProp 𝕄 :=
  iprop(held c xM fullShare a.x ∗ held c wqM fullShare a.wq ∗ held c woM fullShare a.wo ∗ quiet c a 0 ∗ quiet c a 1
    ∗ stZero c 0 ∗ stZero c 1 ∗ stZero c 2 ∗ heldAny c qM ∗ heldAny c accM ∗ heldAny c lM ∗ heldAny c rsM ∗ heldAny c agM ∗ heldAny c tM
    ∗ heldAny c xsM ∗ heldAny c wqsM ∗ heldAny c wosM)

/-- Before point `t`, `t` past the first. -/
def running (a : Args F) (t : ℕ) : sProp 𝕄 :=
  iprop(held c xM fullShare a.x ∗ held c wqM fullShare a.wq ∗ fly c (stS 2) woM wosM fullShare a.wo ∗ inFlight c a t ∗ quiet c a (par (t + 1))
    ∗ stZero c 0 ∗ stZero c 1 ∗ held c qM fullShare (qV a) ∗ held c accM fullShare (accV a t) ∗ held c lM fullShare (lV a t)
    ∗ heldAny c rsM ∗ heldAny c agM ∗ heldAny c tM ∗ heldAny c xsM ∗ heldAny c wqsM)

/-- What a device holds of the protocol until the last point: its barrier's credit and position, the tokens it pays, its copy
    cells' positions and the receive cells' credits. -/
def dues : sProp 𝕄 :=
  iprop(cred (tallyAt (barCell c) () 7) ∗ atPos ER (barCell c) 0 ∅ 0
    ∗ (bigSep Finset.univ fun s : Fin 7 => dutyTok ER (barCell (fwd c s)) 0 (rv s))
    ∗ (bigSep Finset.univ (sendTok c 0 1)) ∗ (bigSep Finset.univ (sendTok c 2 3)) ∗ (bigSep Finset.univ (tick c 1)) ∗ bigSep Finset.univ (tick c 3))

/-- The protocol's cells closed. -/
def closed : sProp 𝕄 :=
  iprop(semVal (barCell c) 0 ∗ (bigSep Finset.univ fun k : Fin 7 => semVal (xCell c 0 k) 0) ∗ (bigSep Finset.univ fun k : Fin 7 => semVal (xCell c 1 k) 0)
    ∗ (bigSep Finset.univ fun k : Fin 7 => semVal (xCell c 2 k) 0) ∗ bigSep Finset.univ fun k : Fin 7 => semVal (xCell c 3 k) 0)

theorem par_two (t : ℕ) : par (t + 1 + 1) = par t := Fin.ext (by show (t + 1 + 1) % 2 = t % 2; omega)

/-- The hidden states lent under the name the staging copy gives them. -/
theorem lend_x (a : Args F) : (held c xM fullShare a.x : sProp 𝕄) ⊢ iprop(held c xSq fullShare (xsV a) ∗ (held c xSq fullShare (xsV a) -∗ held c xM fullShare a.x)) :=
  lend c xM (Rect.unit (s := S1x128x1024) ![0, 0, 0] S1x128x1024.size inb_S1x128x1024_S1x128x1024_0_0_0) (fun _ => rfl) squeezes_S1x128x1024_S128x1024 fullShare a.x

/-- The body at point `i`. -/
abbrev bodyOf (i : grid0.Coords) (oM : Memref sig .tc .vmem S1x128x1024 .f32) (hoM : oM.IsWhole) : Prog (TpuEff nD τ sig (Elt F) Λ₀ .tc) PUnit :=
  cc0_body (F := F) i xM (Memref.isWhole_whole _) wqM (Memref.isWhole_whole _) woM (Memref.isWhole_whole _) kM (Memref.isWhole_whole _) vM (Memref.isWhole_whole _) oM hoM qM (Memref.isWhole_whole _) accM (Memref.isWhole_whole _) lM (Memref.isWhole_whole _) rsM (Memref.isWhole_whole _) agM (Memref.isWhole_whole _) tM (Memref.isWhole_whole _) kvM (Memref.isWhole_whole _) xsM (Memref.isWhole_whole _) wqsM (Memref.isWhole_whole _) wosM (Memref.isWhole_whole _) cc0_scratch10 cc0_scratch11 cc0_scratch12 cc0_scratch13 cc0_scratch14 cc0_scratch15

variable (i : grid0.Coords) (oM : Memref sig .tc .vmem S1x128x1024 .f32) (hoM : oM.IsWhole) (A : Dev nD → Args F) (K : Dev nD × CK → ℕ)

set_option maxRecDepth 20000 in
/-- The first point. -/
theorem point_first (h0 : (i 0).val = 0) {Q : PUnit → sProp 𝕄} :
    iprop(records A K ∗ resting c (A c) ∗ ow c (oAll c 7 7 7))
      ⊢ iprop(((running c (A c) 1 ∗ ow c (oAll c 7 7 7)) -∗ Q ⟨⟩) -∗ WP c (bodyOf (F := F) i oM hoM) Q) := by
  unfold resting quiet stZero
  iintro ⟨#HR, ⟨Hx, HQw, HW, ⟨HK00, HK01, HK02, HK03⟩, ⟨HK10, HK11, HK12, HK13⟩, HXv, HQwv, HWv, Hq, HA, HL, Hrs, Hag, HT, HXd, HQwd, HWd⟩, HO⟩ Hk
  ihave Hx := (lend_x c (A c)) $$ Hx
  icases Hx with ⟨HX, Hback⟩
  ihave Hq := (heldAny_some c qM) $$ Hq
  icases Hq with ⟨%Xq, Hq⟩
  ihave HA := (heldAny_some c accM) $$ HA
  icases HA with ⟨%XA, HA⟩
  ihave HL := (heldAny_some c lM) $$ HL
  icases HL with ⟨%XL, HL⟩
  iapply (run_first_body i oM hoM c A K XA XL Xq h0) $$ [HX HXd HXv HQw HQwd HQwv HW HWd HWv HK00 HK01 HK02 HK03 HK10 HK11 HK12 HK13 HA HL HO Hq]
  · isplitr; · iexact HR
    isplitl [HX]; · iexact HX
    isplitl [HXd]; · iexact HXd
    isplitl [HXv]; · iexact HXv
    isplitl [HQw]; · iexact HQw
    isplitl [HQwd]; · iexact HQwd
    isplitl [HQwv]; · iexact HQwv
    isplitl [HW]; · iexact HW
    isplitl [HWd]; · iexact HWd
    isplitl [HWv]; · iexact HWv
    isplitl [HK00]; · iexact HK00
    isplitl [HK01]; · iexact HK01
    isplitl [HK02]; · iexact HK02
    isplitl [HK03]; · iexact HK03
    isplitl [HK10]; · iexact HK10
    isplitl [HK11]; · iexact HK11
    isplitl [HK12]; · iexact HK12
    isplitl [HK13]; · iexact HK13
    isplitl [HA]; · iexact HA
    isplitl [HL]; · iexact HL
    isplitl [HO]; · iexact HO
    iexact Hq
  iintro ⟨HX, HXd, HXv, HQw, HQwd, HQwv, HW, HK10, HK11, HK12, HK13, HA, HL, HO, Hq, HC1, HC2, HC3, HC0⟩
  ihave Hx := Hback $$ HX
  iapply Hk
  isplitr [HO]
  · unfold running inFlight quiet stZero
    rw [h0]
    isplitl [Hx]; · iexact Hx
    isplitl [HQw]; · iexact HQw
    isplitl [HW]; · iexact HW
    isplitl [HK10 HK11 HK12 HK13]; · isplitl [HK10]; (iexact HK10); isplitl [HK11]; (iexact HK11); isplitl [HK12]; (iexact HK12); iexact HK13
    isplitl [HC0 HC1 HC2 HC3]; · isplitl [HC0]; (iexact HC0); isplitl [HC1]; (iexact HC1); isplitl [HC2]; (iexact HC2); iexact HC3
    isplitl [HXv]; · iexact HXv
    isplitl [HQwv]; · iexact HQwv
    isplitl [Hq]; · iexact Hq
    isplitl [HA]; · iexact HA
    isplitl [HL]; · iexact HL
    isplitl [Hrs]; · iexact Hrs
    isplitl [Hag]; · iexact Hag
    isplitl [HT]; · iexact HT
    isplitl [HXd]; · iapply (heldAny_of c xsM _); iexact HXd
    iapply (heldAny_of c wqsM _); iexact HQwd
  · iexact HO

set_option maxRecDepth 20000 in
/-- A point between. -/
theorem point_mid (h0 : 0 < (i 0).val) (h7 : (i 0).val < 7) {Q : PUnit → sProp 𝕄} :
    iprop(records A K ∗ running c (A c) (i 0).val ∗ ow c (oAll c 7 7 7))
      ⊢ iprop(((running c (A c) ((i 0).val + 1) ∗ ow c (oAll c 7 7 7)) -∗ Q ⟨⟩) -∗ WP c (bodyOf (F := F) i oM hoM) Q) := by
  unfold running inFlight quiet stZero
  rw [par_two]
  iintro ⟨#HR, ⟨Hx, HQw, HW, ⟨HC0, HC1, HC2, HC3⟩, ⟨HN0, HN1, HN2, HN3⟩, HXv, HQwv, Hq, HA, HL, Hrs, Hag, HT, HXd, HQwd⟩, HO⟩ Hk
  iapply (run_mid_body i oM hoM c A K h0 ((cond2_iff i).mpr ⟨h0, h7⟩)) $$ [HN0 HN1 HN2 HN3 HO HC0 HC1 HC2 HC3 Hq HL HA]
  · isplitr; · iexact HR
    isplitl [HN0]; · iexact HN0
    isplitl [HN1]; · iexact HN1
    isplitl [HN2]; · iexact HN2
    isplitl [HN3]; · iexact HN3
    isplitl [HO]; · iexact HO
    isplitl [HC0]; · iexact HC0
    isplitl [HC1]; · iexact HC1
    isplitl [HC2]; · iexact HC2
    isplitl [HC3]; · iexact HC3
    isplitl [Hq]; · iexact Hq
    isplitl [HL]; · iexact HL
    iexact HA
  iintro ⟨HN0, HN1, HN2, HN3, HO, HC0, HC1, HC2, HC3, Hq, HL, HA⟩
  iapply Hk
  isplitr [HO]
  · isplitl [Hx]; · iexact Hx
    isplitl [HQw]; · iexact HQw
    isplitl [HW]; · iexact HW
    isplitl [HN0 HN1 HN2 HN3]; · isplitl [HN0]; (iexact HN0); isplitl [HN1]; (iexact HN1); isplitl [HN2]; (iexact HN2); iexact HN3
    isplitl [HC0 HC1 HC2 HC3]; · isplitl [HC0]; (iexact HC0); isplitl [HC1]; (iexact HC1); isplitl [HC2]; (iexact HC2); iexact HC3
    isplitl [HXv]; · iexact HXv
    isplitl [HQwv]; · iexact HQwv
    isplitl [Hq]; · iexact Hq
    isplitl [HA]; · iexact HA
    isplitl [HL]; · iexact HL
    isplitl [Hrs]; · iexact Hrs
    isplitl [Hag]; · iexact Hag
    isplitl [HT]; · iexact HT
    isplitl [HXd]; · iexact HXd
    iexact HQwd
  · iexact HO

/-- A signal's token with the two landing buffers it hands over. -/
theorem sig_intro (s k : Fin 7) (h : rv s = k) :
    iprop(dutyTok ER (barCell (fwd c s)) 0 (rv s) ∗ heldAny c (rsSlot k) ∗ heldAny c (agSlot k)) ⊢ (sigTok c s : sProp 𝕄) := by
  subst h; exact Entails.of_eq rfl

set_option maxRecDepth 20000 in
/-- The last point. -/
theorem point_last (h7 : (i 0).val = 7) {Q : PUnit → sProp 𝕄} :
    iprop(records A K ∗ running c (A c) (i 0).val ∗ dues c ∗ ow c (oAll c 7 7 7) ∗ heldAny c oM)
      ⊢ iprop(((resting c (A c) ∗ closed c ∗ held c oM fullShare (outV A c) ∗ ow c (oAll c 0 0 0)) -∗ Q ⟨⟩) -∗ WP c (bodyOf (F := F) i oM hoM) Q) := by
  unfold running inFlight quiet stZero dues
  simp only [bigSep_seven]
  iintro ⟨#HR, ⟨Hx, HQw, HW, ⟨HC0, HC1, HC2, HC3⟩, ⟨HN0, HN1, HN2, HN3⟩, HXv, HQwv, Hq, HA, HL, Hrs, Hag, HT, HXd, HQwd⟩, ⟨HC, HP, ⟨HD0, HD1, HD2, HD3, HD4, HD5, HD6⟩, ⟨HT0, HT1, HT2, HT3, HT4, HT5, HT6⟩, ⟨HU0, HU1, HU2, HU3, HU4, HU5, HU6⟩, ⟨H1T0, H1T1, H1T2, H1T3, H1T4, H1T5, H1T6⟩, ⟨H3T0, H3T1, H3T2, H3T3, H3T4, H3T5, H3T6⟩⟩, HO, Ho⟩ Hk
  ihave HT := (heldAny_some c tM) $$ HT
  icases HT with ⟨%X, HT⟩
  ihave Ho := (heldAny_some c oM) $$ Ho
  icases Ho with ⟨%Xo, Ho⟩
  ihave Hrs := ((land_split c rsM).trans (Entails.of_eq (bigSep_seven _))) $$ Hrs
  icases Hrs with ⟨HS0, HS1, HS2, HS3, HS4, HS5, HS6⟩
  ihave Hag := ((land_split c agM).trans (Entails.of_eq (bigSep_seven _))) $$ Hag
  icases Hag with ⟨HV0, HV1, HV2, HV3, HV4, HV5, HV6⟩
  ihave HB0 := (sig_intro c 0 6 rfl) $$ [HD0 HS6 HV6]
  · isplitl [HD0]; · iexact HD0
    isplitl [HS6]; · iexact HS6
    iexact HV6
  ihave HB1 := (sig_intro c 1 5 rfl) $$ [HD1 HS5 HV5]
  · isplitl [HD1]; · iexact HD1
    isplitl [HS5]; · iexact HS5
    iexact HV5
  ihave HB2 := (sig_intro c 2 4 rfl) $$ [HD2 HS4 HV4]
  · isplitl [HD2]; · iexact HD2
    isplitl [HS4]; · iexact HS4
    iexact HV4
  ihave HB3 := (sig_intro c 3 3 rfl) $$ [HD3 HS3 HV3]
  · isplitl [HD3]; · iexact HD3
    isplitl [HS3]; · iexact HS3
    iexact HV3
  ihave HB4 := (sig_intro c 4 2 rfl) $$ [HD4 HS2 HV2]
  · isplitl [HD4]; · iexact HD4
    isplitl [HS2]; · iexact HS2
    iexact HV2
  ihave HB5 := (sig_intro c 5 1 rfl) $$ [HD5 HS1 HV1]
  · isplitl [HD5]; · iexact HD5
    isplitl [HS1]; · iexact HS1
    iexact HV1
  ihave HB6 := (sig_intro c 6 0 rfl) $$ [HD6 HS0 HV0]
  · isplitl [HD6]; · iexact HD6
    isplitl [HS0]; · iexact HS0
    iexact HV0
  iapply (run_last_body i oM hoM c A K h7 X Xo) $$ [HO HC0 HC1 HC2 HC3 Hq HL HA HB0 HB1 HB2 HB3 HB4 HB5 HB6 HC HP HT0 HT1 HT2 HT3 HT4 HT5 HT6 H1T0 H1T1 H1T2 H1T3 H1T4 H1T5 H1T6 HU0 HU1 HU2 HU3 HU4 HU5 HU6 H3T0 H3T1 H3T2 H3T3 H3T4 H3T5 H3T6 HT HW Ho]
  · isplitr; · iexact HR
    isplitl [HO]; · iexact HO
    isplitl [HC0]; · iexact HC0
    isplitl [HC1]; · iexact HC1
    isplitl [HC2]; · iexact HC2
    isplitl [HC3]; · iexact HC3
    isplitl [Hq]; · iexact Hq
    isplitl [HL]; · iexact HL
    isplitl [HA]; · iexact HA
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HC]; · iexact HC
    isplitl [HP]; · iexact HP
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [H1T0]; · iexact H1T0
    isplitl [H1T1]; · iexact H1T1
    isplitl [H1T2]; · iexact H1T2
    isplitl [H1T3]; · iexact H1T3
    isplitl [H1T4]; · iexact H1T4
    isplitl [H1T5]; · iexact H1T5
    isplitl [H1T6]; · iexact H1T6
    isplitl [HU0]; · iexact HU0
    isplitl [HU1]; · iexact HU1
    isplitl [HU2]; · iexact HU2
    isplitl [HU3]; · iexact HU3
    isplitl [HU4]; · iexact HU4
    isplitl [HU5]; · iexact HU5
    isplitl [HU6]; · iexact HU6
    isplitl [H3T0]; · iexact H3T0
    isplitl [H3T1]; · iexact H3T1
    isplitl [H3T2]; · iexact H3T2
    isplitl [H3T3]; · iexact H3T3
    isplitl [H3T4]; · iexact H3T4
    isplitl [H3T5]; · iexact H3T5
    isplitl [H3T6]; · iexact H3T6
    isplitl [HT]; · iexact HT
    isplitl [HW]; · iexact HW
    iexact Ho
  iintro ⟨HO, HC0, HC1, HC2, HC3, Hq, HL, HA, HG0, HG1, HG5, HT, HW, Ho, HZb, HR0, HR1, HZ10, HZ11, HR2, HR3, HR4, HZ12, HZ13, HZ14, HR5, HR6, HZ15, HZ16, HZ00, HZ01, HZ02, HZ03, HZ04, HZ05, HZ06, HZ30, HZ31, HG2, HZ32, HG3, HZ33, HG4, HZ34, HZ35, HG6, HZ36, HZ20, HZ21, HZ22, HZ23, HZ24, HZ25, HZ26, HWo, HZs2⟩
  ihave HN0 := (Entails.of_eq (show (idle c (A c) (par ((i 0).val + 1)) 0 : sProp 𝕄) = idle c (A c) 0 0 by rw [h7]; rfl)) $$ HN0
  ihave HC0 := (Entails.of_eq (show (idle c (A c) (par (i 0).val) 0 : sProp 𝕄) = idle c (A c) 1 0 by rw [h7]; rfl)) $$ HC0
  ihave HN1 := (Entails.of_eq (show (idle c (A c) (par ((i 0).val + 1)) 1 : sProp 𝕄) = idle c (A c) 0 1 by rw [h7]; rfl)) $$ HN1
  ihave HC1 := (Entails.of_eq (show (idle c (A c) (par (i 0).val) 1 : sProp 𝕄) = idle c (A c) 1 1 by rw [h7]; rfl)) $$ HC1
  ihave HN2 := (Entails.of_eq (show (idle c (A c) (par ((i 0).val + 1)) 2 : sProp 𝕄) = idle c (A c) 0 2 by rw [h7]; rfl)) $$ HN2
  ihave HC2 := (Entails.of_eq (show (idle c (A c) (par (i 0).val) 2 : sProp 𝕄) = idle c (A c) 1 2 by rw [h7]; rfl)) $$ HC2
  ihave HN3 := (Entails.of_eq (show (idle c (A c) (par ((i 0).val + 1)) 3 : sProp 𝕄) = idle c (A c) 0 3 by rw [h7]; rfl)) $$ HN3
  ihave HC3 := (Entails.of_eq (show (idle c (A c) (par (i 0).val) 3 : sProp 𝕄) = idle c (A c) 1 3 by rw [h7]; rfl)) $$ HC3
  iapply Hk
  isplitr [HO Ho HZb HZ00 HZ01 HZ02 HZ03 HZ04 HZ05 HZ06 HZ10 HZ11 HZ12 HZ13 HZ14 HZ15 HZ16 HZ20 HZ21 HZ22 HZ23 HZ24 HZ25 HZ26 HZ30 HZ31 HZ32 HZ33 HZ34 HZ35 HZ36]
  · unfold resting quiet stZero
    isplitl [Hx]; · iexact Hx
    isplitl [HQw]; · iexact HQw
    isplitl [HWo]; · iexact HWo
    isplitl [HN0 HN1 HN2 HN3]; · isplitl [HN0]; (iexact HN0); isplitl [HN1]; (iexact HN1); isplitl [HN2]; (iexact HN2); iexact HN3
    isplitl [HC0 HC1 HC2 HC3]; · isplitl [HC0]; (iexact HC0); isplitl [HC1]; (iexact HC1); isplitl [HC2]; (iexact HC2); iexact HC3
    isplitl [HXv]; · iexact HXv
    isplitl [HQwv]; · iexact HQwv
    isplitl [HZs2]; · iexact HZs2
    isplitl [Hq]; · iapply (heldAny_of c qM _); iexact Hq
    isplitl [HA]; · iapply (heldAny_of c accM _); iexact HA
    isplitl [HL]; · iapply (heldAny_of c lM _); iexact HL
    isplitl [HR0 HR1 HR2 HR3 HR4 HR5 HR6]; · iapply (land_join c rsM); rw [bigSep_seven]; isplitl [HR0]; (iapply (heldAny_of c (rsSlot 0) _); iexact HR0); isplitl [HR1]; (iapply (heldAny_of c (rsSlot 1) _); iexact HR1); isplitl [HR2]; (iapply (heldAny_of c (rsSlot 2) _); iexact HR2); isplitl [HR3]; (iapply (heldAny_of c (rsSlot 3) _); iexact HR3); isplitl [HR4]; (iapply (heldAny_of c (rsSlot 4) _); iexact HR4); isplitl [HR5]; (iapply (heldAny_of c (rsSlot 5) _); iexact HR5); iapply (heldAny_of c (rsSlot 6) _); iexact HR6
    isplitl [HG0 HG1 HG2 HG3 HG4 HG5 HG6]; · iapply (land_join c agM); rw [bigSep_seven]; isplitl [HG0]; (iapply (heldAny_of c (agSlot 0) _); iexact HG0); isplitl [HG1]; (iapply (heldAny_of c (agSlot 1) _); iexact HG1); isplitl [HG2]; (iapply (heldAny_of c (agSlot 2) _); iexact HG2); isplitl [HG3]; (iapply (heldAny_of c (agSlot 3) _); iexact HG3); isplitl [HG4]; (iapply (heldAny_of c (agSlot 4) _); iexact HG4); isplitl [HG5]; (iapply (heldAny_of c (agSlot 5) _); iexact HG5); iapply (heldAny_of c (agSlot 6) _); iexact HG6
    isplitl [HT]; · iapply (heldAny_of c tM _); iexact HT
    isplitl [HXd]; · iexact HXd
    isplitl [HQwd]; · iexact HQwd
    iapply (heldAny_of c wosM _); iexact HW
  isplitr [HO Ho]
  · unfold closed
    simp only [bigSep_seven]
    isplitl [HZb]; · iexact HZb
    isplitl [HZ00 HZ01 HZ02 HZ03 HZ04 HZ05 HZ06]; · isplitl [HZ00]; (iexact HZ00); isplitl [HZ01]; (iexact HZ01); isplitl [HZ02]; (iexact HZ02); isplitl [HZ03]; (iexact HZ03); isplitl [HZ04]; (iexact HZ04); isplitl [HZ05]; (iexact HZ05); iexact HZ06
    isplitl [HZ10 HZ11 HZ12 HZ13 HZ14 HZ15 HZ16]; · isplitl [HZ10]; (iexact HZ10); isplitl [HZ11]; (iexact HZ11); isplitl [HZ12]; (iexact HZ12); isplitl [HZ13]; (iexact HZ13); isplitl [HZ14]; (iexact HZ14); isplitl [HZ15]; (iexact HZ15); iexact HZ16
    isplitl [HZ20 HZ21 HZ22 HZ23 HZ24 HZ25 HZ26]; · isplitl [HZ20]; (iexact HZ20); isplitl [HZ21]; (iexact HZ21); isplitl [HZ22]; (iexact HZ22); isplitl [HZ23]; (iexact HZ23); isplitl [HZ24]; (iexact HZ24); isplitl [HZ25]; (iexact HZ25); iexact HZ26
    isplitl [HZ30]; (iexact HZ30); isplitl [HZ31]; (iexact HZ31); isplitl [HZ32]; (iexact HZ32); isplitl [HZ33]; (iexact HZ33); isplitl [HZ34]; (iexact HZ34); isplitl [HZ35]; (iexact HZ35); iexact HZ36
  isplitl [Ho]; · iexact Ho
  iexact HO

end Cert.KProof

end
-- ==== Proof.Setup.lean ====
/-
# The protocol's ghost state at launch

The launch mints, for every cell of every device, its round state and its duty tokens, opens the cells' invariants from the
semaphores at zero, and deals the tokens to the devices that pay the duties: a signal's and a receive's token goes back to the
device that sends, a send's token stays.
-/
module

public import proofs.«01_k».proof.Proof.State

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (A : Dev nD → Args F)

/-! ## The kernel's own semaphores -/

/-- The slots' semaphores, the staging copies' and the copies' between devices. -/
abbrev OwnIx : Type := (Fin 2 × Fin 4) ⊕ (Fin 3 ⊕ (Fin 4 × Fin 7))
def osem : OwnIx → SemLoc sig
  | .inl p => .dma (kvS p.1 p.2)
  | .inr (.inl k) => .dma (stS k)
  | .inr (.inr p) => .dma (xS p.1 p.2)
theorem ownSemFacts : Pipeline.OwnSemFacts cfg0.spec osem := by decide +kernel

/-- The semaphores that are no cell of the protocol, at zero. -/
def spare (c : Dev nD) : sProp 𝕄 :=
  iprop((bigSep Finset.univ fun p : Fin 2 × Fin 4 => semVal ((c : Thread nD τ), .dma (kvS p.1 p.2)) 0) ∗ bigSep Finset.univ fun k : Fin 3 => stZero (F := F) c k)
/-- The copy cells' semaphores at zero. -/
def xZero (c : Dev nD) : sProp 𝕄 := bigSep Finset.univ fun p : Fin 4 × Fin 7 => semVal (xCell c p.1 p.2) 0

theorem ownSems0_eq (c : Dev nD) : (Pipeline.ownSems0 (Ix := Unit) (Name := ℕ) (U := UU) (Lvl := ℕ) (Val := Elt F) (τ := τ) osem c : sProp 𝕄)
    = iprop(spare c ∗ xZero c) := by
  unfold Pipeline.ownSems0 spare xZero
  rw [BI.bigSep_univ_sum, BI.bigSep_univ_sum]
  have intoL (P Q R : sProp 𝕄) : iprop(P ∗ Q ∗ R) ⊢ iprop((P ∗ Q) ∗ R) := by
    iintro ⟨H1, H2, H3⟩
    isplitl [H1 H2]; · isplitl [H1]; (iexact H1); iexact H2
    iexact H3
  have outOf (P Q R : sProp 𝕄) : iprop((P ∗ Q) ∗ R) ⊢ iprop(P ∗ Q ∗ R) := by
    iintro ⟨⟨H1, H2⟩, H3⟩
    isplitl [H1]; · iexact H1
    isplitl [H2]; (iexact H2); iexact H3
  exact BI.Entails.antisymm (intoL _ _ _) (outOf _ _ _)
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells -/

/-- A conjunction over a device's cells: its barrier's conjunct and the copy cells'. -/
theorem bigSep_CK (Φ : CK → sProp 𝕄) : bigSep Finset.univ Φ = iprop(Φ none ∗ bigSep Finset.univ fun p : Fin 4 × Fin 7 => Φ (some p)) := by
  rw [BI.bigSep_univ_at Φ none, show (Finset.univ : Finset CK).erase none = (Finset.univ : Finset (Fin 4 × Fin 7)).map Function.Embedding.some from by
    ext x; cases x <;> simp, BI.bigSep_map]
  rfl

theorem csem_injective : Function.Injective csem := by
  rintro (_ | p) (_ | q) h
  · rfl
  · exact absurd h (fun h => by cases h)
  · exact absurd h (fun h => by cases h)
  · have h' : xS p.1 p.2 = xS q.1 q.2 := SemLoc.dma.inj h
    obtain ⟨h1, h2⟩ := xS_inj h'
    exact congrArg some (Prod.ext h1 h2)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- All cells of all devices. -/
def allCells : Finset (GSem nD τ sig) := Finset.univ.map ⟨kcell, kcell_injective⟩

/-! ## The tokens -/

/-- A device's duties: its barrier's seven, and one for each copy cell. -/
abbrev TI : Type := Fin 7 ⊕ (Fin 4 × Fin 7)
def tokOf : Dev nD × TI → GSem nD τ sig × ℕ × Fin 7
  | (c, .inl d) => (barCell c, 0, d)
  | (c, .inr p) => (xCell c p.1 p.2, 0, 0)
theorem tokOf_injective : Function.Injective tokOf := by
  rintro ⟨c, d | p⟩ ⟨c', d' | p'⟩ h
  · have h1 : c = c' := congrArg (fun x : GSem nD τ sig × ℕ × Fin 7 => x.1.1.1) h
    have h2 : d = d' := congrArg (fun x : GSem nD τ sig × ℕ × Fin 7 => x.2.2) h
    rw [h1, h2]
  · exact absurd (congrArg (fun x : GSem nD τ sig × ℕ × Fin 7 => x.1.2) h) (fun h => by cases h)
  · exact absurd (congrArg (fun x : GSem nD τ sig × ℕ × Fin 7 => x.1.2) h) (fun h => by cases h)
  · have h1 : c = c' := congrArg (fun x : GSem nD τ sig × ℕ × Fin 7 => x.1.1.1) h
    have h2 : xS p.1 p.2 = xS p'.1 p'.2 := SemLoc.dma.inj (congrArg (fun x : GSem nD τ sig × ℕ × Fin 7 => x.1.2) h)
    obtain ⟨h3, h4⟩ := xS_inj h2
    rw [h1, show p = p' from Prod.ext h3 h4]
def allToks : Finset (GSem nD τ sig × ℕ × Fin 7) := Finset.univ.map ⟨tokOf, tokOf_injective⟩

/-- What the launch mints: the staging buffers' rounds and the protocol's. -/
def u₀ : UU :=
  (initOf (Pipeline.cells cfgs cellOf_inj) (Pipeline.launchToks cfgs cellOf_inj), (initOf allCells allToks, 1))

/-- The tokens of a device's own cells; -/
def toks (c : Dev nD) : sProp 𝕄 :=
  iprop((bigSep Finset.univ fun d : Fin 7 => dutyTok ER (barCell c) 0 d) ∗ bigSep Finset.univ fun p : Fin 4 × Fin 7 => dutyTok ER (xCell c p.1 p.2) 0 0)
/-- the device whose copy cell a device pays: itself for a send, the device the copy goes to for a receive; -/
def dest (c : Dev nD) (p : Fin 4 × Fin 7) : Dev nD := if p.1 = 1 ∨ p.1 = 3 then fwd c p.2 else c
def orig (c : Dev nD) (p : Fin 4 × Fin 7) : Dev nD := if p.1 = 1 ∨ p.1 = 3 then bwd c p.2 else c
/-- and the tokens of the duties a device pays. -/
def payToks (c : Dev nD) : sProp 𝕄 :=
  iprop((bigSep Finset.univ fun s : Fin 7 => dutyTok ER (barCell (fwd c s)) 0 (rv s)) ∗ bigSep Finset.univ fun p : Fin 4 × Fin 7 => dutyTok ER (xCell (dest c p) p.1 p.2) 0 0)

def barAround : Dev nD × Fin 7 ≃ Dev nD × Fin 7 where
  toFun x := (fwd x.1 x.2, rv x.2)
  invFun x := (fwd x.1 x.2, rv x.2)
  left_inv := fun ⟨c, s⟩ => Prod.ext (fwd_rv c s) (rv_rv s)
  right_inv := fun ⟨c, s⟩ => Prod.ext (fwd_rv c s) (rv_rv s)
def xAround : Dev nD × (Fin 4 × Fin 7) ≃ Dev nD × (Fin 4 × Fin 7) where
  toFun x := (dest x.1 x.2, x.2)
  invFun x := (orig x.1 x.2, x.2)
  left_inv := fun ⟨c, p⟩ => by
    refine Prod.ext ?_ rfl
    show orig (dest c p) p = c
    unfold orig dest; split
    · exact bwd_fwd c p.2
    · rfl
  right_inv := fun ⟨c, p⟩ => by
    refine Prod.ext ?_ rfl
    show dest (orig c p) p = c
    unfold orig dest; split
    · exact fwd_bwd c p.2
    · rfl

theorem toks_around : (bigSep Finset.univ fun c : Dev nD => (toks c : sProp 𝕄)) = bigSep Finset.univ fun c : Dev nD => payToks c := by
  unfold toks payToks
  rw [bigSep_sep', bigSep_sep']
  congr 1
  · exact (BI.bigSep_univ_prod fun x : Dev nD × Fin 7 => (dutyTok ER (barCell x.1) 0 x.2 : sProp 𝕄)).symm.trans
      ((BI.bigSep_univ_equiv barAround _).trans (BI.bigSep_univ_prod _))
  · exact (BI.bigSep_univ_prod fun x : Dev nD × (Fin 4 × Fin 7) => (dutyTok ER (xCell x.1 x.2.1 x.2.2) 0 0 : sProp 𝕄)).symm.trans
      ((BI.bigSep_univ_equiv xAround _).trans (BI.bigSep_univ_prod _))

/-! ## What the launch deals -/

/-- What a device is dealt first. -/
def G (c : Dev nD) : sProp 𝕄 :=
  iprop((bigSep Finset.univ fun k : CK => roundState ER (sched A) (kcell (c, k)) 0)
    ∗ (bigSep Finset.univ fun k : CK => iprop(atPos ER (kcell (c, k)) 0 ∅ 0 ∗ reached ER (kcell (c, k)) 0)) ∗ toks c)

theorem fund : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun k : CK => Φ (kcell (c, k)) := by
    unfold allCells; rw [BI.bigSep_map, BI.bigSep_univ_prod]; rfl
  have hT : bigSep allToks (fun x => (dutyTok ER x.1 x.2.1 x.2.2 : sProp 𝕄)) = bigSep Finset.univ fun c : Dev nD => toks c := by
    unfold allToks; rw [BI.bigSep_map, BI.bigSep_univ_prod]
    exact bigSep_congr fun c _ => by unfold toks; rw [BI.bigSep_univ_sum]; rfl
  iintro HX
  imod (Rounds.fund ER (sched A) allCells allToks) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem mint : (ownU u₀ : sProp 𝕄)
    ⊢ |={Set.univ}=> iprop(BI.own (EP (initOf (Pipeline.cells cfgs cellOf_inj) (Pipeline.launchToks cfgs cellOf_inj))) ∗ bigSep Finset.univ (G A)) := by
  unfold u₀
  iintro Hu
  ihave H := (ownU_pair _ _) $$ Hu
  icases H with ⟨HP, HX⟩
  ihave H := (own_pair_emb (embR : Emb (UB × Counters) 𝕄) (initOf allCells allToks) (1 : Counters)) $$ HX
  icases H with ⟨HR, -⟩
  imod (show BI.own (((Emb.inl : Emb UB (UB × Counters)).trans (embR : Emb (UB × Counters) 𝕄)) (initOf allCells allToks)) ⊢ (|==> bigSep Finset.univ (G A) : sProp 𝕄) from fund A) $$ HR with HG
  imodintro
  isplitl [HP] <;> iassumption

/-- The cells opened on one device. -/
theorem core_open (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k : CK => iprop(∃ κ : ℕ, cellInv ER (sched A) κ (kcell (c, k))))
          ∗ (bigSep Finset.univ fun k : CK => iprop(atPos ER (kcell (c, k)) 0 ∅ 0 ∗ reached ER (kcell (c, k)) 0)) ∗ toks c ∗ spare c) := by
  unfold G
  rw [ownSems0_eq, unscopedSems0_eq]
  iintro ⟨⟨Hsp, Hx⟩, Hb, Hst, Hat, Htok⟩
  ihave Hv := (Entails.of_eq (bigSep_CK fun k : CK => (semVal (kcell (c, k)) 0 : sProp 𝕄)).symm) $$ [Hx Hb]
  · isplitl [Hb]
    · iexact Hb
    · unfold xZero; iexact Hx
  imod (show iprop((bigSep Finset.univ fun k : CK => semVal (kcell (c, k)) 0) ∗ bigSep Finset.univ fun k : CK => roundState ER (sched A) (kcell (c, k)) 0)
      ⊢ (|={Set.univ}=> bigSep Finset.univ fun k : CK => iprop(∃ κ : ℕ, cellInv ER (sched A) κ (kcell (c, k))) : sProp 𝕄) from by
        rw [← bigSep_sep']
        exact (bigSep_mono fun k _ => (Rounds.body_intro ER (sched A) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsp

/-- What every device knows of the cells. -/
def known (K : Dev nD × CK → ℕ) : sProp 𝕄 :=
  iprop((bigSep Finset.univ fun ck : Dev nD × CK => cellInv ER (sched A) (K ck) (kcell ck))
    ∗ bigSep Finset.univ fun ck : Dev nD × CK => reached ER (kcell ck) 0)
instance known_persistent (K : Dev nD × CK → ℕ) : BI.Persistent (known A K) := by unfold known; infer_instance

/-- What stays with one device: its positions, the tokens it pays with, its spare semaphores. -/
def lone (c : Dev nD) : sProp 𝕄 :=
  iprop((bigSep Finset.univ fun k : CK => atPos ER (kcell (c, k)) 0 ∅ 0) ∗ payToks c ∗ spare c)
def G' (c : Dev nD) : sProp 𝕄 := iprop(∃ K, known A K ∗ lone c)

theorem regroup :
    (bigSep Finset.univ fun c : Dev nD => iprop((bigSep Finset.univ fun k : CK => iprop(∃ κ : ℕ, cellInv ER (sched A) κ (kcell (c, k))))
          ∗ (bigSep Finset.univ fun k : CK => iprop(atPos ER (kcell (c, k)) 0 ∅ 0 ∗ reached ER (kcell (c, k)) 0)) ∗ toks c ∗ spare c) : sProp 𝕄)
      ⊢ bigSep Finset.univ (G' A) := by
  rw [bigSep_sep', bigSep_sep', bigSep_sep', ← BI.bigSep_univ_prod (fun ck : Dev nD × CK => iprop(∃ κ : ℕ, cellInv ER (sched A) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← BI.bigSep_univ_prod (fun ck : Dev nD × CK => (reached ER (kcell ck) 0 : sProp 𝕄)), toks_around]
  iintro ⟨HI, ⟨Hat, #HR⟩, Htok, Hsp⟩
  ihave HK := (BI.bigSep_exists_pi Finset.univ (fun (ck : Dev nD × CK) (κ : ℕ) => (cellInv ER (sched A) κ (kcell ck) : sProp 𝕄))) $$ HI
  icases HK with ⟨%K, #HI⟩
  have hone : ∀ c ∈ (Finset.univ : Finset (Dev nD)), iprop(known A K ∗ lone c) ⊢ G' A c := fun c _ => by
    unfold G'; iintro H; iexists K; iexact H
  iapply (BI.bigSep_with_persistent (R := known A K) hone)
  isplitr
  · unfold known; isplitl; · iexact HI
    iexact HR
  · unfold lone
    rw [bigSep_sep', bigSep_sep']
    isplitl [Hat]; · iexact Hat
    isplitl [Htok]; · iexact Htok
    iexact Hsp

theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_open A c).trans (bigSep_fupd _ _)).trans (BI.fupd_mono (regroup A))

/-! ## The credit -/

theorem owedFrom_seven (f : Fin 7 → CellTallies nD τ sig Unit) : owedFrom f 7 = ∑ k, f k := by
  rw [Fin.sum_univ_seven]
  show 0 + f 6 + f 5 + f 4 + f 3 + f 2 + f 1 + f 0 = _
  rw [zero_add]; abel

/-- What each device owes at launch. -/
def O₀ (c : Dev nD) : CellTallies nD τ sig Unit := oAll c 7 7 7

theorem cred_x (c : Dev nD) (a : Fin 4) (k : Fin 7) :
    (Pipeline.launchCred (fun d => ox d a k) c : sProp 𝕄) ⊢ cred (tallyAt (xCell c a k) () NX) :=
  Pipeline.launchCred_tallyAt (.dma (xS a k)) (fun d => fwd d k) (fun d => bwd d k) (fun d => fwd_bwd d k) (fun d => bwd_fwd d k) () NX c
theorem cred_b (c : Dev nD) (s : Fin 7) : (Pipeline.launchCred (fun d => ob d s) c : sProp 𝕄) ⊢ cred (tallyAt (barCell c) () 1) :=
  Pipeline.launchCred_tallyAt (.reg barS) (fun d => fwd d s) (fun d => bwd d s) (fun d => fwd_bwd d s) (fun d => bwd_fwd d s) () 1 c

theorem seven_units (c : Dev nD) : (bigSep Finset.univ fun s : Fin 7 => cred (tallyAt (barCell c) () 1) : sProp 𝕄) = cred (tallyAt (barCell c) () 7) := by
  rw [← Pipeline.cred_finsetSum (Finset.univ : Finset (Fin 7)) (fun _ => tallyAt (barCell c) () 1), Fin.sum_univ_seven]
  simp only [tallyAt_add]

theorem creds (c : Dev nD) : (Pipeline.launchCred O₀ c : sProp 𝕄)
    ⊢ iprop(cred (tallyAt (barCell c) () 7) ∗ (bigSep Finset.univ fun k : Fin 7 => cred (tallyAt (xCell c 1 k) () NX))
        ∗ bigSep Finset.univ fun k : Fin 7 => cred (tallyAt (xCell c 3 k) () NX)) := by
  rw [show O₀ = fun d : Dev nD => (∑ k, ox d 3 k + ∑ k, ox d 1 k) + ∑ s, ob d s from funext fun d => by
    unfold O₀ oAll; rw [owedFrom_seven, owedFrom_seven, owedFrom_seven]]
  rw [Pipeline.launchCred_add (fun d : Dev nD => ∑ k, ox d 3 k + ∑ k, ox d 1 k) (fun d => ∑ s, ob d s),
    Pipeline.launchCred_add (fun d : Dev nD => ∑ k, ox d 3 k) (fun d => ∑ k, ox d 1 k),
    Pipeline.launchCred_sum Finset.univ (fun k (d : Dev nD) => ox d 3 k), Pipeline.launchCred_sum Finset.univ (fun k (d : Dev nD) => ox d 1 k),
    Pipeline.launchCred_sum Finset.univ (fun s (d : Dev nD) => ob d s)]
  have h3 : (bigSep Finset.univ fun k : Fin 7 => (Pipeline.launchCred (fun d => ox d 3 k) c : sProp 𝕄)) ⊢ bigSep Finset.univ fun k : Fin 7 => cred (tallyAt (xCell c 3 k) () NX) :=
    bigSep_mono fun k _ => cred_x c 3 k
  have h1 : (bigSep Finset.univ fun k : Fin 7 => (Pipeline.launchCred (fun d => ox d 1 k) c : sProp 𝕄)) ⊢ bigSep Finset.univ fun k : Fin 7 => cred (tallyAt (xCell c 1 k) () NX) :=
    bigSep_mono fun k _ => cred_x c 1 k
  have hb : (bigSep Finset.univ fun s : Fin 7 => (Pipeline.launchCred (fun d => ob d s) c : sProp 𝕄)) ⊢ cred (tallyAt (barCell c) () 7) :=
    (bigSep_mono fun s _ => cred_b c s).trans (Entails.of_eq (seven_units c))
  iintro ⟨⟨H3, H1⟩, Hb⟩
  isplitl [Hb]; · iapply hb; iexact Hb
  isplitl [H1]; · iapply h1; iexact H1
  iapply h3; iexact H3

/-! ## A device's dues -/

theorem bigSep_x (Φ : Fin 4 × Fin 7 → sProp 𝕄) : bigSep Finset.univ Φ
    = iprop((bigSep Finset.univ fun k => Φ (0, k)) ∗ (bigSep Finset.univ fun k => Φ (1, k)) ∗ (bigSep Finset.univ fun k => Φ (2, k)) ∗ bigSep Finset.univ fun k => Φ (3, k)) := by
  rw [BI.bigSep_univ_prod, bigSep_four]

theorem dues_intro (c : Dev nD) : iprop((bigSep Finset.univ fun k : CK => atPos ER (kcell (c, k)) 0 ∅ 0) ∗ payToks c ∗ Pipeline.launchCred O₀ c) ⊢ (dues c : sProp 𝕄) := by
  unfold dues payToks
  rw [bigSep_CK, bigSep_x, bigSep_x]
  unfold sendTok tick
  simp only [bigSep_sep']
  iintro ⟨⟨HPb, HP0, HP1, HP2, HP3⟩, ⟨Htb, Ht0, Ht1, Ht2, Ht3⟩, HC⟩
  ihave HC := (creds c) $$ HC
  icases HC with ⟨HCb, HC1, HC3⟩
  isplitl [HCb]; · iexact HCb
  isplitl [HPb]; · iexact HPb
  isplitl [Htb]; · iexact Htb
  isplitl [Ht0 Ht1 HP0]
  · isplitl [Ht0]; · iexact Ht0
    isplitl [Ht1]; · iexact Ht1
    iexact HP0
  isplitl [Ht2 Ht3 HP2]
  · isplitl [Ht2]; · iexact Ht2
    isplitl [Ht3]; · iexact Ht3
    iexact HP2
  isplitl [HC1 HP1]
  · isplitl [HC1]; · iexact HC1
    iexact HP1
  isplitl [HC3]; · iexact HC3
  iexact HP3

/-- What a device starts from. -/
def start (c : Dev nD) : sProp 𝕄 := iprop((∃ K, records A K) ∗ dues c ∗ spare c)

theorem start_intro (c : Dev nD) : iprop((levAts L lv : sProp 𝕄) ∗ Pipeline.launchCred O₀ c ∗ G' A c) ⊢ start A c := by
  unfold start G' lone known
  iintro ⟨#HL, HC, %K, ⟨#HI, #HR⟩, Hat, Htok, Hsp⟩
  isplitr
  · iexists K
    unfold records
    isplitr; · iexact HI
    isplitr; · iexact HR
    iexact HL
  isplitl [Hat Htok HC]
  · iapply (dues_intro c)
    isplitl [Hat]; · iexact Hat
    isplitl [Htok]; · iexact Htok
    iexact HC
  iexact Hsp

/-- The cells closed are the semaphores at zero again. -/
theorem closed_eq (c : Dev nD) : (closed c : sProp 𝕄) = iprop(unscopedSems0 c ∗ xZero c) := by
  unfold closed xZero; rw [unscopedSems0_eq, bigSep_x]

end Cert.KProof

end
-- ==== Proof.Rest.lean ====
/-
# From the launch's buffers to a device at rest, and back

The arguments and the scratch buffers as the launch holds them, whole, are the buffers a device at rest holds: the slots of the
keys and values apart, the two arrays dealt into the shares the slots' copies are lent.
-/
module

public import proofs.«01_k».proof.Proof.Setup

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (c : Dev nD)

theorem held_whole (b : Ref sig .tc) (q : PosShare TreeShare) (X : Buf (Elt F) ((c : Thread nD τ).loc b)) :
    (held c (Memref.whole b) q X : sProp 𝕄) = (((c : Thread nD τ).loc b) ↦{q} X) := by
  have h := held_of (F := F) c (Memref.whole b) q X
  simp only [Memref.view_whole, View.read_whole, View.set_whole] at h
  exact h.symm
theorem any_whole (b : Ref sig .tc) :
    (heldAny c (Memref.whole b) : sProp 𝕄) = iprop(∃ f : Buf (Elt F) ((c : Thread nD τ).loc b), ((c : Thread nD τ).loc b) ↦{fullShare} f) := by
  unfold heldAny; simp only [Memref.view_whole, View.set_whole]

/-! ## The slots -/

theorem bigSep_kv (Φ : Fin 2 × Fin 4 → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3))) := by
  rw [BI.bigSep_univ_prod, bigSep_univ_eq_bigSepL [0, 1] (by decide) (by decide)]
  simp only [bigSepL_cons_cons, bigSepL_singleton, bigSep_four]
  rfl

theorem deal_kv (b : Ref sig .tc) (X : Buf (Elt F) ((c : Thread nD τ).loc b)) : (held c (Memref.whole b) fullShare X : sProp 𝕄)
    = bigSep Finset.univ fun k : Fin 4 => held c (Memref.whole b) (Transfers.dealOf fullShare (Finset.univ : Finset (Fin 4)) k) X := by
  unfold held
  exact Transfers.pointsTo_deal Finset.univ ⟨0, Finset.mem_univ _⟩ fullShare

theorem quiet_eq (a : Args F) : (iprop(quiet c a 0 ∗ quiet c a 1) : sProp 𝕄)
    = iprop((bigSep Finset.univ fun p : Fin 2 × Fin 4 => heldAny c (kvSlot p.1 p.2))
        ∗ (bigSep Finset.univ fun p : Fin 2 × Fin 4 => semVal ((c : Thread nD τ), .dma (kvS p.1 p.2)) 0)
        ∗ bigSep Finset.univ fun p : Fin 2 × Fin 4 => held c (srcM p.2) (kvQ p.1 p.2) (arr a p.2)) := by
  rw [← bigSep_sep', ← bigSep_sep', bigSep_kv]
  rfl

theorem deal_all (a : Args F) : iprop(held c kM fullShare a.k ∗ held c vM fullShare a.v)
    ⊢ (bigSep Finset.univ fun p : Fin 2 × Fin 4 => held c (srcM p.2) (kvQ p.1 p.2) (arr a p.2) : sProp 𝕄) := by
  rw [deal_kv c main_arg2 a.k, deal_kv c main_arg3 a.v, bigSep_four, bigSep_four, bigSep_kv]
  iintro ⟨⟨K0, K1, K2, K3⟩, V0, V1, V2, V3⟩
  isplitl [K0 K1 V0 V1]
  · isplitl [K0]; · iexact K0
    isplitl [K1]; · iexact K1
    isplitl [V0]; · iexact V0
    iexact V1
  isplitl [K2]; · iexact K2
  isplitl [K3]; · iexact K3
  isplitl [V2]; · iexact V2
  iexact V3
theorem join_deal (a : Args F) : (bigSep Finset.univ fun p : Fin 2 × Fin 4 => held c (srcM p.2) (kvQ p.1 p.2) (arr a p.2) : sProp 𝕄)
    ⊢ iprop(held c kM fullShare a.k ∗ held c vM fullShare a.v) := by
  rw [deal_kv c main_arg2 a.k, deal_kv c main_arg3 a.v, bigSep_four, bigSep_four, bigSep_kv]
  iintro ⟨⟨K0, K1, V0, V1⟩, K2, K3, V2, V3⟩
  isplitl [K0 K1 K2 K3]
  · isplitl [K0]; · iexact K0
    isplitl [K1]; · iexact K1
    isplitl [K2]; · iexact K2
    iexact K3
  isplitl [V0]; · iexact V0
  isplitl [V1]; · iexact V1
  isplitl [V2]; · iexact V2
  iexact V3

/-! ## At rest -/

/-- The arguments whole. -/
def argsHeld (a : Args F) : sProp 𝕄 :=
  iprop(held c xM fullShare a.x ∗ held c wqM fullShare a.wq ∗ held c kM fullShare a.k ∗ held c vM fullShare a.v ∗ held c woM fullShare a.wo)
/-- The scratch buffers whole, at anything. -/
def scratch : sProp 𝕄 :=
  iprop(heldAny c qM ∗ heldAny c accM ∗ heldAny c lM ∗ heldAny c rsM ∗ heldAny c agM ∗ heldAny c tM ∗ heldAny c kvM ∗ heldAny c xsM ∗ heldAny c wqsM ∗ heldAny c wosM)

theorem bigSep_st (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl

theorem rest_intro (a : Args F) : iprop(argsHeld c a ∗ scratch c ∗ spare c) ⊢ (resting c a : sProp 𝕄) := by
  unfold argsHeld scratch spare resting
  rw [bigSep_st]
  iintro ⟨⟨Hx, Hwq, Hk, Hv, Hwo⟩, ⟨Hq, Ha, Hl, Hr, Hg, Ht, Hkv, Hxs, Hqs, Hos⟩, Hz, Hz0, Hz1, Hz2⟩
  ihave Hs := (kv_split c) $$ Hkv
  ihave Hd := (deal_all c a) $$ [Hk Hv]
  · isplitl [Hk]; · iexact Hk
    iexact Hv
  ihave Hq2 := (Entails.of_eq (quiet_eq c a).symm) $$ [Hs Hz Hd]
  · isplitl [Hs]; · iexact Hs
    isplitl [Hz]; · iexact Hz
    iexact Hd
  icases Hq2 with ⟨HQ0, HQ1⟩
  isplitl [Hx]; · iexact Hx
  isplitl [Hwq]; · iexact Hwq
  isplitl [Hwo]; · iexact Hwo
  isplitl [HQ0]; · iexact HQ0
  isplitl [HQ1]; · iexact HQ1
  isplitl [Hz0]; · iexact Hz0
  isplitl [Hz1]; · iexact Hz1
  isplitl [Hz2]; · iexact Hz2
  isplitl [Hq]; · iexact Hq
  isplitl [Ha]; · iexact Ha
  isplitl [Hl]; · iexact Hl
  isplitl [Hr]; · iexact Hr
  isplitl [Hg]; · iexact Hg
  isplitl [Ht]; · iexact Ht
  isplitl [Hxs]; · iexact Hxs
  isplitl [Hqs]; · iexact Hqs
  iexact Hos

theorem rest_exit (a : Args F) : (resting c a : sProp 𝕄) ⊢ iprop(argsHeld c a ∗ scratch c ∗ spare c) := by
  unfold argsHeld scratch spare resting
  rw [bigSep_st]
  iintro ⟨Hx, Hwq, Hwo, HQ0, HQ1, Hz0, Hz1, Hz2, Hq, Ha, Hl, Hr, Hg, Ht, Hxs, Hqs, Hos⟩
  ihave H := (Entails.of_eq (quiet_eq c a)) $$ [HQ0 HQ1]
  · isplitl [HQ0]; · iexact HQ0
    iexact HQ1
  icases H with ⟨Hs, Hz, Hd⟩
  ihave Hkv := (kv_join c) $$ Hs
  ihave H := (join_deal c a) $$ Hd
  icases H with ⟨Hk, Hv⟩
  isplitl [Hx Hwq Hk Hv Hwo]
  · isplitl [Hx]; · iexact Hx
    isplitl [Hwq]; · iexact Hwq
    isplitl [Hk]; · iexact Hk
    isplitl [Hv]; · iexact Hv
    iexact Hwo
  isplitl [Hq Ha Hl Hr Hg Ht Hkv Hxs Hqs Hos]
  · isplitl [Hq]; · iexact Hq
    isplitl [Ha]; · iexact Ha
    isplitl [Hl]; · iexact Hl
    isplitl [Hr]; · iexact Hr
    isplitl [Hg]; · iexact Hg
    isplitl [Ht]; · iexact Ht
    isplitl [Hkv]; · iexact Hkv
    isplitl [Hxs]; · iexact Hxs
    isplitl [Hqs]; · iexact Hqs
    iexact Hos
  isplitl [Hz]; · iexact Hz
  isplitl [Hz0]; · iexact Hz0
  isplitl [Hz1]; · iexact Hz1
  iexact Hz2

/-! ## The launch's own forms -/

variable (m : (ℓ : Loc nD τ sig) → Buf (Elt F) ℓ)

/-- A device's arguments in a memory. -/
def argsOf : Args F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

theorem args_eq : (Pipeline.unscopedRest (Ix := Unit) (Name := ℕ) (U := UU) (Lvl := ℕ) spec0 c (fun b => m ((c : Thread nD τ).loc b)) : sProp 𝕄) = argsHeld c (argsOf c m) := by
  rw [unscopedRest0_eq]
  unfold argsHeld
  exact (congr (congrArg _ (held_whole c main_arg0 fullShare _)) (congr (congrArg _ (held_whole c main_arg1 fullShare _))
    (congr (congrArg _ (held_whole c main_arg2 fullShare _)) (congr (congrArg _ (held_whole c main_arg3 fullShare _)) (held_whole c main_arg4 fullShare _))))).symm

theorem scratch_eq : (Pipeline.scopedRest (Ix := Unit) (Name := ℕ) (U := UU) (Lvl := ℕ) (Val := Elt F) spec0 c : sProp 𝕄) = scratch c := by
  rw [scopedRest0_eq]
  unfold scratch
  rw [any_whole c cc0_scratch0, any_whole c cc0_scratch1, any_whole c cc0_scratch2, any_whole c cc0_scratch3, any_whole c cc0_scratch4,
    any_whole c cc0_scratch5, any_whole c cc0_scratch6, any_whole c cc0_scratch7, any_whole c cc0_scratch8, any_whole c cc0_scratch9]

end Cert.KProof

end
-- ==== Proof.Run.lean ====
/-
# The run of the program

The pipeline of eight points over the body, its launch, and what every run of the program leaves: on each device the result at
the value the mathematics names, the arguments unchanged, every semaphore at zero.
-/
module

import Idealize.ShloMosaic.Lib.Pipeline.CollectiveSegs
public import proofs.«01_k».proof.Proof.Rest
public import proofs.«01_k».proof.Proof.Gen.KernelIdeal.Points

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Every device's arguments. -/
abbrev argsAll : Dev nD → Args F := fun c => argsOf c m

/-! ## The pipeline's data -/

/-- What a device holds before point `t`. -/
def stateAt (A : Dev nD → Args F) (c : Dev nD) (t : ℕ) : sProp 𝕄 :=
  if t = 0 then iprop((∃ K, records A K) ∗ dues c ∗ resting c (A c))
  else if t < 8 then iprop((∃ K, records A K) ∗ dues c ∗ running c (A c) t)
  else iprop(resting c (A c) ∗ closed c)
theorem stateAt_zero (A : Dev nD → Args F) (c : Dev nD) {t : ℕ} (h : t = 0) : stateAt A c t = iprop((∃ K, records A K) ∗ dues c ∗ resting c (A c)) := if_pos h
theorem stateAt_mid (A : Dev nD → Args F) (c : Dev nD) {t : ℕ} (h : 0 < t) (h' : t < 8) : stateAt A c t = iprop((∃ K, records A K) ∗ dues c ∗ running c (A c) t) := by
  unfold stateAt; rw [if_neg (by omega), if_pos h']
theorem stateAt_end (A : Dev nD → Args F) (c : Dev nD) {t : ℕ} (h : 8 ≤ t) : stateAt A c t = iprop(resting c (A c) ∗ closed c) := by
  unfold stateAt; rw [if_neg (by omega), if_neg (by omega)]

def owedAt (c : Dev nD) (t : ℕ) : CellTallies nD τ sig Unit := if t < 8 then oAll c 7 7 7 else 0
theorem owedAt_lt (c : Dev nD) {t : ℕ} (h : t < 8) : owedAt c t = oAll c 7 7 7 := if_pos h
theorem owedAt_end (c : Dev nD) {t : ℕ} (h : 8 ≤ t) : owedAt c t = 0 := if_neg (by omega)

def dats (_ : Fin 1) (c : Dev nD) : Dat τ (Elt F) Unit ℕ UU ℕ cfg0 c where
  A w := m ((cfg0.win w).arr.view.loc (c : Thread nD τ))
  after w _ := match w with
    | ⟨0, _⟩ => outV (argsAll m) c
  Φ t := stateAt (argsAll m) c t.val
  q _ := fullShare
  owed t := owedAt c t.val

theorem share_eq (c : Dev nD) (w : Fin cfg0.W) : (dats m 0 c).share w = fullShare := by unfold Dat.share; split <;> rfl

/-! ## The body at a point -/

theorem coords_val (t : Fin cfg0.N) : ((grid0.coords t) 0).val = t.val := by
  rcases fin_N0 t with rfl | rfl | rfl | rfl | rfl | rfl | rfl | rfl <;> rfl

theorem ow_of (c : Dev nD) (O : CellTallies nD τ sig Unit) (B : Set (SemLoc sig × Unit)) : (Pipeline.owesWithin c O B : sProp 𝕄) ⊢ ow c O := by
  unfold Pipeline.owesWithin ow
  iintro ⟨%W, -, H⟩
  iexists W; iexact H

theorem of_ow (c : Dev nD) (t : Fin (cfg0.N + 1)) (O : CellTallies nD τ sig Unit) (h : (dats m 0 c).owed t = O) : (ow c O : sProp 𝕄) ⊢ (dats m 0 c).owesAt () t := by
  unfold Dat.owesAt Pipeline.owesWithin ow
  rw [h]
  iintro ⟨%W, H⟩
  iexists W
  isplitr; · ipureintro; exact fun _ _ => Or.inl trivial
  iexact H

section Point

variable (c : Dev nD) (t : Fin cfg0.N) (oM : Memref sig .tc .vmem S1x128x1024 .f32) (hoM : oM.IsWhole)

/-- Points that leave the result's buffer alone. -/
theorem step_idle (h7 : t.val < 7) (P : sProp 𝕄) :
    iprop((dats m 0 c).Φ t.castSucc ∗ (dats m 0 c).owesAt () t.castSucc ∗ P)
      ⊢ WP c (bodyOf (F := F) (grid0.coords t) oM hoM) fun _ => iprop((dats m 0 c).Φ t.succ ∗ (dats m 0 c).owesAt () t.succ ∗ P) := by
  have hv := coords_val t
  show iprop(stateAt (argsAll m) c t.val ∗ (dats m 0 c).owesAt () t.castSucc ∗ P)
    ⊢ WP c (bodyOf (F := F) (grid0.coords t) oM hoM) fun _ => iprop(stateAt (argsAll m) c (t.val + 1) ∗ (dats m 0 c).owesAt () t.succ ∗ P)
  rw [stateAt_mid (argsAll m) c (Nat.succ_pos t.val) (by omega)]
  have hin : (dats m 0 c).owesAt () t.castSucc ⊢ ow c (oAll c 7 7 7) := by
    have h := ow_of (F := F) c ((dats m 0 c).owed t.castSucc) ((dats m 0 c).bound () t.castSucc)
    rw [show (dats m 0 c).owed t.castSucc = oAll c 7 7 7 from owedAt_lt c (show t.val < 8 by omega)] at h
    exact (Entails.of_eq (by unfold Dat.owesAt; rw [show (dats m 0 c).owed t.castSucc = oAll c 7 7 7 from owedAt_lt c (show t.val < 8 by omega)])).trans h
  have hout := of_ow m c t.succ _ (owedAt_lt c (show t.val + 1 < 8 by omega))
  by_cases h0 : t.val = 0
  · rw [stateAt_zero (argsAll m) c h0]
    iintro ⟨⟨⟨%K, #HR⟩, HD, HS⟩, HO, HP⟩
    ihave HO := hin $$ HO
    iapply (point_first c (grid0.coords t) oM hoM (argsAll m) K (hv.trans h0)) $$ [HS HO]
    · isplitr; · iexact HR
      isplitl [HS]; · iexact HS
      iexact HO
    iintro ⟨HS, HO⟩
    rw [h0]
    isplitl [HD HS]
    · isplitr; · iexists K; iexact HR
      isplitl [HD]; · iexact HD
      iexact HS
    isplitl [HO]; · iapply hout; iexact HO
    iexact HP
  · rw [stateAt_mid (argsAll m) c (Nat.pos_of_ne_zero h0) (by omega)]
    iintro ⟨⟨⟨%K, #HR⟩, HD, HS⟩, HO, HP⟩
    ihave HO := hin $$ HO
    iapply (point_mid c (grid0.coords t) oM hoM (argsAll m) K (by omega) (by omega)) $$ [HS HO]
    · isplitr; · iexact HR
      isplitl [HS]; · rw [hv]; iexact HS
      iexact HO
    iintro ⟨HS, HO⟩
    rw [hv]
    isplitl [HD HS]
    · isplitr; · iexists K; iexact HR
      isplitl [HD]; · iexact HD
      iexact HS
    isplitl [HO]; · iapply hout; iexact HO
    iexact HP

/-- The last point. -/
theorem step_last (h7 : t.val = 7) :
    iprop((dats m 0 c).Φ t.castSucc ∗ (dats m 0 c).owesAt () t.castSucc ∗ heldAny c oM)
      ⊢ WP c (bodyOf (F := F) (grid0.coords t) oM hoM) fun _ => iprop((dats m 0 c).Φ t.succ ∗ (dats m 0 c).owesAt () t.succ ∗ held c oM fullShare (outV (argsAll m) c)) := by
  have hv := coords_val t
  show iprop(stateAt (argsAll m) c t.val ∗ (dats m 0 c).owesAt () t.castSucc ∗ heldAny c oM)
    ⊢ WP c (bodyOf (F := F) (grid0.coords t) oM hoM) fun _ => iprop(stateAt (argsAll m) c (t.val + 1) ∗ (dats m 0 c).owesAt () t.succ ∗ held c oM fullShare (outV (argsAll m) c))
  rw [stateAt_end (argsAll m) c (show 8 ≤ t.val + 1 by omega), stateAt_mid (argsAll m) c (show 0 < t.val by omega) (by omega)]
  have hin : (dats m 0 c).owesAt () t.castSucc ⊢ ow c (oAll c 7 7 7) := by
    have h := ow_of (F := F) c ((dats m 0 c).owed t.castSucc) ((dats m 0 c).bound () t.castSucc)
    rw [show (dats m 0 c).owed t.castSucc = oAll c 7 7 7 from owedAt_lt c (show t.val < 8 by omega)] at h
    exact (Entails.of_eq (by unfold Dat.owesAt; rw [show (dats m 0 c).owed t.castSucc = oAll c 7 7 7 from owedAt_lt c (show t.val < 8 by omega)])).trans h
  have hout := of_ow m c t.succ _ ((owedAt_end c (show 8 ≤ t.val + 1 by omega)).trans (oAll_zero c).symm)
  iintro ⟨⟨⟨%K, #HR⟩, HD, HS⟩, HO, HP⟩
  ihave HO := hin $$ HO
  iapply (point_last c (grid0.coords t) oM hoM (argsAll m) K (hv.trans h7)) $$ [HS HO HD HP]
  · isplitr; · iexact HR
    isplitl [HS]; · rw [hv]; iexact HS
    isplitl [HD]; · iexact HD
    isplitl [HO]; · iexact HO
    iexact HP
  iintro ⟨HS, HC, HV, HO⟩
  isplitl [HS HC]
  · isplitl [HS]; · iexact HS
    iexact HC
  isplitl [HO]; · iapply hout; iexact HO
  iexact HV

end Point

theorem idle_before (t : Fin cfg0.N) (h7 : t.val < 7) : cfg0.idle 0 (cfg0.grid.coords t) = true := by
  show (!(k0_cond3 (grid0.coords t) == 1#1)) = true
  have h : ¬ k0_cond3 (grid0.coords t) = 1#1 := fun h => by
    have := (cond3_iff (grid0.coords t)).mp h; rw [coords_val] at this; omega
  simp [h]
theorem idle_last (t : Fin cfg0.N) (h7 : t.val = 7) : cfg0.idle 0 (cfg0.grid.coords t) = false := by
  show (!(k0_cond3 (grid0.coords t) == 1#1)) = false
  have h : k0_cond3 (grid0.coords t) = 1#1 := (cond3_iff (grid0.coords t)).mpr ((coords_val t).trans h7)
  simp [h]
theorem flush_before (t : Fin cfg0.N) (h7 : t.val < 7) : (cfg0.win 0).flush t = false :=
  Bool.eq_false_iff.mpr fun h => by have := (flush0_0 t).mp h; omega

theorem leaves_last (c : Dev nD) (t : Fin cfg0.N) (h7 : t.val = 7) :
    (dats m 0 c).leavesExact 0 t = owns (c : Thread nD τ) ((cfg0.win 0).stage (cfg0.slots t 0)) fullShare ((dats m 0 c).after 0 t) := by
  unfold Dat.leavesExact; rw [idle_last t h7]

theorem body_obligation (c : Dev nD) : BodyObligation (dats (F := F) m 0 c) (defs₀ (F := F)) 𝒱₀ () Set.univ := fun t => by
  rw [bigSep_W0, bigSep_W0]
  show iprop((dats m 0 c).Φ t.castSucc ∗ (dats m 0 c).owesAt () t.castSucc ∗ ∃ d, owns (c : Thread nD τ) ((cfg0.win 0).stage (cfg0.slots t 0)) fullShare ((dats m 0 c).before 0 t d))
    ⊢ WP c (bodyOf (F := F) (grid0.coords t) (win0_0.stage (cfg0.slots t 0)) (hstage0_0 ((cfg0.slots t 0).cast nbuf0_0)))
        fun _ => iprop((dats m 0 c).Φ t.succ ∗ (dats m 0 c).owesAt () t.succ ∗ (dats m 0 c).leavesExact 0 t)
  have ht : t.val < 8 := lt_of_lt_of_eq t.isLt N_0
  by_cases h7 : t.val = 7
  · rw [leaves_last m c t h7, owns_held]
    have h := step_last m c t (win0_0.stage (cfg0.slots t 0)) (hstage0_0 ((cfg0.slots t 0).cast nbuf0_0)) h7
    refine BIBase.Entails.trans ?_ h
    iintro ⟨H1, H2, %d, H3⟩
    isplitl [H1]; · iexact H1
    isplitl [H2]; · iexact H2
    iapply (heldAny_of c (win0_0.stage (cfg0.slots t 0)) _)
    iapply (Entails.of_eq (owns_held c (win0_0.stage (cfg0.slots t 0)) fullShare _))
    iexact H3
  · rw [(dats m 0 c).leavesExact_idle 0 t (idle_before t (by omega)) (flush_before t (by omega))]
    exact step_idle m c t (win0_0.stage (cfg0.slots t 0)) (hstage0_0 ((cfg0.slots t 0).cast nbuf0_0)) (by omega) _

/-! ## The launch -/

/-- What a device brings to the first point besides the scratch. -/
def entry (c : Dev nD) : sProp 𝕄 := iprop(start (argsAll m) c ∗ argsHeld c (argsAll m c))

theorem entry_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsAll m) c)
      ⊢ |={Set.univ}=> iprop(entry m c ∗ emp) := by
  rw [Pipeline.unscopedRestP_none]
  unfold entry
  iintro ⟨Ha, HL, HC, -, HG⟩
  imodintro
  isplitl
  · isplitr [Ha]
    · iapply (start_intro (argsAll m) c)
      isplitl [HL]; · iexact HL
      isplitl [HC]; · iexact HC
      iexact HG
    · iapply (Entails.of_eq (args_eq c m)); iexact Ha
  · iempintro

theorem first_intro (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = stateAt (argsAll m) c 0 from rfl, stateAt_zero (argsAll m) c rfl]
  unfold entry start
  iintro ⟨⟨⟨HR, HD, Hsp⟩, Ha⟩, -, Hsc⟩
  isplitl [HR]; · iexact HR
  isplitl [HD]; · iexact HD
  iapply (rest_intro c (argsAll m c))
  isplitl [Ha]; · iexact Ha
  isplitl [Hsc]; · iapply (Entails.of_eq (scratch_eq (F := F) c)); iexact Hsc
  iexact Hsp

/-- What is read off when all is done: the arguments and the barrier at zero. -/
def exitY (c : Dev nD) : sProp 𝕄 := iprop(Pipeline.unscopedRest cfg0.spec c (fun b => m ((c : Thread nD τ).loc b)) ∗ unscopedSems0 c)

theorem last_exit (c : Dev nD) :
    (dats m 0 c).Φ (Fin.last cfg0.N) ⊢ iprop(exitY m c ∗ Pipeline.ownSems0 osem c ∗ Pipeline.scopedRest cfg0.spec c) := by
  rw [show (dats m 0 c).Φ (Fin.last cfg0.N) = stateAt (argsAll m) c cfg0.N from rfl, stateAt_end (argsAll m) c (le_of_eq N_0.symm), ownSems0_eq, closed_eq]
  unfold exitY
  iintro ⟨Hr, Hu, Hx⟩
  ihave H := (rest_exit c (argsAll m c)) $$ Hr
  icases H with ⟨Ha, Hsc, Hsp⟩
  isplitl [Ha Hu]
  · isplitl [Ha]; · iapply (Entails.of_eq (args_eq c m).symm); iexact Ha
    iexact Hu
  isplitl [Hsp Hx]
  · isplitl [Hsp]; · iexact Hsp
    iexact Hx
  iapply (Entails.of_eq (scratch_eq (F := F) c).symm); iexact Hsc

theorem waits (c : Dev nD) : (levAts L lv : sProp 𝕄) ⊢ Pipeline.cellsWaits cfgs (dats m) () 0 c :=
  Pipeline.cellsWaits_intro cfgs (dats m) () 0 c fun w s t => by
    have hlow : lvS (.dma ((cfg0.win w).sem s)) = 0 := by fin_cases w; fin_cases s; decide
    show (levAts L lv : sProp 𝕄) ⊢ MayWait (c : Thread nD τ) (.dma ((cfg0.win w).sem s)) () (owedAt c t.val)
    by_cases h : t.val < 8
    · rw [owedAt_lt c h]
      exact mayWait c _ 7 7 7 (by rw [hlow]; decide) (fun _ => by rw [hlow]; decide) (fun _ => by rw [hlow]; decide)
    · rw [owedAt_end c (by omega), MayWait_zero]; iintro -; iempintro

/-! ## What the run leaves -/

/-- Each device's arguments read off at the end. -/
def argsKept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

theorem read_off (c : Dev nD) (s' : Phys nD τ sig (Elt F)) :
    iprop(exitY m c ∗ emp ∗ SI s') ⊢ (|={Set.univ}=> iprop(⌜argsKept m c s'.mem ∧ ∀ sm : SemLoc sig, sm.isScoped .tc = false → s'.mem.sem ((c.tc : Thread nD τ), sm) = 0⌝ ∗ SI s') : sProp 𝕄) := by
  unfold exitY Pipeline.unscopedRest
  iintro ⟨⟨Ha, Hu⟩, -, HSI⟩
  ihave H := (pointsTo_read_all _ (fun b : Ref sig .tc => (c.tc : Thread nD τ).loc b) (fun b => m ((c : Thread nD τ).loc b)) s') $$ [Ha HSI]
  · isplitl [Ha]; · iexact Ha
    iexact HSI
  icases H with ⟨%ha, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨⟨ha main_arg0 (by decide), ha main_arg1 (by decide), ha main_arg2 (by decide), ha main_arg3 (by decide), ha main_arg4 (by decide)⟩, hs⟩
  iexact HSI

/-- The only block is the whole array. -/
theorem blk_emb (i : S1x128x1024.Idx) : ((cfg0.win 0).blk t0_7).view.emb i = i := by
  funext a
  apply Fin.ext
  fin_cases a
  · show 0 + 1 * (i 0).val = (i 0).val; omega
  · show 0 + 1 * (i 1).val = (i 1).val; omega
  · show 0 + 1 * (i 2).val = (i 2).val; omega

/-- The result array at the end. -/
theorem result_eq (c : Dev nD) : (dats m 0 c).arrAt 0 cfg0.N = outV (argsAll m) c := by
  refine (dats m 0 c).arrAt_eq_of_cover 0 (outV (argsAll m) c) (fun t ht => ?_) fun i => ⟨t0_7, (flush0_0 t0_7).mpr rfl, ?_⟩
  · have h7 : t = t0_7 := Fin.ext (by have := (flush0_0 t).mp ht; have h8 : t.val < 8 := lt_of_lt_of_eq t.isLt N_0; show t.val = 7; omega)
    subst h7
    have ha : (dats m 0 c).after 0 t0_7 = outV (argsAll m) c := by dsimp only [dats]
    unfold Pipeline.Dat.flushed
    rw [ha]
    generalize outV (argsAll m) c = X
    funext i
    have hi := blk_emb i
    exact (congrArg X hi).symm
  · show i ∈ ((View.whole main_v1).slice (win0_0.rect t0_7)).set
    rw [View.set_slice_whole, Rect.mem_set_unit]
    intro a
    have hi := (show S1x128x1024.Idx from i) a |>.isLt
    fin_cases a
    · exact ⟨Nat.zero_le _, hi⟩
    · exact ⟨Nat.zero_le _, hi⟩
    · exact ⟨Nat.zero_le _, hi⟩

/-- What every run leaves. -/
def Left (r : PUnit × MemSt nD τ sig (Elt F)) : Prop :=
  (∀ c : Dev nD, r.2.mem ((c : Thread nD τ).loc main_v1) = outV (argsAll m) c ∧ argsKept m c r.2) ∧ r.2.sem = fun _ => 0

set_option maxRecDepth 8000 in
/-- From any memory with every semaphore at zero every run of the program ends, each device's result at `outV` of all the
    devices' arguments, its own arguments unchanged and every semaphore at zero. -/
theorem run_main : θ_run defs (onTc (τ := τ) (main (F := F))) ⟨m, fun _ => 0, ρ⟩ (Left m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun c => owedAt_end c (le_of_eq N_0.symm))
    (L := L) (lv := lv) (hL := L_of_ne) (hwaits := waits m)
    (G := G (argsAll m)) (G' := G' (argsAll m)) (u₀ := u₀)
    (hu₀ := mint (argsAll m))
    (hglob := glob (argsAll m))
    (hA := fun _ _ => rfl) (hpf := fun _ k => k.elim0)
    (X := entry m) (Y := exitY m) (Z := fun _ => iprop(emp))
    (hX := entry_intro m ρ) (hin := first_intro m) (hout := last_exit m)
    (QY := fun c s => argsKept m c s ∧ ∀ sm : SemLoc sig, sm.isScoped .tc = false → s.sem ((c.tc : Thread nD τ), sm) = 0)
    (hY := read_off m)
    (hQ := fun _ h hs => ⟨fun c => ⟨((h c).1 0).trans (result_eq m c), (h c).2.2.1⟩, sem_eq_zero hs fun c => (h c).2.2.2⟩)

end Cert.KProof

end
-- ==== Proof.Frames.lean ====
/-
# The frames of the two programs, and the named constant

Both programs end from every memory, on every device, with their arguments unchanged and every semaphore at zero.  The program
at machine floats is the idealized one's text with the literal where that one has the named constant; one run covers both.
-/
module

public import proofs.«01_k».proof.Defs
public import proofs.«01_k».proof.Proof.Gen.Kernel
public import proofs.«01_k».proof.Proof.Run

@[expose] public section

noncomputable section

namespace Cert.KProof

open Idealize.ShloMosaic Idealize.SL.Sem Cert.KernelIdeal.Gen

/-- The named constant's value: `log₂ e / √128`. -/
theorem log2e_named : IdealRules.named_const.Statement Cert.KernelIdeal.κ "log2e_inv_sqrt_d" .f32 0x3E0293EE#32
    (((Real.log 2)⁻¹ * (Real.sqrt 128)⁻¹ : ℝ) : EReal) :=
  IdealRules.named_const.statement Cert.KernelIdeal.κ "log2e_inv_sqrt_d" .f32 0x3E0293EE#32 _ rfl

theorem frame_ideal : @Cert.quiescent_KernelIdeal Cert.KernelIdeal.Gen.facts := fun m ρ _ =>
  (θ_run Cert.KernelIdeal.defs _ _).mono (fun _ h => ⟨fun c => (h.1 c).2, h.2⟩) (run_main (F := Ideal) m ρ)

/-- At machine floats a named constant is its literal. -/
local instance namedBits : Named Bits := ⟨fun _ _ φ bits => FloatOps.ofBits φ bits⟩

/-- The two body tables are one. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem tables_eq : Cert.Kernel.defs (F := Bits) = Cert.KernelIdeal.defs (F := Bits) :=
  congrArg (Pipeline.defs Cert.KernelIdeal.pcfgs) bodies_eq

theorem frame_kernel : @Cert.quiescent_Kernel Cert.Kernel.Gen.facts := fun m ρ _ => by
  rw [tables_eq]
  exact (θ_run Cert.KernelIdeal.defs _ _).mono (fun _ h => ⟨fun c => (h.1 c).2, h.2⟩) (run_main (F := Bits) m ρ)

end Cert.KProof

end
-- ==== Proof.Read.lean ====
/-
# The printed steps, at an index

Each step of the kernel's body read at one index over the extended reals: the queries, the scores, the running sums,
the row of sums, the division and the last product.
-/
module

public import Idealize.ShloMosaic.Lib.Pointwise
public import proofs.«01_k».proof.Proof.Vals

@[expose] public section

noncomputable section

namespace Cert.KValue

open Cert.KernelIdeal Cert.KernelIdeal.Gen
open Cert.KProof hiding ix2
open Idealize.ShloMosaic
open Idealize.ShloMosaic.VecWindow

set_option maxRecDepth 16384

/-- The scale `log₂ e / √128` at which the queries are multiplied. -/
def kap : ℝ := (Real.log 2)⁻¹ * (Real.sqrt 128)⁻¹

theorem named_kap : Named.named (F := Ideal) Cert.KernelIdeal.κ "log2e_inv_sqrt_d" (φ := .f32) 0x3E0293EE#32 = (kap : EReal) :=
  IdealRules.named_const.ideal_named_scalar _ _ _ _ rfl

/-- A head's scaled queries. -/
theorem pay6_at (X : S128x1024.Idx → EReal) (W : S1024x128.Idx → EReal) (i : Fin 128) (d : Fin 128) :
    k0_pay6 (F := Ideal) (k0_pay5 (F := Ideal) X) W (ix2 i d) = (∑ e : Fin 1024, X (ix2 i e) * W (ix2 e d)) * (kap : EReal) := by
  rw [← named_kap]
  pointwise [k0_pay6, k0_pay5]

/-- A half's scores. -/
theorem pay48_at (Q : S512x128.Idx → EReal) (X : S1x1x4096x128.Idx → EReal) (r : Fin 512) (j : Fin 4096) :
    k0_pay48 (F := Ideal) Q X (ix2 r j) = ∑ d : Fin 128, Q (ix2 r d) * X (ix4 0 0 j d) := by
  pointwise [k0_pay48]

theorem pay50_at (S : S512x4096.Idx → EReal) (l : S512x1.Idx → EReal) (r : Fin 512) :
    k0_pay50 (F := Ideal) S l (ix2 r 0) = l (ix2 r 0) + ∑ j : Fin 4096, Ideal.exp2 (S (ix2 r j)) := by
  pointwise [k0_pay50, k0_pay49]
  rfl

theorem pay51_at (V : S1x1x4096x128.Idx → EReal) (S : S512x4096.Idx → EReal) (A : S512x128.Idx → EReal) (r : Fin 512) (d : Fin 128) :
    k0_pay51 (F := Ideal) (k0_pay47 (F := Ideal) V) S A (ix2 r d) = A (ix2 r d) + ∑ j : Fin 4096, Ideal.exp2 (S (ix2 r j)) * V (ix4 0 0 j d) := by
  pointwise [k0_pay51, k0_pay47, k0_pay49]
  rfl

/-- The entry of the unit matrix the body makes of two numberings. -/
theorem eye_at (x y : Fin 128) :
    FloatOps.sitofp (F := Ideal) (w := 32) FTy.f32 (BitVec.setWidth 32 (IntOp.cmpi CmpIPredicate.eq (BitVec.ofNat 32 ↑x) (BitVec.ofNat 32 ↑y))) = if x = y then (1 : EReal) else 0 := by
  by_cases h : x = y
  · subst h
    rw [if_pos rfl, IntOp.cmpi_eq_self]
    show (((BitVec.setWidth 32 (1#1)).toInt : ℝ) : EReal) = 1
    norm_num
  · rw [if_neg h]
    have hb : BitVec.ofNat 32 x.val ≠ BitVec.ofNat 32 y.val := fun h' => h (Fin.ext (by
      have := congrArg BitVec.toNat h'
      have := x.isLt; have := y.isLt
      simp only [BitVec.toNat_ofNat] at *
      omega))
    have hc : IntOp.cmpi CmpIPredicate.eq (BitVec.ofNat 32 x.val) (BitVec.ofNat 32 y.val) = 0#1 := by
      show BitVec.ofBool (BitVec.ofNat 32 x.val == BitVec.ofNat 32 y.val) = 0#1
      rw [beq_eq_false_iff_ne.mpr hb]
      rfl
    rw [hc]
    show (((BitVec.setWidth 32 (0#1)).toInt : ℝ) : EReal) = 0
    norm_num

theorem pay14_at (L : S128x1.Idx → EReal) (i : Fin 128) :
    k0_pay14 (F := Ideal) L (ix2 0 i) = L (ix2 i 0) := by
  pointwise [k0_pay14]
  rw [Finset.sum_eq_single i]
  · exact (congrArg (L (ix2 i 0) * ·) ((eye_at i i).trans (if_pos rfl))).trans (mul_one _)
  · intro x _ hx
    exact (congrArg (L (ix2 x 0) * ·) ((eye_at x i).trans (if_neg hx))).trans (mul_zero _)
  · intro h; exact absurd (Finset.mem_univ i) h

theorem pay36_at (R : S1x128.Idx → EReal) (A : S128x128.Idx → EReal) (i d : Fin 128) :
    k0_pay36 (F := Ideal) R A (ix2 i d) = Ideal.div (A (ix2 i d)) (R (ix2 0 i)) := by
  pointwise [k0_pay36]
  refine congrArg (Ideal.div (A (ix2 i d))) ?_
  rw [Finset.sum_eq_single i]
  · exact (congrArg (R (ix2 0 i) * ·) ((eye_at i i).trans (if_pos rfl))).trans (mul_one _)
  · intro x _ hx
    exact (congrArg (R (ix2 0 x) * ·) ((eye_at i x).trans (if_neg hx.symm))).trans (mul_zero _)
  · intro h; exact absurd (Finset.mem_univ i) h

theorem pay2_at (T : S128x1024.Idx → EReal) (W : S1024x1024.Idx → EReal) (i : Fin 128) (n : Fin 1024) :
    k0_pay2 (F := Ideal) (k0_pay45 (F := Ideal) T) W (ix3 0 i n) = ∑ e : Fin 1024, T (ix2 i e) * W (ix2 e n) := by
  pointwise [k0_pay2, k0_pay45]

theorem pay23_at (s : S136x128.Idx → EReal) (x y : S1x136x128.Idx → EReal) (i : Fin 136) (d : Fin 128) :
    k0_pay23 (F := Ideal) s x y (ix2 i d) = s (ix2 i d) + x (ix3 0 i d) + y (ix3 0 i d) := by
  pointwise [k0_pay23]
theorem pay24_at (s : S136x128.Idx → EReal) (x y z : S1x136x128.Idx → EReal) (i : Fin 136) (d : Fin 128) :
    k0_pay24 (F := Ideal) s x y z (ix2 i d) = s (ix2 i d) + x (ix3 0 i d) + y (ix3 0 i d) + z (ix3 0 i d) := by
  pointwise [k0_pay24]
theorem pay25_at (s : S136x128.Idx → EReal) (x y : S1x136x128.Idx → EReal) (i : Fin 136) (d : Fin 128) :
    k0_pay25 (F := Ideal) s x y (ix2 i d) = s (ix2 i d) + x (ix3 0 i d) + y (ix3 0 i d) := by
  pointwise [k0_pay25]
theorem pay26_at (s : S136x128.Idx → EReal) (i : Fin 136) (d : Fin 128) :
    k0_pay26 (F := Ideal) s (ix2 i d) = s (ix2 i d) := by
  pointwise [k0_pay26]
theorem pay3_at (r : Fin 1088) (d : Fin 128) : k0_pay3 (F := Ideal) (ix2 r d) = 0 := by
  pointwise [k0_pay3]
theorem pay4_at (r : Fin 1024) : k0_pay4 (F := Ideal) (ix2 r 0) = 0 := by
  pointwise [k0_pay4]

end Cert.KValue

end
-- ==== Proof.Queries.lean ====
/-
# The queries and the chunks, at an index
-/
module

public import proofs.«01_k».proof.Proof.Read

@[expose] public section

noncomputable section

namespace Cert.KValue

open Cert.KernelIdeal Cert.KernelIdeal.Gen
open Cert.KProof hiding ix2
open Idealize.ShloMosaic
open Idealize.ShloMosaic.VecWindow

set_option maxRecDepth 16384

theorem ix2_eq {n m : ℕ} (i : Fin n) (j : Fin m) : Cert.KProof.ix2 i j = ix2 i j := eq_ix2 _

/-- A window of a two-dimensional array, at an index. -/
theorem win_at {n m a b o p : ℕ} {β : Type} (x : (⟨2, ![n, m]⟩ : Shape).Idx → β) (inb : ∀ d : Fin 2, (![o, p] : Fin 2 → ℕ) d + (![a, b] : Fin 2 → ℕ) d ≤ (![n, m] : Fin 2 → ℕ) d)
    (i : Fin a) (j : Fin b) (i' : Fin n) (j' : Fin m) (hi : i'.val = o + i.val) (hj : j'.val = p + j.val) :
    window (s := ⟨2, ![n, m]⟩) x ![o, p] ![a, b] inb (ix2 i j) = x (ix2 i' j') := by
  rw [window2, ix2_eq]
  exact congrArg x (congrArg₂ ix2 (Fin.ext hi.symm) (Fin.ext hj.symm))

variable (a : Args Ideal)

/-- The hidden states at an index. -/
theorem xsV_at (i : Fin 128) (e : Fin 1024) : xsV a (ix2 i e) = a.x (ix3 0 i e) := by
  have h : Shape.reshapeEquiv (s := S1x128x1024) squeezes_S1x128x1024_S128x1024.numel_eq (ix2 i e) = ix3 0 i e := by pointwise
  refine (congrArg (fun y => a.x ((Rect.unit (s := S1x128x1024) ![0, 0, 0] S1x128x1024.size inb_S1x128x1024_S1x128x1024_0_0_0).emb y)) h).trans (congrArg a.x (funext fun k => Fin.ext ?_))
  rw [Rect.emb_apply]
  fin_cases k
  · rfl
  · show 0 + 1 * i.val = i.val; omega
  · show 0 + 1 * e.val = e.val; omega

/-- A chunk at an index. -/
theorem chunk_at (K : S1x32768x2x128.Idx → EReal) (t : Fin 8) (g : Fin 2) (j : Fin 4096) (d : Fin 128) :
    chunk (F := Ideal) K t g (ix2 j d) = K (ix4 0 ⟨4096 * t.val + j.val, by have := t.isLt; have := j.isLt; omega⟩ g d) := by
  have h : Shape.reshapeEquiv (s := S1x4096x1x128) squeezes_S1x4096x1x128_S4096x128.numel_eq (ix2 j d) = ix4 0 j 0 d := by pointwise
  refine (congrArg (fun y => K ((chunkRect t g).emb y)) h).trans (congrArg K (funext fun k => Fin.ext ?_))
  rw [Rect.emb_apply]
  fin_cases k
  · rfl
  · show 4096 * t.val + 1 * j.val = 4096 * t.val + j.val; omega
  · show g.val + 1 * 0 = g.val; omega
  · show 0 + 1 * d.val = d.val; omega

/-- A loaded slot at an index. -/
theorem slotV_at (K : S1x32768x2x128.Idx → EReal) (t : Fin 8) (g : Fin 2) (j : Fin 4096) (d : Fin 128) :
    slotV (F := Ideal) K t g (ix4 0 0 j d) = K (ix4 0 ⟨4096 * t.val + j.val, by have := t.isLt; have := j.isLt; omega⟩ g d) := by
  have h : (Shape.reshapeEquiv (s := S1x1x4096x128) (s' := S4096x128) squeezes_S1x1x4096x128_S4096x128.numel_eq).symm (ix4 0 0 j d) = ix2 j d := by
    rw [Shape.reshapeEquiv_symm]
    pointwise
  exact (congrArg (chunk (F := Ideal) K t g) h).trans (chunk_at K t g j d)

/-- A landed slab at an index. -/
theorem unsq_at {β : Type} (X : S136x128.Idx → β) (i : Fin 136) (d : Fin 128) : unsq squeezes_S1x136x128_S136x128 X (ix3 0 i d) = X (ix2 i d) := by
  have h : (Shape.reshapeEquiv (s := S1x136x128) (s' := S136x128) squeezes_S1x136x128_S136x128.numel_eq).symm (ix3 0 i d) = ix2 i d := by
    rw [Shape.reshapeEquiv_symm]
    pointwise
  exact congrArg X h

/-- The scaled queries at an index. -/
theorem qV_at (r : Fin 1024) (d : Fin 128) :
    qV a (ix2 r d) = (∑ e : Fin 1024, a.x (ix3 0 ⟨r.val % 128, Nat.mod_lt _ (by decide)⟩ e)
      * a.wq (ix2 e ⟨128 * (r.val / 128) + d.val, by have := r.isLt; have := d.isLt; omega⟩)) * (kap : EReal) := by
  have hr : r.val / 128 < 8 := by have := r.isLt; omega
  have h : qV a (ix2 r d) = qBlk a ⟨r.val / 128, hr⟩ (ix2 ⟨r.val % 128, Nat.mod_lt _ (by decide)⟩ d) := congrArg (qBlk a _) (ix2_eq _ _)
  rw [h]
  unfold qBlk
  rw [pay6_at]
  refine congrArg (· * (kap : EReal)) (Finset.sum_congr rfl fun e _ => ?_)
  rw [xsV_at]
  exact congrArg (a.x _ * ·) (win_at a.wq _ e d _ _ (Nat.zero_add _).symm rfl)

end Cert.KValue

end
-- ==== Proof.Sums.lean ====
/-
# The running sums, at an index

A device's accumulator and row sums after its eight chunks of keys: the sums over all its keys of the weights times the
values, and of the weights.
-/
module

public import proofs.«01_k».proof.Proof.Queries

@[expose] public section

noncomputable section

namespace Cert.KValue

open Cert.KernelIdeal Cert.KernelIdeal.Gen
open Cert.KProof hiding ix2
open Idealize.ShloMosaic
open Idealize.ShloMosaic.VecWindow

set_option maxRecDepth 16384

/-- A put in a two-dimensional array, at an index it covers. -/
theorem put_hit {n m a b o p : ℕ} {β : Type} (x : (⟨2, ![n, m]⟩ : Shape).Idx → β) (w : (⟨2, ![a, b]⟩ : Shape).Idx → β) (i : Fin n) (j : Fin m) (i' : Fin a) (j' : Fin b)
    (hi : i.val = o + i'.val) (hj : j.val = p + j'.val) : put (s := ⟨2, ![n, m]⟩) x ![o, p] ![a, b] w (ix2 i j) = w (ix2 i' j') := by
  have h1 := i'.isLt; have h2 := j'.isLt
  rw [put2, dif_pos ⟨⟨by show o ≤ i.val; omega, by show i.val < o + a; omega⟩, by show p ≤ j.val; omega, by show j.val < p + b; omega⟩, ix2_eq]
  refine congrArg w (congrArg₂ ix2 (Fin.ext ?_) (Fin.ext ?_))
  · show i.val - o = i'.val; omega
  · show j.val - p = j'.val; omega

/-- A put in a two-dimensional array, at a row it does not cover. -/
theorem put_miss {n m a b o p : ℕ} {β : Type} (x : (⟨2, ![n, m]⟩ : Shape).Idx → β) (w : (⟨2, ![a, b]⟩ : Shape).Idx → β) (i : Fin n) (j : Fin m)
    (hi : i.val < o ∨ o + a ≤ i.val) : put (s := ⟨2, ![n, m]⟩) x ![o, p] ![a, b] w (ix2 i j) = x (ix2 i j) := by
  rw [put2, dif_neg]
  rintro ⟨⟨h1, h2⟩, -⟩
  change o ≤ i.val at h1
  change i.val < o + a at h2
  omega

variable (a : Args Ideal)

/-- The score of query row `r` against key `j` of chunk `t`, in the row's own group of keys. -/
def sc (t : Fin 8) (r : Fin 1024) (j : Fin 4096) : EReal :=
  ∑ d : Fin 128, qV a (ix2 r d) * a.k (ix4 0 ⟨4096 * t.val + j.val, by have := t.isLt; have := j.isLt; omega⟩ ⟨r.val / 512, by have := r.isLt; omega⟩ d)

theorem scoreV_at (t : Fin 8) (g : Fin 2) (r : Fin 1024) (r' : Fin 512) (hr : r.val = 512 * g.val + r'.val) (j : Fin 4096) :
    scoreV (F := Ideal) (qV a) g (slotV a.k t g) (ix2 r' j) = sc a t r j := by
  have h := r'.isLt
  have hg : (⟨r.val / 512, by have := r.isLt; omega⟩ : Fin 2) = g := Fin.ext (by show r.val / 512 = g.val; omega)
  unfold scoreV sc
  rw [pay48_at]
  refine Finset.sum_congr rfl fun d _ => ?_
  rw [slotV_at, hg]
  exact congrArg (· * _) (win_at (qV a) _ r' d r d hr (Nat.zero_add _).symm)

theorem stepL_hit (t : Fin 8) (g : Fin 2) (l : S1024x1.Idx → EReal) (r : Fin 1024) (hr : r.val / 512 = g.val) :
    stepL (F := Ideal) (qV a) g (slotV a.k t g) l (ix2 r 0) = l (ix2 r 0) + ∑ j : Fin 4096, Ideal.exp2 (sc a t r j) := by
  have hlt : r.val - 512 * g.val < 512 := by have := r.isLt; omega
  have he : r.val = 512 * g.val + (⟨r.val - 512 * g.val, hlt⟩ : Fin 512).val := by show r.val = 512 * g.val + (r.val - 512 * g.val); omega
  unfold stepL
  refine (put_hit l _ r 0 ⟨r.val - 512 * g.val, hlt⟩ 0 he rfl).trans ?_
  rw [pay50_at]
  refine congrArg₂ (· + ·) (win_at l _ _ 0 r 0 he rfl) (Finset.sum_congr rfl fun j _ => ?_)
  rw [scoreV_at a t g r _ he]

theorem stepL_miss (q : S1024x128.Idx → EReal) (g : Fin 2) (kk : S1x1x4096x128.Idx → EReal) (l : S1024x1.Idx → EReal) (r : Fin 1024) (hr : r.val / 512 ≠ g.val) :
    stepL (F := Ideal) q g kk l (ix2 r 0) = l (ix2 r 0) := by
  unfold stepL
  exact put_miss l _ r 0 (by have := r.isLt; have := g.isLt; omega)

theorem stepA_hit (t : Fin 8) (g : Fin 2) (A : S1088x128.Idx → EReal) (r : Fin 1024) (d : Fin 128) (hr : r.val / 512 = g.val) :
    stepA (F := Ideal) (qV a) g (slotV a.k t g) (slotV a.v t g) A (ix2 ⟨r.val, by have := r.isLt; omega⟩ d) = A (ix2 ⟨r.val, by have := r.isLt; omega⟩ d)
      + ∑ j : Fin 4096, Ideal.exp2 (sc a t r j) * a.v (ix4 0 ⟨4096 * t.val + j.val, by have := t.isLt; have := j.isLt; omega⟩ ⟨r.val / 512, by have := r.isLt; omega⟩ d) := by
  have hlt : r.val - 512 * g.val < 512 := by have := r.isLt; omega
  have he : r.val = 512 * g.val + (⟨r.val - 512 * g.val, hlt⟩ : Fin 512).val := by show r.val = 512 * g.val + (r.val - 512 * g.val); omega
  have hg : (⟨r.val / 512, by have := r.isLt; omega⟩ : Fin 2) = g := Fin.ext hr
  unfold stepA
  refine (put_hit A _ _ d ⟨r.val - 512 * g.val, hlt⟩ d he (Nat.zero_add _).symm).trans ?_
  rw [pay51_at]
  refine congrArg₂ (· + ·) (win_at A _ _ d _ d he (Nat.zero_add _).symm) (Finset.sum_congr rfl fun j _ => ?_)
  rw [scoreV_at a t g r _ he, slotV_at, hg]

theorem stepA_miss (q : S1024x128.Idx → EReal) (g : Fin 2) (kk vv : S1x1x4096x128.Idx → EReal) (A : S1088x128.Idx → EReal) (r : Fin 1024) (d : Fin 128) (hr : r.val / 512 ≠ g.val) :
    stepA (F := Ideal) q g kk vv A (ix2 ⟨r.val, by have := r.isLt; omega⟩ d) = A (ix2 ⟨r.val, by have := r.isLt; omega⟩ d) := by
  unfold stepA
  refine put_miss A _ _ d ?_
  show r.val < 512 * g.val ∨ 512 * g.val + 512 ≤ r.val
  have := r.isLt; have := g.isLt; omega

/-- The row sums after `n` grid points. -/
theorem lV_at (n : ℕ) (r : Fin 1024) : lV a n (ix2 r 0) = ∑ t ∈ Finset.range n, ∑ j : Fin 4096, Ideal.exp2 (sc a (pt t) r j) := by
  induction n with
  | zero => exact pay4_at r
  | succ n ih =>
    rw [Finset.sum_range_succ, ← ih]
    have hr : r.val / 512 = 0 ∨ r.val / 512 = 1 := by have := r.isLt; omega
    show stepL (F := Ideal) (qV a) 1 (slotV a.k (pt n) 1) (stepL (qV a) 0 (slotV a.k (pt n) 0) (lV a n)) (ix2 r 0) = _
    rcases hr with h | h
    · rw [stepL_miss _ _ _ _ _ (by rw [h]; decide), stepL_hit a _ _ _ _ h]
    · rw [stepL_hit a _ _ _ _ h, stepL_miss _ _ _ _ _ (by rw [h]; decide)]

/-- The accumulator after `n` grid points. -/
theorem accV_at (n : ℕ) (r : Fin 1024) (d : Fin 128) :
    accV a n (ix2 ⟨r.val, by have := r.isLt; omega⟩ d) = ∑ t ∈ Finset.range n, ∑ j : Fin 4096, Ideal.exp2 (sc a (pt t) r j)
      * a.v (ix4 0 ⟨4096 * (pt t).val + j.val, by have := (pt t).isLt; have := j.isLt; omega⟩ ⟨r.val / 512, by have := r.isLt; omega⟩ d) := by
  induction n with
  | zero => exact pay3_at _ d
  | succ n ih =>
    rw [Finset.sum_range_succ, ← ih]
    have hr : r.val / 512 = 0 ∨ r.val / 512 = 1 := by have := r.isLt; omega
    show stepA (F := Ideal) (qV a) 1 (slotV a.k (pt n) 1) (slotV a.v (pt n) 1) (stepA (qV a) 0 (slotV a.k (pt n) 0) (slotV a.v (pt n) 0) (accV a n)) (ix2 _ d) = _
    rcases hr with h | h
    · rw [stepA_miss _ _ _ _ _ _ _ (by rw [h]; decide), stepA_hit a _ _ _ _ _ h]
    · rw [stepA_hit a _ _ _ _ _ h, stepA_miss _ _ _ _ _ _ _ (by rw [h]; decide)]

theorem sum_pt {β : Type} [AddCommMonoid β] (f : Fin 8 → β) : ∑ t ∈ Finset.range 8, f (pt t) = ∑ t, f t := by
  rw [Finset.sum_range]
  exact Finset.sum_congr rfl fun t _ => congrArg f (Fin.ext (Nat.mod_eq_of_lt t.isLt))

/-- A row of sums. -/
theorem lRow_at (h : Fin 8) (i : Fin 128) : lRow a h (ix2 0 i) = lV a 8 (ix2 ⟨128 * h.val + i.val, by have := h.isLt; have := i.isLt; omega⟩ 0) := by
  unfold lRow
  rw [pay14_at]
  exact win_at (lV a 8) _ i 0 _ 0 rfl rfl

theorem accR_acc (n : ℕ) (r : Fin 1024) (d : Fin 128) : accR a n (ix2 ⟨r.val, by have := r.isLt; omega⟩ d) = accV a 8 (ix2 ⟨r.val, by have := r.isLt; omega⟩ d) := by
  induction n with
  | zero => rfl
  | succ n ih =>
    refine (put_miss (accR a n) _ _ d (Or.inl ?_)).trans ih
    show r.val < 1024 + n
    have := r.isLt; omega

theorem accR_row (n : ℕ) (hn : n ≤ 8) (h : Fin 8) (hh : h.val < n) (i : Fin 128) : accR a n (ix2 ⟨1024 + h.val, by have := h.isLt; omega⟩ i) = lRow a h (ix2 0 i) := by
  induction n with
  | zero => omega
  | succ n ih =>
    by_cases he : h.val = n
    · have hp : pt n = h := Fin.ext (by show n % 8 = h.val; omega)
      refine (put_hit (accR a n) _ _ i 0 i (by show 1024 + h.val = 1024 + n + 0; omega) (Nat.zero_add _).symm).trans ?_
      rw [hp]
    · exact (put_miss (accR a n) _ _ i (Or.inl (by show 1024 + h.val < 1024 + n; omega))).trans (ih (by omega) (by omega))

/-- A row of a device's accumulator. -/
theorem accF_acc (r : Fin 1024) (d : Fin 128) :
    accF a (ix2 ⟨r.val, by have := r.isLt; omega⟩ d) = ∑ t : Fin 8, ∑ j : Fin 4096, Ideal.exp2 (sc a t r j)
      * a.v (ix4 0 ⟨4096 * t.val + j.val, by have := t.isLt; have := j.isLt; omega⟩ ⟨r.val / 512, by have := r.isLt; omega⟩ d) :=
  (accR_acc a 8 r d).trans ((accV_at a 8 r d).trans (sum_pt fun t => ∑ j : Fin 4096, Ideal.exp2 (sc a t r j)
      * a.v (ix4 0 ⟨4096 * t.val + j.val, by have := t.isLt; have := j.isLt; omega⟩ ⟨r.val / 512, by have := r.isLt; omega⟩ d)))

/-- A row of sums of a device. -/
theorem accF_row (h : Fin 8) (i : Fin 128) :
    accF a (ix2 ⟨1024 + h.val, by have := h.isLt; omega⟩ i) = ∑ t : Fin 8, ∑ j : Fin 4096, Ideal.exp2 (sc a t ⟨128 * h.val + i.val, by have := h.isLt; have := i.isLt; omega⟩ j) :=
  (accR_row a 8 (le_refl _) h h.isLt i).trans ((lRow_at a h i).trans ((lV_at a 8 _).trans
    (sum_pt fun t => ∑ j : Fin 4096, Ideal.exp2 (sc a t ⟨128 * h.val + i.val, by have := h.isLt; have := i.isLt; omega⟩ j))))

end Cert.KValue

end
-- ==== Proof.Soft.lean ====
/-
# Softmax over the extended reals

The mathematics of the claim. A quotient of two weighted sums does not change when every weight is multiplied by one
positive real number; so a softmax whose weights are `exp (s - m)` is the softmax whose weights are `exp s`. A power of
two at `x · log₂ e` is an exponential. The sum over all keys is the sum over the devices, over a device's chunks and over
a chunk's keys. The largest of a family of reals, taken by a fold that starts at `-∞`, is a real.
-/
module

public import Mathlib.Data.EReal.Inv
public import Idealize.ShloMosaic.Lib.Pointwise

@[expose] public section

noncomputable section

namespace Cert.Soft

open Idealize.ShloMosaic

/-- A finite sum of reals, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a finite sum of extended reals. -/
theorem mul_sum {ι : Type*} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A common positive factor of a numerator and of a positive real denominator cancels. -/
theorem div_scale (c L : ℝ) (hc : 0 < c) (hL : 0 < L) (N : EReal) : Ideal.div ((c : EReal) * N) ((c * L : ℝ) : EReal) = Ideal.div N (L : EReal) := by
  rw [Ideal.div_coe (mul_pos hc hL).ne', Ideal.div_coe hL.ne', mul_comm (c : EReal) N, mul_assoc, ← EReal.coe_mul]
  congr 2
  field_simp

/-- A softmax's quotient does not see a shift of its scores. -/
theorem softmax_shift {ι : Type*} [Fintype ι] [Nonempty ι] (s : ι → ℝ) (m : ℝ) (v : ι → EReal) :
    Ideal.div (∑ j, (Real.exp (s j - m) : EReal) * v j) (∑ j, (Real.exp (s j - m) : EReal))
      = Ideal.div (∑ j, (Real.exp (s j) : EReal) * v j) (∑ j, (Real.exp (s j) : EReal)) := by
  have hc : 0 < Real.exp (-m) := Real.exp_pos _
  have hL : 0 < ∑ j, Real.exp (s j) := Finset.sum_pos (fun j _ => Real.exp_pos _) Finset.univ_nonempty
  have he : ∀ j, Real.exp (s j - m) = Real.exp (-m) * Real.exp (s j) := fun j => by rw [← Real.exp_add]; congr 1; ring
  have hN : (∑ j, (Real.exp (s j - m) : EReal) * v j) = (Real.exp (-m) : EReal) * ∑ j, (Real.exp (s j) : EReal) * v j := by
    rw [mul_sum _ _ hc.le]
    refine Finset.sum_congr rfl fun j _ => ?_
    rw [he, EReal.coe_mul, mul_assoc]
  have hD : (∑ j, (Real.exp (s j - m) : EReal)) = ((Real.exp (-m) * ∑ j, Real.exp (s j) : ℝ) : EReal) := by
    rw [← coe_sum, Finset.mul_sum]
    exact congrArg _ (Finset.sum_congr rfl fun j _ => he j)
  rw [hN, hD, div_scale _ _ hc hL, coe_sum]

/-- A power of two at a score scaled by `log₂ e`. -/
theorem exp2_scaled (y : ℝ) : Ideal.exp2 ((y * ((Real.log 2)⁻¹ * (Real.sqrt 128)⁻¹) : ℝ) : EReal) = ((Real.exp (y / Real.sqrt 128) : ℝ) : EReal) := by
  have h2 : Real.log 2 ≠ 0 := (Real.log_pos (by norm_num)).ne'
  rw [Ideal.exp2_coe]
  congr 1
  show (2 : ℝ) ^ (y * ((Real.log 2)⁻¹ * (Real.sqrt 128)⁻¹)) = _
  rw [Real.rpow_def_of_pos (by norm_num)]
  congr 1
  rw [mul_comm y, ← mul_assoc, ← mul_assoc, mul_inv_cancel₀ h2, one_mul, mul_comm, div_eq_mul_inv]

/-- Key `j` of chunk `t` of device `c`, among all keys. -/
def key (c t : Fin 8) (j : Fin 4096) : Fin 262144 := ⟨32768 * c.val + 4096 * t.val + j.val, by have := c.isLt; have := t.isLt; have := j.isLt; omega⟩

/-- A device, a chunk and a key of it name a key, and every key has one such name. -/
def keyEquiv : (Fin 8 × Fin 8) × Fin 4096 ≃ Fin 262144 where
  toFun p := key p.1.1 p.1.2 p.2
  invFun k := ((⟨k.val / 32768, by have := k.isLt; omega⟩, ⟨k.val / 4096 % 8, Nat.mod_lt _ (by decide)⟩), ⟨k.val % 4096, Nat.mod_lt _ (by decide)⟩)
  left_inv := by
    rintro ⟨⟨c, t⟩, j⟩
    have hc := c.isLt; have ht := t.isLt; have hj := j.isLt
    refine Prod.ext (Prod.ext (Fin.ext ?_) (Fin.ext ?_)) (Fin.ext ?_)
    · show (32768 * c.val + 4096 * t.val + j.val) / 32768 = c.val; omega
    · show (32768 * c.val + 4096 * t.val + j.val) / 4096 % 8 = t.val; omega
    · show (32768 * c.val + 4096 * t.val + j.val) % 4096 = j.val; omega
  right_inv := by
    intro k
    refine Fin.ext ?_
    show 32768 * (k.val / 32768) + 4096 * (k.val / 4096 % 8) + k.val % 4096 = k.val
    omega

/-- The sum over all keys, device after device and chunk after chunk. -/
theorem sum_keys {β : Type*} [AddCommMonoid β] (f : Fin 262144 → β) : ∑ c : Fin 8, ∑ t : Fin 8, ∑ j : Fin 4096, f (key c t j) = ∑ k, f k := by
  rw [← Equiv.sum_comp keyEquiv f, Fintype.sum_prod_type, Fintype.sum_prod_type]
  rfl

/-- The fold of the maximum over a nonempty family of reals, begun at `-∞`, is a real. -/
theorem fold_max_real {ι : Type*} [Fintype ι] [Nonempty ι] (s : ι → ℝ) : ∃ m : ℝ, Finset.univ.fold max (⊥ : EReal) (fun j => (s j : EReal)) = (m : EReal) := by
  obtain ⟨i, -, hi⟩ := Finset.exists_mem_eq_sup (Finset.univ : Finset ι) Finset.univ_nonempty (fun j => (s j : EReal))
  exact ⟨s i, hi⟩

end Cert.Soft

end
-- ==== Proof.Total.lean ====
/-
# The sums over the devices and the result

The gathered accumulator is the sum of the devices' accumulators; the result is the attention over all keys, written
here with unshifted exponentials.
-/
module

public import proofs.«01_k».proof.Proof.Sums
public import proofs.«01_k».proof.Proof.Soft

@[expose] public section

noncomputable section

namespace Cert.KValue

open Cert.KernelIdeal Cert.KernelIdeal.Gen
open Cert.KProof hiding ix2
open Idealize.ShloMosaic
open Idealize.ShloMosaic.VecWindow

set_option maxRecDepth 16384

/-- A device and the seven behind it are all eight. -/
theorem sum_ring (f : Fin 8 → EReal) (c : Fin 8) : f c + f (bwd c 0) + f (bwd c 1) + f (bwd c 2) + f (bwd c 3) + f (bwd c 4) + f (bwd c 5) + f (bwd c 6) = ∑ x, f x := by
  have h1 : (Finset.univ : Finset (Fin 8)) = insert c (Finset.univ.image fun k : Fin 7 => (bwd c k : Fin 8)) := by revert c; decide
  have h2 : c ∉ Finset.univ.image fun k : Fin 7 => (bwd c k : Fin 8) := by revert c; decide
  have h3 : ∀ k k' : Fin 7, (bwd c k : Fin 8) = bwd c k' → k = k' := by revert c; decide
  rw [h1, Finset.sum_insert h2, Finset.sum_image fun k _ k' _ h => h3 k k' h]
  simp only [Fin.sum_univ_succ, Finset.univ_eq_empty, Finset.sum_empty, add_zero, add_assoc]
  rfl

variable (A : Dev nD → Args Ideal)

theorem slabV_at (a : Args Ideal) (d : Fin 8) (i : Fin 136) (l : Fin 128) (r : Fin 1088) (hr : r.val = 136 * d.val + i.val) : slabV a d (ix2 i l) = accF a (ix2 r l) := by
  unfold slabV
  exact win_at (accF a) _ i l r l hr (Nat.zero_add _).symm

theorem rsV_at (c : Dev nD) (k : Fin 7) (i : Fin 136) (l : Fin 128) : rsV A c k (ix3 0 i l) = slabV (A (bwd c k)) c (ix2 i l) := by
  unfold rsV
  exact unsq_at _ i l

/-- A slab of sums over the devices. -/
theorem redV_at (c : Fin 8) (i : Fin 136) (l : Fin 128) : redV A c (ix2 i l) = ∑ x : Fin 8, slabV (A x) c (ix2 i l) := by
  unfold redV
  rw [pay26_at, pay25_at, pay24_at, pay23_at]
  simp only [rsV_at]
  exact sum_ring (fun x => slabV (A x) c (ix2 i l)) c

/-- The gathered accumulator: the sum of the devices' accumulators. -/
theorem gatV_at (r : Fin 1088) (l : Fin 128) : gatV A (ix2 r l) = ∑ x : Fin 8, accF (A x) (ix2 r l) := by
  have hr : r.val / 136 < 8 := by have := r.isLt; omega
  have h : gatV A (ix2 r l) = redV A ⟨r.val / 136, hr⟩ (ix2 ⟨r.val % 136, Nat.mod_lt _ (by decide)⟩ l) := congrArg (redV A _) (ix2_eq _ _)
  rw [h, redV_at]
  refine Finset.sum_congr rfl fun x _ => slabV_at (A x) _ _ l r ?_
  show r.val = 136 * (r.val / 136) + r.val % 136
  omega

/-- The normalised rows. -/
theorem tV_at (i : Fin 128) (e : Fin 1024) :
    tV A (ix2 i e) = Ideal.div (∑ x : Fin 8, accF (A x) (ix2 ⟨128 * (e.val / 128) + i.val, by have := e.isLt; have := i.isLt; omega⟩ ⟨e.val % 128, Nat.mod_lt _ (by decide)⟩))
      (∑ x : Fin 8, accF (A x) (ix2 ⟨1024 + e.val / 128, by have := e.isLt; omega⟩ i)) := by
  have he : e.val / 128 < 8 := by have := e.isLt; omega
  have h : tV A (ix2 i e) = tBlk A ⟨e.val / 128, he⟩ (ix2 i ⟨e.val % 128, Nat.mod_lt _ (by decide)⟩) := congrArg (tBlk A _) (ix2_eq _ _)
  rw [h]
  unfold tBlk
  rw [pay36_at, ← gatV_at, ← gatV_at]
  exact congrArg₂ Ideal.div (win_at (gatV A) _ _ _ _ _ rfl (Nat.zero_add _).symm) (win_at (gatV A) _ 0 i _ i rfl (Nat.zero_add _).symm)

/-- The result. -/
theorem outV_at (c : Dev nD) (i : Fin 128) (n : Fin 1024) : outV A c (ix3 0 i n) = ∑ e : Fin 1024, tV A (ix2 i e) * (A c).wo (ix2 e n) := by
  unfold outV
  rw [pay2_at]

/-! ## Over arrays of reals -/

/-- The score of query row `r` against key `k` in the row's own group of keys, over all keys. -/
def score (x : Fin 128 → Fin 1024 → ℝ) (w : Fin 1024 → Fin 1024 → ℝ) (K : Fin 262144 → Fin 2 → Fin 128 → ℝ) (h : Fin 8) (i : Fin 128) (k : Fin 262144) : ℝ :=
  (∑ d : Fin 128, (∑ e : Fin 1024, x i e * w e ⟨128 * h.val + d.val, by have := h.isLt; have := d.isLt; omega⟩) * K k ⟨h.val / 4, by have := h.isLt; omega⟩ d) / Real.sqrt 128

/-- What the devices' arrays hold: the hidden states and the weights alike, each its own block of the keys and values. -/
structure Holds (x : Fin 128 → Fin 1024 → ℝ) (w : Fin 1024 → Fin 1024 → ℝ) (K : Fin 262144 → Fin 2 → Fin 128 → ℝ) (V : Fin 262144 → Fin 2 → Fin 128 → EReal)
    (wo : Fin 1024 → Fin 1024 → EReal) : Prop where
  x : ∀ c i e, (A c).x (ix3 0 i e) = (x i e : EReal)
  wq : ∀ c i e, (A c).wq (ix2 i e) = (w i e : EReal)
  k : ∀ (c : Fin 8) (t : Fin 8) (j : Fin 4096) g d, (A c).k (ix4 0 ⟨4096 * t.val + j.val, by have := t.isLt; have := j.isLt; omega⟩ g d) = (K (Soft.key c t j) g d : EReal)
  v : ∀ (c : Fin 8) (t : Fin 8) (j : Fin 4096) g d, (A c).v (ix4 0 ⟨4096 * t.val + j.val, by have := t.isLt; have := j.isLt; omega⟩ g d) = V (Soft.key c t j) g d
  wo : ∀ c i e, (A c).wo (ix2 i e) = wo i e

section Real

variable {A} {x : Fin 128 → Fin 1024 → ℝ} {w : Fin 1024 → Fin 1024 → ℝ} {K : Fin 262144 → Fin 2 → Fin 128 → ℝ} {V : Fin 262144 → Fin 2 → Fin 128 → EReal}
  {wo : Fin 1024 → Fin 1024 → EReal} (H : Holds A x w K V wo)

include H in
/-- The scores of real arrays are real, and their powers of two are the exponentials of the reference's scores. -/
theorem exp2_sc (c t : Fin 8) (h : Fin 8) (i : Fin 128) (r : Fin 1024) (hr : r.val = 128 * h.val + i.val) (j : Fin 4096) :
    Ideal.exp2 (sc (A c) t r j) = (Real.exp (score x w K h i (Soft.key c t j)) : EReal) := by
  have hi := i.isLt
  have h1 : (⟨r.val % 128, Nat.mod_lt _ (by decide)⟩ : Fin 128) = i := Fin.ext (by show r.val % 128 = i.val; omega)
  have h3 : (⟨r.val / 512, by have := r.isLt; omega⟩ : Fin 2) = ⟨h.val / 4, by have := h.isLt; omega⟩ := Fin.ext (by show r.val / 512 = h.val / 4; omega)
  have hs : sc (A c) t r j = (((∑ d : Fin 128, (∑ e : Fin 1024, x i e * w e ⟨128 * h.val + d.val, by have := h.isLt; have := d.isLt; omega⟩)
      * K (Soft.key c t j) ⟨h.val / 4, by have := h.isLt; omega⟩ d) * ((Real.log 2)⁻¹ * (Real.sqrt 128)⁻¹) : ℝ) : EReal) := by
    unfold sc
    rw [Finset.sum_mul, Soft.coe_sum]
    refine Finset.sum_congr rfl fun d _ => ?_
    have h2 : (⟨128 * (r.val / 128) + d.val, by have := r.isLt; have := d.isLt; omega⟩ : Fin 1024) = ⟨128 * h.val + d.val, by have := h.isLt; have := d.isLt; omega⟩ :=
      Fin.ext (by show 128 * (r.val / 128) + d.val = 128 * h.val + d.val; omega)
    rw [qV_at, H.k, h1, h2, h3]
    simp only [H.x, H.wq, ← EReal.coe_mul]
    rw [← Soft.coe_sum, ← EReal.coe_mul, ← EReal.coe_mul]
    refine congrArg _ ?_
    unfold kap
    ring
  rw [hs, Soft.exp2_scaled]
  rfl

include H in
theorem acc_total (h : Fin 8) (i d : Fin 128) (r : Fin 1088) (hr : r.val = 128 * h.val + i.val) :
    ∑ c : Fin 8, accF (A c) (ix2 r d) = ∑ k : Fin 262144, (Real.exp (score x w K h i k) : EReal) * V k ⟨h.val / 4, by have := h.isLt; omega⟩ d := by
  have hlt : r.val < 1024 := by have := h.isLt; have := i.isLt; omega
  have hi := i.isLt
  have h3 : (⟨r.val / 512, by omega⟩ : Fin 2) = ⟨h.val / 4, by have := h.isLt; omega⟩ := Fin.ext (by show r.val / 512 = h.val / 4; omega)
  rw [← Soft.sum_keys]
  refine Finset.sum_congr rfl fun c _ => (accF_acc (A c) ⟨r.val, hlt⟩ d).trans ?_
  refine Finset.sum_congr rfl fun t _ => Finset.sum_congr rfl fun j _ => ?_
  rw [exp2_sc H c t h i ⟨r.val, hlt⟩ hr j, H.v, h3]

include H in
theorem row_total (h : Fin 8) (i : Fin 128) (r : Fin 1088) (hr : r.val = 1024 + h.val) :
    ∑ c : Fin 8, accF (A c) (ix2 r i) = ∑ k : Fin 262144, (Real.exp (score x w K h i k) : EReal) := by
  have he : r = ⟨1024 + h.val, by have := h.isLt; omega⟩ := Fin.ext hr
  rw [← Soft.sum_keys, he]
  refine Finset.sum_congr rfl fun c _ => (accF_row (A c) h i).trans ?_
  refine Finset.sum_congr rfl fun t _ => Finset.sum_congr rfl fun j _ => ?_
  rw [exp2_sc H c t h i _ rfl j]

/-- The attention's result at row `i` and column `n`. -/
def attention (x : Fin 128 → Fin 1024 → ℝ) (w : Fin 1024 → Fin 1024 → ℝ) (K : Fin 262144 → Fin 2 → Fin 128 → ℝ) (V : Fin 262144 → Fin 2 → Fin 128 → EReal)
    (wo : Fin 1024 → Fin 1024 → EReal) (i : Fin 128) (n : Fin 1024) : EReal :=
  ∑ e : Fin 1024, Ideal.div
    (∑ k : Fin 262144, (Real.exp (score x w K ⟨e.val / 128, by have := e.isLt; omega⟩ i k) : EReal) * V k ⟨e.val / 128 / 4, by have := e.isLt; omega⟩ ⟨e.val % 128, Nat.mod_lt _ (by decide)⟩)
    (∑ k : Fin 262144, (Real.exp (score x w K ⟨e.val / 128, by have := e.isLt; omega⟩ i k) : EReal)) * wo e n

include H in
/-- Every device's result is the attention of the whole arrays. -/
theorem outV_eq (c : Dev nD) (i : Fin 128) (n : Fin 1024) : outV A c (ix3 0 i n) = attention x w K V wo i n := by
  rw [outV_at]
  refine Finset.sum_congr rfl fun e _ => ?_
  rw [tV_at, H.wo, acc_total H ⟨e.val / 128, by have := e.isLt; omega⟩ i _ _ rfl, row_total H ⟨e.val / 128, by have := e.isLt; omega⟩ i _ rfl]

end Real

end Cert.KValue

end
-- ==== Proof.RefValue.lean ====
/-
# The reference, at an index

The reference's result as one expression of its five arrays, and its value at an index over the extended reals when the
hidden states, the query weights and the keys are real: the attention of the whole arrays.
-/
module

public import Idealize.ShloMosaic.Lib.Pointwise
public import proofs.«01_k».proof.Proof.Gen.ReferenceIdeal
public import proofs.«01_k».proof.Proof.Total

@[expose] public section

noncomputable section

namespace Cert.RValue

open Cert.ReferenceIdeal Cert.ReferenceIdeal.Gen
open Idealize.ShloMosaic
open Cert.ReferenceIdeal.Facts

set_option maxRecDepth 16384

/-- The constant 128. -/
theorem const_128 : Ideal.ofBits .f32 0x43000000#32 = ((128 : ℝ) : EReal) := by
  simp [Ideal.ofBits, Ideal.ieee, -EReal.coe_mul]
  norm_num

/-- The constant `-∞`. -/
theorem const_ninf : Ideal.ofBits .f32 0xFF800000#32 = (⊥ : EReal) := by
  simp [Ideal.ofBits, Ideal.ieee]

/-- The queries, head by head. -/
def qR (x : FVec Ideal S1x128x1024 .f32) (w : FVec Ideal S1024x1024 .f32) : FVec Ideal S1x128x8x128 .f32 :=
  shapeCast _ (Host.dotGeneral dot_S1x128x1024_S1024x1024_S1x128x1024_2_0_01_1_n_n none x w) shapeCasts_S1x128x1024_S1x128x8x128

/-- Keys or values, each group's copied to its four heads. -/
def repR (K : FVec Ideal S1x262144x2x128 .f32) : FVec Ideal S1x262144x8x128 .f32 :=
  shapeCast _ (broadcastInDim S1x262144x2x4x128 ![0, 1, 2, 4] bcast_S1x262144x2x128_S1x262144x2x4x128_0_1_2_4 K) shapeCasts_S1x262144x2x4x128_S1x262144x8x128

/-- The scores. -/
def sR (q : FVec Ideal S1x128x8x128 .f32) (k : FVec Ideal S1x262144x8x128 .f32) : FVec Ideal S1x8x128x262144 .f32 :=
  Host.divf (Host.dotGeneral dot_S1x128x8x128_S1x262144x8x128_S1x8x128x262144_3_3_1_1_02_02 none q k)
    (broadcastInDim S1x8x128x262144 ![] bcast_S_S1x8x128x262144 (Host.sqrt (constant S_ .f32 0x43000000#32)))

/-- The rows' largest scores. -/
def mR (s : FVec Ideal S1x8x128x262144 .f32) : FVec Ideal S1x8x128 .f32 :=
  Host.reduce FloatOps.maximumf s (constant S_ .f32 0xFF800000#32) reducesTo_S1x8x128x262144_S1x8x128_d3 h_S_

/-- The weights. -/
def pR (s : FVec Ideal S1x8x128x262144 .f32) : FVec Ideal S1x8x128x262144 .f32 :=
  Host.exp (subf s (broadcastInDim S1x8x128x262144 ![0, 1, 2, 3] bcast_S1x8x128x1_S1x8x128x262144_0_1_2_3 (broadcastInDim S1x8x128x1 ![0, 1, 2] bcast_S1x8x128_S1x8x128x1_0_1_2 (mR s))))

/-- The weighted means, head by head. -/
def oR (v : FVec Ideal S1x262144x8x128 .f32) (p : FVec Ideal S1x8x128x262144 .f32) : FVec Ideal S1x128x8x128 .f32 :=
  Host.divf (transpose S1x128x8x128 [0, 3, 1, 2] (Host.dotGeneral dot_S1x262144x8x128_S1x8x128x262144_S1x8x128x128_1_3_3_2_02_01 none v p) transposes_S1x8x128x128_S1x128x8x128_0_3_1_2)
    (broadcastInDim S1x128x8x128 ![0, 1, 2, 3] bcast_S1x128x8x1_S1x128x8x128_0_1_2_3 (transpose S1x128x8x1 [0, 2, 1, 3] (broadcastInDim S1x8x128x1 ![0, 1, 2] bcast_S1x8x128_S1x8x128x1_0_1_2
      (Host.reduceAdd p (constant S_ .f32 0x00000000#32) reducesTo_S1x8x128x262144_S1x8x128_d3 h_S_)) transposes_S1x8x128x1_S1x128x8x1_0_2_1_3))

/-- The result. -/
def outR (x : FVec Ideal S1x128x1024 .f32) (w : FVec Ideal S1024x1024 .f32) (K V : FVec Ideal S1x262144x2x128 .f32) (wo : FVec Ideal S1024x1024 .f32) : FVec Ideal S1x128x1024 .f32 :=
  Host.dotGeneral dot_S1x128x1024_S1024x1024_S1x128x1024_2_0_01_1_n_n none (shapeCast _ (oR (repR V) (pR (sR (qR x w) (repR K)))) shapeCasts_S1x128x8x128_S1x128x1024) wo

theorem qR_at (x : S1x128x1024.Idx → EReal) (w : S1024x1024.Idx → EReal) (i : Fin 128) (h : Fin 8) (d : Fin 128) :
    qR x w (ix4 0 i h d) = ∑ e : Fin 1024, x (ix3 0 i e) * w (ix2 e ⟨128 * h.val + d.val, by have := h.isLt; have := d.isLt; omega⟩) := by
  unfold qR
  pointwise
  simp only [Nat.mul_comm]

theorem repR_at (K : S1x262144x2x128.Idx → EReal) (k : Fin 262144) (h : Fin 8) (d : Fin 128) :
    repR K (ix4 0 k h d) = K (ix4 0 k ⟨h.val / 4, by have := h.isLt; omega⟩ d) := by
  unfold repR
  pointwise

theorem sR_at (q : S1x128x8x128.Idx → EReal) (k : S1x262144x8x128.Idx → EReal) (h : Fin 8) (i : Fin 128) (j : Fin 262144) :
    sR q k (ix4 0 h i j) = Ideal.div (∑ d : Fin 128, q (ix4 0 i h d) * k (ix4 0 j h d)) ((Real.sqrt 128 : ℝ) : EReal) := by
  unfold sR
  pointwise
  rw [const_128, Ideal.sqrt_coe, if_neg (by norm_num)]

theorem mR_at (s : S1x8x128x262144.Idx → EReal) (h : Fin 8) (i : Fin 128) :
    mR s (ix3 0 h i) = Finset.univ.fold max ⊥ (fun j : Fin 262144 => s (ix4 0 h i j)) := by
  unfold mR
  pointwise
  rw [const_ninf]

theorem pR_at (s : S1x8x128x262144.Idx → EReal) (h : Fin 8) (i : Fin 128) (j : Fin 262144) :
    pR s (ix4 0 h i j) = Ideal.exp (s (ix4 0 h i j) - mR s (ix3 0 h i)) := by
  unfold pR
  pointwise

theorem oR_at (v : S1x262144x8x128.Idx → EReal) (p : S1x8x128x262144.Idx → EReal) (i : Fin 128) (h : Fin 8) (d : Fin 128) :
    oR v p (ix4 0 i h d) = Ideal.div (∑ k : Fin 262144, p (ix4 0 h i k) * v (ix4 0 k h d)) (∑ k : Fin 262144, p (ix4 0 h i k)) := by
  simp only [mul_comm (p _)]
  unfold oR
  pointwise

theorem outR_at (x : S1x128x1024.Idx → EReal) (w : S1024x1024.Idx → EReal) (K V : S1x262144x2x128.Idx → EReal) (wo : S1024x1024.Idx → EReal) (i : Fin 128) (n : Fin 1024) :
    outR x w K V wo (ix3 0 i n) = ∑ e : Fin 1024, oR (repR V) (pR (sR (qR x w) (repR K))) (ix4 0 i ⟨e.val / 128, by have := e.isLt; omega⟩ ⟨e.val % 128, Nat.mod_lt _ (by decide)⟩) * wo (ix2 e n) := by
  unfold outR
  pointwise

/-! ## Over arrays of reals -/

section Real

variable {x : S1x128x1024.Idx → EReal} {w : S1024x1024.Idx → EReal} {K V : S1x262144x2x128.Idx → EReal} {wo : S1024x1024.Idx → EReal}
  {xr : Fin 128 → Fin 1024 → ℝ} {wr : Fin 1024 → Fin 1024 → ℝ} {Kr : Fin 262144 → Fin 2 → Fin 128 → ℝ}
  (hx : ∀ i e, x (ix3 0 i e) = (xr i e : EReal)) (hw : ∀ i e, w (ix2 i e) = (wr i e : EReal)) (hK : ∀ k g d, K (ix4 0 k g d) = (Kr k g d : EReal))

include hx hw hK in
/-- The scores of real arrays are real. -/
theorem sR_real (h : Fin 8) (i : Fin 128) (j : Fin 262144) : sR (qR x w) (repR K) (ix4 0 h i j) = (KValue.score xr wr Kr h i j : EReal) := by
  have h128 : Real.sqrt 128 ≠ 0 := (Real.sqrt_pos.mpr (by norm_num)).ne'
  rw [sR_at, Ideal.div_coe h128]
  unfold KValue.score
  rw [div_eq_mul_one_div (∑ d : Fin 128, _) (Real.sqrt 128), EReal.coe_mul, Soft.coe_sum]
  refine congrArg (· * _) (Finset.sum_congr rfl fun d _ => ?_)
  rw [qR_at, repR_at, hK, EReal.coe_mul, Soft.coe_sum]
  refine congrArg (· * _) (Finset.sum_congr rfl fun e _ => ?_)
  rw [hx, hw, EReal.coe_mul]

include hx hw hK in
/-- A head's weighted mean is the one with unshifted exponentials. -/
theorem oR_real (i : Fin 128) (h : Fin 8) (d : Fin 128) :
    oR (repR V) (pR (sR (qR x w) (repR K))) (ix4 0 i h d)
      = Ideal.div (∑ k : Fin 262144, (Real.exp (KValue.score xr wr Kr h i k) : EReal) * V (ix4 0 k ⟨h.val / 4, by have := h.isLt; omega⟩ d))
          (∑ k : Fin 262144, (Real.exp (KValue.score xr wr Kr h i k) : EReal)) := by
  obtain ⟨m, hm⟩ := Soft.fold_max_real (fun k : Fin 262144 => KValue.score xr wr Kr h i k)
  have hM : mR (sR (qR x w) (repR K)) (ix3 0 h i) = (m : EReal) := by
    rw [mR_at]
    simp only [sR_real hx hw hK]
    exact hm
  have hp : ∀ k, pR (sR (qR x w) (repR K)) (ix4 0 h i k) = (Real.exp (KValue.score xr wr Kr h i k - m) : EReal) := fun k => by
    rw [pR_at, hM, sR_real hx hw hK, ← EReal.coe_sub, Ideal.exp_coe]
  rw [oR_at]
  simp only [hp, repR_at]
  exact Soft.softmax_shift _ _ _

include hx hw hK in
/-- The reference's result is the attention of the whole arrays. -/
theorem outR_eq (i : Fin 128) (n : Fin 1024) :
    outR x w K V wo (ix3 0 i n) = KValue.attention xr wr Kr (fun k g d => V (ix4 0 k g d)) (fun e n => wo (ix2 e n)) i n := by
  rw [outR_at]
  unfold KValue.attention
  refine Finset.sum_congr rfl fun e _ => ?_
  rw [oR_real hx hw hK]

end Real

end Cert.RValue

end
-- ==== Proof.Finite.lean ====
/-
# The precondition

That the hidden states, the query weights and a device's keys are finite, as the claim's precondition computes it, makes
each of their entries a real.
-/
module

public import Idealize.ShloMosaic.Lib.Pointwise
public import Idealize.ShloMosaic.Lib.ReduceAll
public import proofs.«01_k».proof.Pre_finite_KernelIdeal
public import proofs.«01_k».proof.Pre_finite_ReferenceIdeal

@[expose] public section

noncomputable section

namespace Cert.Fin8

open Idealize.ShloMosaic

/-- The side conditions of the precondition over one device's blocks. -/
theorem facts_kernel : Cert.Pre_finite_KernelIdeal.Facts where
  bcast_S_S1x128x1024 := by decide
  reducesTo_S1x128x1024_S_d0_1_2 := by decide
  h_S_ := by decide
  bcast_S_S1024x1024 := by decide
  reducesTo_S1024x1024_S_d0_1 := by decide
  bcast_S_S1x32768x2x128 := by decide
  reducesTo_S1x32768x2x128_S_d0_1_2_3 := by decide

/-- The side conditions of the precondition over the whole arrays. -/
theorem facts_reference : Cert.Pre_finite_ReferenceIdeal.Facts where
  bcast_S_S1x128x1024 := by decide
  reducesTo_S1x128x1024_S_d0_1_2 := by decide
  h_S_ := by decide
  bcast_S_S1024x1024 := by decide
  reducesTo_S1024x1024_S_d0_1 := by decide
  bcast_S_S1x262144x2x128 := by decide
  reducesTo_S1x262144x2x128_S_d0_1_2_3 := by decide

/-- The constant `+∞`. -/
theorem const_pinf : Ideal.ofBits .f32 0x7F800000#32 = (⊤ : EReal) := by
  simp [Ideal.ofBits, Ideal.ieee]

/-- An extended real whose magnitude is below `+∞` is a real. -/
theorem real_of_lt (y : EReal) (h : FloatOps.cmpf (F := Ideal) (φ := .f32) .olt (FloatOps.absf (F := Ideal) (φ := .f32) y) (Ideal.ofBits .f32 0x7F800000#32) = 1#1) :
    ∃ r : ℝ, y = (r : EReal) := by
  rw [const_pinf] at h
  induction y with
  | bot => exact absurd h (by simp [FloatOps.cmpf, FloatOps.absf, Ideal.cmp])
  | top => exact absurd h (by simp [FloatOps.cmpf, FloatOps.absf, Ideal.cmp])
  | coe r => exact ⟨r, rfl⟩

theorem and_one (a b : BitVec 1) (h : a &&& b = 1#1) : a = 1#1 ∧ b = 1#1 := by revert a b; decide

open Cert.Pre_finite_KernelIdeal in
/-- The precondition at one device. -/
theorem reals (x : FVec Ideal S1x128x1024 .f32) (w : FVec Ideal S1024x1024 .f32) (K V : FVec Ideal S1x32768x2x128 .f32) (wo : FVec Ideal S1024x1024 .f32)
    (h : @Cert.Pre_finite_KernelIdeal.fn facts_kernel Ideal _ x w K V wo = fun _ => 1#1) :
    (∀ i, ∃ r : ℝ, x i = (r : EReal)) ∧ (∀ i, ∃ r : ℝ, w i = (r : EReal)) ∧ ∀ i, ∃ r : ℝ, K i = (r : EReal) := by
  haveI := facts_kernel
  have h0 := congrFun h ix0
  dsimp only [Cert.Pre_finite_KernelIdeal.fn] at h0
  obtain ⟨h1, hk⟩ := and_one _ _ h0
  obtain ⟨hx, hw⟩ := and_one _ _ h1
  refine ⟨fun i => real_of_lt _ ?_, fun i => real_of_lt _ ?_, fun i => real_of_lt _ ?_⟩
  · exact Host.reduce_andi_all _ _ _ _ _ hx i
  · exact Host.reduce_andi_all _ _ _ _ _ hw i
  · exact Host.reduce_andi_all _ _ _ _ _ hk i

end Cert.Fin8

end
-- ==== Proof.Algebraic.lean ====
/-
# The result is the reference's

From memories that hold one attention's arrays, the hidden states, the query weights and the keys finite: the kernel's
result on every device is the reference's result.
-/
module

public import proofs.«01_k».proof.Defs
public import proofs.«01_k».proof.Proof.Frames
public import proofs.«01_k».proof.Proof.RefValue
public import proofs.«01_k».proof.Proof.Finite
public import proofs.«01_k».proof.Proof.Gen.ReferenceIdeal.Run
public import Idealize.ShloMosaic.Lib.Layout

@[expose] public section

noncomputable section

namespace Cert.AValue

open Idealize.ShloMosaic Idealize.SL.Sem

set_option maxRecDepth 16384

abbrev SBlk : Shape := ⟨4, ![1, 32768, 2, 128]⟩
abbrev SAll : Shape := ⟨4, ![1, 262144, 2, 128]⟩

/-- A device's block of the keys or values, at an index. -/
theorem block_at {β : Type} (v : SAll.Idx → β) (c : Fin 8) (h : Layout.Tiles SBlk SAll 1 8) (j : Fin 32768) (g : Fin 2) (d : Fin 128) :
    Layout.block SBlk SAll 1 8 c v h (ix4 0 j g d) = v (ix4 0 ⟨32768 * c.val + j.val, by have := c.isLt; have := j.isLt; omega⟩ g d) := by
  rw [Layout.block_apply]
  refine congrArg v (funext fun b => Fin.ext ?_)
  rw [Layout.Tiles.idx_val]
  fin_cases b
  · rfl
  · show c.val * 32768 + j.val = 32768 * c.val + j.val; omega
  · rfl
  · rfl

/-- The kernel's result on every device is the reference's, over arrays that the precondition holds of. -/
theorem out_eq (A : Dev Cert.KernelIdeal.nD → KProof.Args Ideal) (x : FVec Ideal Cert.ReferenceIdeal.S1x128x1024 .f32) (w wo : FVec Ideal Cert.ReferenceIdeal.S1024x1024 .f32)
    (K V : FVec Ideal Cert.ReferenceIdeal.S1x262144x2x128 .f32)
    (hp : ∀ c, @Cert.Pre_finite_KernelIdeal.fn Fin8.facts_kernel Ideal _ (A c).x (A c).wq (A c).k (A c).v (A c).wo = fun _ => 1#1)
    (hx : ∀ c, (A c).x = x) (hw : ∀ c, (A c).wq = w) (hK : ∀ c, (A c).k = Layout.block SBlk SAll 1 8 c K) (hV : ∀ c, (A c).v = Layout.block SBlk SAll 1 8 c V)
    (hwo : ∀ c, (A c).wo = wo) (c : Dev Cert.KernelIdeal.nD) : KProof.outV A c = RValue.outR x w K V wo := by
  have hr := fun c => Fin8.reals _ _ _ _ _ (hp c)
  have rx : ∀ (i : Fin 128) (e : Fin 1024), ∃ r : ℝ, x (ix3 0 i e) = (r : EReal) := fun i e => by
    obtain ⟨r, h⟩ := (hr c).1 (ix3 0 i e)
    exact ⟨r, by rw [← hx c]; exact h⟩
  have rw' : ∀ (i e : Fin 1024), ∃ r : ℝ, w (ix2 i e) = (r : EReal) := fun i e => by
    obtain ⟨r, h⟩ := (hr c).2.1 (ix2 i e)
    exact ⟨r, by rw [← hw c]; exact h⟩
  have rK : ∀ (k : Fin 262144) (g : Fin 2) (d : Fin 128), ∃ r : ℝ, K (ix4 0 k g d) = (r : EReal) := fun k g d => by
    have hk := k.isLt
    obtain ⟨r, h⟩ := (hr (⟨k.val / 32768, by omega⟩ : Fin 8)).2.2 (ix4 0 ⟨k.val % 32768, Nat.mod_lt _ (by decide)⟩ g d)
    rw [hK, block_at] at h
    have he : (⟨32768 * (k.val / 32768) + k.val % 32768, by omega⟩ : Fin 262144) = k := Fin.ext (by show 32768 * (k.val / 32768) + k.val % 32768 = k.val; omega)
    exact ⟨r, by rw [← he]; exact h⟩
  choose xr hxr using rx
  choose wr hwr using rw'
  choose Kr hKr using rK
  have key_eq : ∀ (c t : Fin 8) (j : Fin 4096) (h : 32768 * c.val + (4096 * t.val + j.val) < 262144), (⟨32768 * c.val + (4096 * t.val + j.val), h⟩ : Fin 262144) = Soft.key c t j :=
    fun c t j h => Fin.ext (Nat.add_assoc _ _ _).symm
  have H : KValue.Holds A xr wr Kr (fun k g d => V (ix4 0 k g d)) (fun e n => wo (ix2 e n)) :=
    { x := fun c i e => by rw [hx]; exact hxr i e
      wq := fun c i e => by rw [hw]; exact hwr i e
      k := fun c t j g d => by rw [hK, block_at, key_eq]; exact hKr _ g d
      v := fun c t j g d => by rw [hV, block_at, key_eq]
      wo := fun c i e => by rw [hwo] }
  funext y
  obtain ⟨y0, i, n, rfl⟩ : ∃ (y0 : Fin 1) (i : Fin 128) (n : Fin 1024), y = ix3 y0 i n := ⟨y 0, y 1, y 2, eq_ix3 y⟩
  obtain rfl : y0 = 0 := Subsingleton.elim _ _
  rw [KValue.outV_eq H, RValue.outR_eq hxr hwr hKr]

theorem algebraic : @Cert.algebraic_KernelIdeal_ReferenceIdeal_pre_finite_KernelIdeal Cert.KernelIdeal.Gen.facts Cert.ReferenceIdeal.Gen.facts Fin8.facts_kernel := by
  intro m g m' g' hp hm
  refine ⟨RValue.outR (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨(h.1 c).1.trans ?_, (h.1 c).2⟩) (KProof.run_main (F := Ideal) m g)
    exact out_eq (KProof.argsAll m) _ _ _ _ _ hp (fun c => (hm c).1) (fun c => (hm c).2.1) (fun c => (hm c).2.2.1) (fun c => (hm c).2.2.2.1) (fun c => (hm c).2.2.2.2) c
  · exact (θ_run Cert.ReferenceIdeal.defs _ _).mono (fun r h => ⟨(h 0).1.trans rfl, (h 0).2⟩) (Cert.ReferenceIdeal.Value.run (F := Ideal) m' g')

end Cert.AValue

end
-- ==== Proof.lean ====
/-
# The certificate

The claims of `Cert.Claim`, each proved in its own module: the kernel's frames and the named constant in `Proof/Frames.lean`, over
the run of the program in `Proof/Run.lean`; the reference's frame here, over its generated run; the value in `Proof/Algebraic.lean`.
-/
module

public import proofs.«01_k».proof.Defs
public import proofs.«01_k».proof.Proof.Frames
public import proofs.«01_k».proof.Proof.Algebraic
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs from any memory and changes none of its arguments. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every claim. The frames under the precondition are the frames without it. -/
theorem claim : Cert.Claim :=
  ⟨Cert.Kernel.Gen.facts, Cert.KernelIdeal.Gen.facts, Cert.ReferenceIdeal.Gen.facts, Cert.Fin8.facts_kernel, Cert.Fin8.facts_reference,
    Cert.KProof.frame_kernel, Cert.KProof.frame_ideal, fun m g _ => Cert.KProof.frame_ideal m g trivial, frame_reference,
    fun m g _ => frame_reference m g trivial, Cert.KProof.log2e_named, Cert.AValue.algebraic⟩

end Cert.Proof

end
